-- ==== Defs.lean ====
def Pre_Moe [hPre_moe_range : Cert.Pre_moe_range.Facts] (m : (ℓ : Loc Cert.Moe.nD Cert.Moe.τ Cert.Moe.sig) → Buf (Elt Bits) ℓ) : Prop :=
  ∀ c : Dev Cert.Moe.nD,
    (Cert.Pre_moe_range.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4)) (m ((c.tc : Thread Cert.Moe.nD Cert.Moe.τ).loc Cert.Moe.main_arg5))) = (fun _ => 1#1)

def Pre_MoeIdeal [hPre_moe_range : Cert.Pre_moe_range.Facts] (m : (ℓ : Loc Cert.MoeIdeal.nD Cert.MoeIdeal.τ Cert.MoeIdeal.sig) → Buf (Elt Ideal) ℓ) : Prop :=
  ∀ c : Dev Cert.MoeIdeal.nD,
    (Cert.Pre_moe_range.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4)) (m ((c.tc : Thread Cert.MoeIdeal.nD Cert.MoeIdeal.τ).loc Cert.MoeIdeal.main_arg5))) = (fun _ => 1#1)

def Pre_MoeRefIdeal (m : (ℓ : Loc Cert.MoeRefIdeal.nD Cert.MoeRefIdeal.τ Cert.MoeRefIdeal.sig) → Buf (Elt Ideal) ℓ) : Prop :=
  True

def Pre_MoeRefIdeal_moe_range [hPre_moe_range : Cert.Pre_moe_range.Facts] (m : (ℓ : Loc Cert.MoeRefIdeal.nD Cert.MoeRefIdeal.τ Cert.MoeRefIdeal.sig) → Buf (Elt Ideal) ℓ) : Prop :=
  ∀ c : Dev Cert.MoeRefIdeal.nD,
    (Cert.Pre_moe_range.fn (F := Ideal) (m ((c.tc : Thread Cert.MoeRefIdeal.nD Cert.MoeRefIdeal.τ).loc Cert.MoeRefIdeal.main_arg0)) (m ((c.tc : Thread Cert.MoeRefIdeal.nD Cert.MoeRefIdeal.τ).loc Cert.MoeRefIdeal.main_arg1)) (m ((c.tc : Thread Cert.MoeRefIdeal.nD Cert.MoeRefIdeal.τ).loc Cert.MoeRefIdeal.main_arg2)) (m ((c.tc : Thread Cert.MoeRefIdeal.nD Cert.MoeRefIdeal.τ).loc Cert.MoeRefIdeal.main_arg3)) (m ((c.tc : Thread Cert.MoeRefIdeal.nD Cert.MoeRefIdeal.τ).loc Cert.MoeRefIdeal.main_arg4)) (m ((c.tc : Thread Cert.MoeRefIdeal.nD Cert.MoeRefIdeal.τ).loc Cert.MoeRefIdeal.main_arg5))) = (fun _ => 1#1)

def Pre_InProj (m : (ℓ : Loc Cert.InProj.nD Cert.InProj.τ Cert.InProj.sig) → Buf (Elt Bits) ℓ) : Prop :=
  True

def Pre_InProjIdeal (m : (ℓ : Loc Cert.InProjIdeal.nD Cert.InProjIdeal.τ Cert.InProjIdeal.sig) → Buf (Elt Ideal) ℓ) : Prop :=
  True

def Pre_InProjRefIdeal (m : (ℓ : Loc Cert.InProjRefIdeal.nD Cert.InProjRefIdeal.τ Cert.InProjRefIdeal.sig) → Buf (Elt Ideal) ℓ) : Prop :=
  True

def Pre_QkPost (m : (ℓ : Loc Cert.QkPost.nD Cert.QkPost.τ Cert.QkPost.sig) → Buf (Elt Bits) ℓ) : Prop :=
  True

def Pre_QkPostIdeal (m : (ℓ : Loc Cert.QkPostIdeal.nD Cert.QkPostIdeal.τ Cert.QkPostIdeal.sig) → Buf (Elt Ideal) ℓ) : Prop :=
  True

def Pre_QkPostRefIdeal (m : (ℓ : Loc Cert.QkPostRefIdeal.nD Cert.QkPostRefIdeal.τ Cert.QkPostRefIdeal.sig) → Buf (Elt Ideal) ℓ) : Prop :=
  True

def Pre_Merge (m : (ℓ : Loc Cert.Merge.nD Cert.Merge.τ Cert.Merge.sig) → Buf (Elt Bits) ℓ) : Prop :=
  True

def Pre_MergeIdeal (m : (ℓ : Loc Cert.MergeIdeal.nD Cert.MergeIdeal.τ Cert.MergeIdeal.sig) → Buf (Elt Ideal) ℓ) : Prop :=
  True

def Pre_MergeRefIdeal (m : (ℓ : Loc Cert.MergeRefIdeal.nD Cert.MergeRefIdeal.τ Cert.MergeRefIdeal.sig) → Buf (Elt Ideal) ℓ) : Prop :=
  True

def Pre_OutProj (m : (ℓ : Loc Cert.OutProj.nD Cert.OutProj.τ Cert.OutProj.sig) → Buf (Elt Bits) ℓ) : Prop :=
  True

def Pre_OutProjIdeal (m : (ℓ : Loc Cert.OutProjIdeal.nD Cert.OutProjIdeal.τ Cert.OutProjIdeal.sig) → Buf (Elt Ideal) ℓ) : Prop :=
  True

def Pre_OutProjRefIdeal (m : (ℓ : Loc Cert.OutProjRefIdeal.nD Cert.OutProjRefIdeal.τ Cert.OutProjRefIdeal.sig) → Buf (Elt Ideal) ℓ) : Prop :=
  True

def Pre_Dsa1 (m : (ℓ : Loc Cert.Dsa1.nD Cert.Dsa1.τ Cert.Dsa1.sig) → Buf (Elt Bits) ℓ) : Prop :=
  True

def Pre_Dsa2 (m : (ℓ : Loc Cert.Dsa2.nD Cert.Dsa2.τ Cert.Dsa2.sig) → Buf (Elt Bits) ℓ) : Prop :=
  True

def Pre_Dsa3 (m : (ℓ : Loc Cert.Dsa3.nD Cert.Dsa3.τ Cert.Dsa3.sig) → Buf (Elt Bits) ℓ) : Prop :=
  True

def Pre_Dsa4 (m : (ℓ : Loc Cert.Dsa4.nD Cert.Dsa4.τ Cert.Dsa4.sig) → Buf (Elt Bits) ℓ) : Prop :=
  True

def Pre_DsaStep (m : (ℓ : Loc Cert.DsaStep.nD Cert.DsaStep.τ Cert.DsaStep.sig) → Buf (Elt Bits) ℓ) : Prop :=
  True

def quiescent_Moe [hMoe : Cert.Moe.Facts] [hPre_moe_range : Cert.Pre_moe_range.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4)
      ∧ r.2.mem ((c.tc : Thread Cert.Moe.nD Cert.Moe.τ).loc Cert.Moe.main_arg5) = m ((c.tc : Thread Cert.Moe.nD Cert.Moe.τ).loc Cert.Moe.main_arg5))
      ∧ r.2.sem = fun _ => 0)

def quiescent_MoeIdeal [hMoeIdeal : Cert.MoeIdeal.Facts] [hPre_moe_range : Cert.Pre_moe_range.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
      ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ r.2.sem = fun _ => 0)

def quiescent_MoeRefIdeal [hMoeRefIdeal : Cert.MoeRefIdeal.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_MoeRefIdeal_pre_moe_range [hMoeRefIdeal : Cert.MoeRefIdeal.Facts] [hPre_moe_range : Cert.Pre_moe_range.Facts] : Prop :=
  ∀ (m : (ℓ : Loc Cert.MoeRefIdeal.nD Cert.MoeRefIdeal.τ Cert.MoeRefIdeal.sig) → Buf (Elt Ideal) ℓ) (g : Dev Cert.MoeRefIdeal.nD → PrngReg), Pre_MoeRefIdeal_moe_range m →
    θ_run (Cert.MoeRefIdeal.defs (F := Ideal)) (onTc (τ := Cert.MoeRefIdeal.τ) (Cert.MoeRefIdeal.main (F := Ideal))) ⟨m, fun _ => 0, g⟩ (fun r => (∀ c : Dev Cert.MoeRefIdeal.nD,
      r.2.mem ((c.tc : Thread Cert.MoeRefIdeal.nD Cert.MoeRefIdeal.τ).loc Cert.MoeRefIdeal.main_arg0) = m ((c.tc : Thread Cert.MoeRefIdeal.nD Cert.MoeRefIdeal.τ).loc Cert.MoeRefIdeal.main_arg0)
      ∧ r.2.mem ((c.tc : Thread Cert.MoeRefIdeal.nD Cert.MoeRefIdeal.τ).loc Cert.MoeRefIdeal.main_arg1) = m ((c.tc : Thread Cert.MoeRefIdeal.nD Cert.MoeRefIdeal.τ).loc Cert.MoeRefIdeal.main_arg1)
      ∧ r.2.mem ((c.tc : Thread Cert.MoeRefIdeal.nD Cert.MoeRefIdeal.τ).loc Cert.MoeRefIdeal.main_arg2) = m ((c.tc : Thread Cert.MoeRefIdeal.nD Cert.MoeRefIdeal.τ).loc Cert.MoeRefIdeal.main_arg2)
      ∧ r.2.mem ((c.tc : Thread Cert.MoeRefIdeal.nD Cert.MoeRefIdeal.τ).loc Cert.MoeRefIdeal.main_arg3) = m ((c.tc : Thread Cert.MoeRefIdeal.nD Cert.MoeRefIdeal.τ).loc Cert.MoeRefIdeal.main_arg3)
      ∧ r.2.mem ((c.tc : Thread Cert.MoeRefIdeal.nD Cert.MoeRefIdeal.τ).loc Cert.MoeRefIdeal.main_arg4) = m ((c.tc : Thread Cert.MoeRefIdeal.nD Cert.MoeRefIdeal.τ).loc Cert.MoeRefIdeal.main_arg4)
      ∧ r.2.mem ((c.tc : Thread Cert.MoeRefIdeal.nD Cert.MoeRefIdeal.τ).loc Cert.MoeRefIdeal.main_arg5) = m ((c.tc : Thread Cert.MoeRefIdeal.nD Cert.MoeRefIdeal.τ).loc Cert.MoeRefIdeal.main_arg5))
      ∧ r.2.sem = fun _ => 0)

def quiescent_InProj [hInProj : Cert.InProj.Facts] : Prop :=
  ∀ (m : (ℓ : Loc Cert.InProj.nD Cert.InProj.τ Cert.InProj.sig) → Buf (Elt Bits) ℓ) (g : Dev Cert.InProj.nD → PrngReg), Pre_InProj m →
    θ_run (Cert.InProj.defs (F := Bits)) (onTc (τ := Cert.InProj.τ) (Cert.InProj.main (F := Bits))) ⟨m, fun _ => 0, g⟩ (fun r => (∀ c : Dev Cert.InProj.nD,
      r.2.mem ((c.tc : Thread Cert.InProj.nD Cert.InProj.τ).loc Cert.InProj.main_arg0) = m ((c.tc : Thread Cert.InProj.nD Cert.InProj.τ).loc Cert.InProj.main_arg0)
      ∧ r.2.mem ((c.tc : Thread Cert.InProj.nD Cert.InProj.τ).loc Cert.InProj.main_arg1) = m ((c.tc : Thread Cert.InProj.nD Cert.InProj.τ).loc Cert.InProj.main_arg1)
      ∧ r.2.mem ((c.tc : Thread Cert.InProj.nD Cert.InProj.τ).loc Cert.InProj.main_arg2) = m ((c.tc : Thread Cert.InProj.nD Cert.InProj.τ).loc Cert.InProj.main_arg2))
      ∧ r.2.sem = fun _ => 0)

def quiescent_InProjIdeal [hInProjIdeal : Cert.InProjIdeal.Facts] : Prop :=
  ∀ (m : (ℓ : Loc Cert.InProjIdeal.nD Cert.InProjIdeal.τ Cert.InProjIdeal.sig) → Buf (Elt Ideal) ℓ) (g : Dev Cert.InProjIdeal.nD → PrngReg), Pre_InProjIdeal m →
    θ_run (Cert.InProjIdeal.defs (F := Ideal)) (onTc (τ := Cert.InProjIdeal.τ) (Cert.InProjIdeal.main (F := Ideal))) ⟨m, fun _ => 0, g⟩ (fun r => (∀ c : Dev Cert.InProjIdeal.nD,
      r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
      ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
      ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ r.2.sem = fun _ => 0)

def quiescent_InProjRefIdeal [hInProjRefIdeal : Cert.InProjRefIdeal.Facts] : Prop :=
  ∀ (m : (ℓ : Loc Cert.InProjRefIdeal.nD Cert.InProjRefIdeal.τ Cert.InProjRefIdeal.sig) → Buf (Elt Ideal) ℓ) (g : Dev Cert.InProjRefIdeal.nD → PrngReg), Pre_InProjRefIdeal m →
    θ_run (Cert.InProjRefIdeal.defs (F := Ideal)) (onTc (τ := Cert.InProjRefIdeal.τ) (Cert.InProjRefIdeal.main (F := Ideal))) ⟨m, fun _ => 0, g⟩ (fun r => (∀ c : Dev Cert.InProjRefIdeal.nD,
      r.2.mem ((c.tc : Thread Cert.InProjRefIdeal.nD Cert.InProjRefIdeal.τ).loc Cert.InProjRefIdeal.main_arg0) = m ((c.tc : Thread Cert.InProjRefIdeal.nD Cert.InProjRefIdeal.τ).loc Cert.InProjRefIdeal.main_arg0)
      ∧ r.2.mem ((c.tc : Thread Cert.InProjRefIdeal.nD Cert.InProjRefIdeal.τ).loc Cert.InProjRefIdeal.main_arg1) = m ((c.tc : Thread Cert.InProjRefIdeal.nD Cert.InProjRefIdeal.τ).loc Cert.InProjRefIdeal.main_arg1)
      ∧ r.2.mem ((c.tc : Thread Cert.InProjRefIdeal.nD Cert.InProjRefIdeal.τ).loc Cert.InProjRefIdeal.main_arg2) = m ((c.tc : Thread Cert.InProjRefIdeal.nD Cert.InProjRefIdeal.τ).loc Cert.InProjRefIdeal.main_arg2))
      ∧ r.2.sem = fun _ => 0)

def quiescent_QkPost [hQkPost : Cert.QkPost.Facts] : Prop :=
  ∀ (m : (ℓ : Loc Cert.QkPost.nD Cert.QkPost.τ Cert.QkPost.sig) → Buf (Elt Bits) ℓ) (g : Dev Cert.QkPost.nD → PrngReg), Pre_QkPost m →
    θ_run (Cert.QkPost.defs (F := Bits)) (onTc (τ := Cert.QkPost.τ) (Cert.QkPost.main (F := Bits))) ⟨m, fun _ => 0, g⟩ (fun r => (∀ c : Dev Cert.QkPost.nD,
      r.2.mem ((c.tc : Thread Cert.QkPost.nD Cert.QkPost.τ).loc Cert.QkPost.main_arg0) = m ((c.tc : Thread Cert.QkPost.nD Cert.QkPost.τ).loc Cert.QkPost.main_arg0)
      ∧ r.2.mem ((c.tc : Thread Cert.QkPost.nD Cert.QkPost.τ).loc Cert.QkPost.main_arg1) = m ((c.tc : Thread Cert.QkPost.nD Cert.QkPost.τ).loc Cert.QkPost.main_arg1)
      ∧ r.2.mem ((c.tc : Thread Cert.QkPost.nD Cert.QkPost.τ).loc Cert.QkPost.main_arg2) = m ((c.tc : Thread Cert.QkPost.nD Cert.QkPost.τ).loc Cert.QkPost.main_arg2)
      ∧ r.2.mem ((c.tc : Thread Cert.QkPost.nD Cert.QkPost.τ).loc Cert.QkPost.main_arg3) = m ((c.tc : Thread Cert.QkPost.nD Cert.QkPost.τ).loc Cert.QkPost.main_arg3)
      ∧ r.2.mem ((c.tc : Thread Cert.QkPost.nD Cert.QkPost.τ).loc Cert.QkPost.main_arg4) = m ((c.tc : Thread Cert.QkPost.nD Cert.QkPost.τ).loc Cert.QkPost.main_arg4))
      ∧ r.2.sem = fun _ => 0)

def quiescent_QkPostIdeal [hQkPostIdeal : Cert.QkPostIdeal.Facts] : Prop :=
  ∀ (m : (ℓ : Loc Cert.QkPostIdeal.nD Cert.QkPostIdeal.τ Cert.QkPostIdeal.sig) → Buf (Elt Ideal) ℓ) (g : Dev Cert.QkPostIdeal.nD → PrngReg), Pre_QkPostIdeal m →
    θ_run (Cert.QkPostIdeal.defs (F := Ideal)) (onTc (τ := Cert.QkPostIdeal.τ) (Cert.QkPostIdeal.main (F := Ideal))) ⟨m, fun _ => 0, g⟩ (fun r => (∀ c : Dev Cert.QkPostIdeal.nD,
      r.2.mem ((c.tc : Thread Cert.QkPostIdeal.nD Cert.QkPostIdeal.τ).loc Cert.QkPostIdeal.main_arg0) = m ((c.tc : Thread Cert.QkPostIdeal.nD Cert.QkPostIdeal.τ).loc Cert.QkPostIdeal.main_arg0)
      ∧ r.2.mem ((c.tc : Thread Cert.QkPostIdeal.nD Cert.QkPostIdeal.τ).loc Cert.QkPostIdeal.main_arg1) = m ((c.tc : Thread Cert.QkPostIdeal.nD Cert.QkPostIdeal.τ).loc Cert.QkPostIdeal.main_arg1)
      ∧ r.2.mem ((c.tc : Thread Cert.QkPostIdeal.nD Cert.QkPostIdeal.τ).loc Cert.QkPostIdeal.main_arg2) = m ((c.tc : Thread Cert.QkPostIdeal.nD Cert.QkPostIdeal.τ).loc Cert.QkPostIdeal.main_arg2)
      ∧ r.2.mem ((c.tc : Thread Cert.QkPostIdeal.nD Cert.QkPostIdeal.τ).loc Cert.QkPostIdeal.main_arg3) = m ((c.tc : Thread Cert.QkPostIdeal.nD Cert.QkPostIdeal.τ).loc Cert.QkPostIdeal.main_arg3)
      ∧ r.2.mem ((c.tc : Thread Cert.QkPostIdeal.nD Cert.QkPostIdeal.τ).loc Cert.QkPostIdeal.main_arg4) = m ((c.tc : Thread Cert.QkPostIdeal.nD Cert.QkPostIdeal.τ).loc Cert.QkPostIdeal.main_arg4))
      ∧ r.2.sem = fun _ => 0)

def quiescent_QkPostRefIdeal [hQkPostRefIdeal : Cert.QkPostRefIdeal.Facts] : Prop :=
  ∀ (m : (ℓ : Loc Cert.QkPostRefIdeal.nD Cert.QkPostRefIdeal.τ Cert.QkPostRefIdeal.sig) → Buf (Elt Ideal) ℓ) (g : Dev Cert.QkPostRefIdeal.nD → PrngReg), Pre_QkPostRefIdeal m →
    θ_run (Cert.QkPostRefIdeal.defs (F := Ideal)) (onTc (τ := Cert.QkPostRefIdeal.τ) (Cert.QkPostRefIdeal.main (F := Ideal))) ⟨m, fun _ => 0, g⟩ (fun r => (∀ c : Dev Cert.QkPostRefIdeal.nD,
      r.2.mem ((c.tc : Thread Cert.QkPostRefIdeal.nD Cert.QkPostRefIdeal.τ).loc Cert.QkPostRefIdeal.main_arg0) = m ((c.tc : Thread Cert.QkPostRefIdeal.nD Cert.QkPostRefIdeal.τ).loc Cert.QkPostRefIdeal.main_arg0)
      ∧ r.2.mem ((c.tc : Thread Cert.QkPostRefIdeal.nD Cert.QkPostRefIdeal.τ).loc Cert.QkPostRefIdeal.main_arg1) = m ((c.tc : Thread Cert.QkPostRefIdeal.nD Cert.QkPostRefIdeal.τ).loc Cert.QkPostRefIdeal.main_arg1)
      ∧ r.2.mem ((c.tc : Thread Cert.QkPostRefIdeal.nD Cert.QkPostRefIdeal.τ).loc Cert.QkPostRefIdeal.main_arg2) = m ((c.tc : Thread Cert.QkPostRefIdeal.nD Cert.QkPostRefIdeal.τ).loc Cert.QkPostRefIdeal.main_arg2)
      ∧ r.2.mem ((c.tc : Thread Cert.QkPostRefIdeal.nD Cert.QkPostRefIdeal.τ).loc Cert.QkPostRefIdeal.main_arg3) = m ((c.tc : Thread Cert.QkPostRefIdeal.nD Cert.QkPostRefIdeal.τ).loc Cert.QkPostRefIdeal.main_arg3)
      ∧ r.2.mem ((c.tc : Thread Cert.QkPostRefIdeal.nD Cert.QkPostRefIdeal.τ).loc Cert.QkPostRefIdeal.main_arg4) = m ((c.tc : Thread Cert.QkPostRefIdeal.nD Cert.QkPostRefIdeal.τ).loc Cert.QkPostRefIdeal.main_arg4))
      ∧ r.2.sem = fun _ => 0)

def quiescent_Merge [hMerge : Cert.Merge.Facts] : Prop :=
  ∀ (m : (ℓ : Loc Cert.Merge.nD Cert.Merge.τ Cert.Merge.sig) → Buf (Elt Bits) ℓ) (g : Dev Cert.Merge.nD → PrngReg), Pre_Merge m →
    θ_run (Cert.Merge.defs (F := Bits)) (onTc (τ := Cert.Merge.τ) (Cert.Merge.main (F := Bits))) ⟨m, fun _ => 0, g⟩ (fun r => (∀ c : Dev Cert.Merge.nD,
      r.2.mem ((c.tc : Thread Cert.Merge.nD Cert.Merge.τ).loc Cert.Merge.main_arg0) = m ((c.tc : Thread Cert.Merge.nD Cert.Merge.τ).loc Cert.Merge.main_arg0)
      ∧ r.2.mem ((c.tc : Thread Cert.Merge.nD Cert.Merge.τ).loc Cert.Merge.main_arg1) = m ((c.tc : Thread Cert.Merge.nD Cert.Merge.τ).loc Cert.Merge.main_arg1)
      ∧ r.2.mem ((c.tc : Thread Cert.Merge.nD Cert.Merge.τ).loc Cert.Merge.main_arg2) = m ((c.tc : Thread Cert.Merge.nD Cert.Merge.τ).loc Cert.Merge.main_arg2)
      ∧ r.2.mem ((c.tc : Thread Cert.Merge.nD Cert.Merge.τ).loc Cert.Merge.main_arg3) = m ((c.tc : Thread Cert.Merge.nD Cert.Merge.τ).loc Cert.Merge.main_arg3)
      ∧ r.2.mem ((c.tc : Thread Cert.Merge.nD Cert.Merge.τ).loc Cert.Merge.main_arg4) = m ((c.tc : Thread Cert.Merge.nD Cert.Merge.τ).loc Cert.Merge.main_arg4)
      ∧ r.2.mem ((c.tc : Thread Cert.Merge.nD Cert.Merge.τ).loc Cert.Merge.main_arg5) = m ((c.tc : Thread Cert.Merge.nD Cert.Merge.τ).loc Cert.Merge.main_arg5))
      ∧ r.2.sem = fun _ => 0)

def quiescent_MergeIdeal [hMergeIdeal : Cert.MergeIdeal.Facts] : Prop :=
  ∀ (m : (ℓ : Loc Cert.MergeIdeal.nD Cert.MergeIdeal.τ Cert.MergeIdeal.sig) → Buf (Elt Ideal) ℓ) (g : Dev Cert.MergeIdeal.nD → PrngReg), Pre_MergeIdeal m →
    θ_run (Cert.MergeIdeal.defs (F := Ideal)) (onTc (τ := Cert.MergeIdeal.τ) (Cert.MergeIdeal.main (F := Ideal))) ⟨m, fun _ => 0, g⟩ (fun r => (∀ c : Dev Cert.MergeIdeal.nD,
      r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
      ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
      ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
      ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
      ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
      ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ r.2.sem = fun _ => 0)

def quiescent_MergeRefIdeal [hMergeRefIdeal : Cert.MergeRefIdeal.Facts] : Prop :=
  ∀ (m : (ℓ : Loc Cert.MergeRefIdeal.nD Cert.MergeRefIdeal.τ Cert.MergeRefIdeal.sig) → Buf (Elt Ideal) ℓ) (g : Dev Cert.MergeRefIdeal.nD → PrngReg), Pre_MergeRefIdeal m →
    θ_run (Cert.MergeRefIdeal.defs (F := Ideal)) (onTc (τ := Cert.MergeRefIdeal.τ) (Cert.MergeRefIdeal.main (F := Ideal))) ⟨m, fun _ => 0, g⟩ (fun r => (∀ c : Dev Cert.MergeRefIdeal.nD,
      r.2.mem ((c.tc : Thread Cert.MergeRefIdeal.nD Cert.MergeRefIdeal.τ).loc Cert.MergeRefIdeal.main_arg0) = m ((c.tc : Thread Cert.MergeRefIdeal.nD Cert.MergeRefIdeal.τ).loc Cert.MergeRefIdeal.main_arg0)
      ∧ r.2.mem ((c.tc : Thread Cert.MergeRefIdeal.nD Cert.MergeRefIdeal.τ).loc Cert.MergeRefIdeal.main_arg1) = m ((c.tc : Thread Cert.MergeRefIdeal.nD Cert.MergeRefIdeal.τ).loc Cert.MergeRefIdeal.main_arg1)
      ∧ r.2.mem ((c.tc : Thread Cert.MergeRefIdeal.nD Cert.MergeRefIdeal.τ).loc Cert.MergeRefIdeal.main_arg2) = m ((c.tc : Thread Cert.MergeRefIdeal.nD Cert.MergeRefIdeal.τ).loc Cert.MergeRefIdeal.main_arg2)
      ∧ r.2.mem ((c.tc : Thread Cert.MergeRefIdeal.nD Cert.MergeRefIdeal.τ).loc Cert.MergeRefIdeal.main_arg3) = m ((c.tc : Thread Cert.MergeRefIdeal.nD Cert.MergeRefIdeal.τ).loc Cert.MergeRefIdeal.main_arg3)
      ∧ r.2.mem ((c.tc : Thread Cert.MergeRefIdeal.nD Cert.MergeRefIdeal.τ).loc Cert.MergeRefIdeal.main_arg4) = m ((c.tc : Thread Cert.MergeRefIdeal.nD Cert.MergeRefIdeal.τ).loc Cert.MergeRefIdeal.main_arg4)
      ∧ r.2.mem ((c.tc : Thread Cert.MergeRefIdeal.nD Cert.MergeRefIdeal.τ).loc Cert.MergeRefIdeal.main_arg5) = m ((c.tc : Thread Cert.MergeRefIdeal.nD Cert.MergeRefIdeal.τ).loc Cert.MergeRefIdeal.main_arg5))
      ∧ r.2.sem = fun _ => 0)

def quiescent_OutProj [hOutProj : Cert.OutProj.Facts] : Prop :=
  ∀ (m : (ℓ : Loc Cert.OutProj.nD Cert.OutProj.τ Cert.OutProj.sig) → Buf (Elt Bits) ℓ) (g : Dev Cert.OutProj.nD → PrngReg), Pre_OutProj m →
    θ_run (Cert.OutProj.defs (F := Bits)) (onTc (τ := Cert.OutProj.τ) (Cert.OutProj.main (F := Bits))) ⟨m, fun _ => 0, g⟩ (fun r => (∀ c : Dev Cert.OutProj.nD,
      r.2.mem ((c.tc : Thread Cert.OutProj.nD Cert.OutProj.τ).loc Cert.OutProj.main_arg0) = m ((c.tc : Thread Cert.OutProj.nD Cert.OutProj.τ).loc Cert.OutProj.main_arg0)
      ∧ r.2.mem ((c.tc : Thread Cert.OutProj.nD Cert.OutProj.τ).loc Cert.OutProj.main_arg1) = m ((c.tc : Thread Cert.OutProj.nD Cert.OutProj.τ).loc Cert.OutProj.main_arg1)
      ∧ r.2.mem ((c.tc : Thread Cert.OutProj.nD Cert.OutProj.τ).loc Cert.OutProj.main_arg2) = m ((c.tc : Thread Cert.OutProj.nD Cert.OutProj.τ).loc Cert.OutProj.main_arg2)
      ∧ r.2.mem ((c.tc : Thread Cert.OutProj.nD Cert.OutProj.τ).loc Cert.OutProj.main_arg3) = m ((c.tc : Thread Cert.OutProj.nD Cert.OutProj.τ).loc Cert.OutProj.main_arg3)
      ∧ r.2.mem ((c.tc : Thread Cert.OutProj.nD Cert.OutProj.τ).loc Cert.OutProj.main_arg4) = m ((c.tc : Thread Cert.OutProj.nD Cert.OutProj.τ).loc Cert.OutProj.main_arg4)
      ∧ r.2.mem ((c.tc : Thread Cert.OutProj.nD Cert.OutProj.τ).loc Cert.OutProj.main_arg5) = m ((c.tc : Thread Cert.OutProj.nD Cert.OutProj.τ).loc Cert.OutProj.main_arg5))
      ∧ r.2.sem = fun _ => 0)

def quiescent_OutProjIdeal [hOutProjIdeal : Cert.OutProjIdeal.Facts] : Prop :=
  ∀ (m : (ℓ : Loc Cert.OutProjIdeal.nD Cert.OutProjIdeal.τ Cert.OutProjIdeal.sig) → Buf (Elt Ideal) ℓ) (g : Dev Cert.OutProjIdeal.nD → PrngReg), Pre_OutProjIdeal m →
    θ_run (Cert.OutProjIdeal.defs (F := Ideal)) (onTc (τ := Cert.OutProjIdeal.τ) (Cert.OutProjIdeal.main (F := Ideal))) ⟨m, fun _ => 0, g⟩ (fun r => (∀ c : Dev Cert.OutProjIdeal.nD,
      r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
      ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
      ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
      ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
      ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
      ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ r.2.sem = fun _ => 0)

def quiescent_OutProjRefIdeal [hOutProjRefIdeal : Cert.OutProjRefIdeal.Facts] : Prop :=
  ∀ (m : (ℓ : Loc Cert.OutProjRefIdeal.nD Cert.OutProjRefIdeal.τ Cert.OutProjRefIdeal.sig) → Buf (Elt Ideal) ℓ) (g : Dev Cert.OutProjRefIdeal.nD → PrngReg), Pre_OutProjRefIdeal m →
    θ_run (Cert.OutProjRefIdeal.defs (F := Ideal)) (onTc (τ := Cert.OutProjRefIdeal.τ) (Cert.OutProjRefIdeal.main (F := Ideal))) ⟨m, fun _ => 0, g⟩ (fun r => (∀ c : Dev Cert.OutProjRefIdeal.nD,
      r.2.mem ((c.tc : Thread Cert.OutProjRefIdeal.nD Cert.OutProjRefIdeal.τ).loc Cert.OutProjRefIdeal.main_arg0) = m ((c.tc : Thread Cert.OutProjRefIdeal.nD Cert.OutProjRefIdeal.τ).loc Cert.OutProjRefIdeal.main_arg0)
      ∧ r.2.mem ((c.tc : Thread Cert.OutProjRefIdeal.nD Cert.OutProjRefIdeal.τ).loc Cert.OutProjRefIdeal.main_arg1) = m ((c.tc : Thread Cert.OutProjRefIdeal.nD Cert.OutProjRefIdeal.τ).loc Cert.OutProjRefIdeal.main_arg1)
      ∧ r.2.mem ((c.tc : Thread Cert.OutProjRefIdeal.nD Cert.OutProjRefIdeal.τ).loc Cert.OutProjRefIdeal.main_arg2) = m ((c.tc : Thread Cert.OutProjRefIdeal.nD Cert.OutProjRefIdeal.τ).loc Cert.OutProjRefIdeal.main_arg2)
      ∧ r.2.mem ((c.tc : Thread Cert.OutProjRefIdeal.nD Cert.OutProjRefIdeal.τ).loc Cert.OutProjRefIdeal.main_arg3) = m ((c.tc : Thread Cert.OutProjRefIdeal.nD Cert.OutProjRefIdeal.τ).loc Cert.OutProjRefIdeal.main_arg3)
      ∧ r.2.mem ((c.tc : Thread Cert.OutProjRefIdeal.nD Cert.OutProjRefIdeal.τ).loc Cert.OutProjRefIdeal.main_arg4) = m ((c.tc : Thread Cert.OutProjRefIdeal.nD Cert.OutProjRefIdeal.τ).loc Cert.OutProjRefIdeal.main_arg4)
      ∧ r.2.mem ((c.tc : Thread Cert.OutProjRefIdeal.nD Cert.OutProjRefIdeal.τ).loc Cert.OutProjRefIdeal.main_arg5) = m ((c.tc : Thread Cert.OutProjRefIdeal.nD Cert.OutProjRefIdeal.τ).loc Cert.OutProjRefIdeal.main_arg5))
      ∧ r.2.sem = fun _ => 0)

def quiescent_Dsa1 [hDsa1 : Cert.Dsa1.Facts] : Prop :=
  ∀ (m : (ℓ : Loc Cert.Dsa1.nD Cert.Dsa1.τ Cert.Dsa1.sig) → Buf (Elt Bits) ℓ) (g : Dev Cert.Dsa1.nD → PrngReg), Pre_Dsa1 m →
    θ_run (Cert.Dsa1.defs (F := Bits)) (onTc (τ := Cert.Dsa1.τ) (Cert.Dsa1.main (F := Bits))) ⟨m, fun _ => 0, g⟩ (fun r => (∀ c : Dev Cert.Dsa1.nD,
      r.2.mem ((c.tc : Thread Cert.Dsa1.nD Cert.Dsa1.τ).loc Cert.Dsa1.main_arg0) = m ((c.tc : Thread Cert.Dsa1.nD Cert.Dsa1.τ).loc Cert.Dsa1.main_arg0)
      ∧ r.2.mem ((c.tc : Thread Cert.Dsa1.nD Cert.Dsa1.τ).loc Cert.Dsa1.main_arg1) = m ((c.tc : Thread Cert.Dsa1.nD Cert.Dsa1.τ).loc Cert.Dsa1.main_arg1)
      ∧ r.2.mem ((c.tc : Thread Cert.Dsa1.nD Cert.Dsa1.τ).loc Cert.Dsa1.main_arg2) = m ((c.tc : Thread Cert.Dsa1.nD Cert.Dsa1.τ).loc Cert.Dsa1.main_arg2)
      ∧ r.2.mem ((c.tc : Thread Cert.Dsa1.nD Cert.Dsa1.τ).loc Cert.Dsa1.main_arg3) = m ((c.tc : Thread Cert.Dsa1.nD Cert.Dsa1.τ).loc Cert.Dsa1.main_arg3)
      ∧ r.2.mem ((c.tc : Thread Cert.Dsa1.nD Cert.Dsa1.τ).loc Cert.Dsa1.main_arg4) = m ((c.tc : Thread Cert.Dsa1.nD Cert.Dsa1.τ).loc Cert.Dsa1.main_arg4)
      ∧ r.2.mem ((c.tc : Thread Cert.Dsa1.nD Cert.Dsa1.τ).loc Cert.Dsa1.main_arg5) = m ((c.tc : Thread Cert.Dsa1.nD Cert.Dsa1.τ).loc Cert.Dsa1.main_arg5))
      ∧ r.2.sem = fun _ => 0)

def quiescent_Dsa2 [hDsa2 : Cert.Dsa2.Facts] : Prop :=
  ∀ (m : (ℓ : Loc Cert.Dsa2.nD Cert.Dsa2.τ Cert.Dsa2.sig) → Buf (Elt Bits) ℓ) (g : Dev Cert.Dsa2.nD → PrngReg), Pre_Dsa2 m →
    θ_run (Cert.Dsa2.defs (F := Bits)) (onTc (τ := Cert.Dsa2.τ) (Cert.Dsa2.main (F := Bits))) ⟨m, fun _ => 0, g⟩ (fun r => (∀ c : Dev Cert.Dsa2.nD,
      r.2.mem ((c.tc : Thread Cert.Dsa2.nD Cert.Dsa2.τ).loc Cert.Dsa2.main_arg0) = m ((c.tc : Thread Cert.Dsa2.nD Cert.Dsa2.τ).loc Cert.Dsa2.main_arg0)
      ∧ r.2.mem ((c.tc : Thread Cert.Dsa2.nD Cert.Dsa2.τ).loc Cert.Dsa2.main_arg1) = m ((c.tc : Thread Cert.Dsa2.nD Cert.Dsa2.τ).loc Cert.Dsa2.main_arg1)
      ∧ r.2.mem ((c.tc : Thread Cert.Dsa2.nD Cert.Dsa2.τ).loc Cert.Dsa2.main_arg2) = m ((c.tc : Thread Cert.Dsa2.nD Cert.Dsa2.τ).loc Cert.Dsa2.main_arg2)
      ∧ r.2.mem ((c.tc : Thread Cert.Dsa2.nD Cert.Dsa2.τ).loc Cert.Dsa2.main_arg3) = m ((c.tc : Thread Cert.Dsa2.nD Cert.Dsa2.τ).loc Cert.Dsa2.main_arg3)
      ∧ r.2.mem ((c.tc : Thread Cert.Dsa2.nD Cert.Dsa2.τ).loc Cert.Dsa2.main_arg4) = m ((c.tc : Thread Cert.Dsa2.nD Cert.Dsa2.τ).loc Cert.Dsa2.main_arg4)
      ∧ r.2.mem ((c.tc : Thread Cert.Dsa2.nD Cert.Dsa2.τ).loc Cert.Dsa2.main_arg5) = m ((c.tc : Thread Cert.Dsa2.nD Cert.Dsa2.τ).loc Cert.Dsa2.main_arg5))
      ∧ r.2.sem = fun _ => 0)

def quiescent_Dsa3 [hDsa3 : Cert.Dsa3.Facts] : Prop :=
  ∀ (m : (ℓ : Loc Cert.Dsa3.nD Cert.Dsa3.τ Cert.Dsa3.sig) → Buf (Elt Bits) ℓ) (g : Dev Cert.Dsa3.nD → PrngReg), Pre_Dsa3 m →
    θ_run (Cert.Dsa3.defs (F := Bits)) (onTc (τ := Cert.Dsa3.τ) (Cert.Dsa3.main (F := Bits))) ⟨m, fun _ => 0, g⟩ (fun r => (∀ c : Dev Cert.Dsa3.nD,
      r.2.mem ((c.tc : Thread Cert.Dsa3.nD Cert.Dsa3.τ).loc Cert.Dsa3.main_arg0) = m ((c.tc : Thread Cert.Dsa3.nD Cert.Dsa3.τ).loc Cert.Dsa3.main_arg0)
      ∧ r.2.mem ((c.tc : Thread Cert.Dsa3.nD Cert.Dsa3.τ).loc Cert.Dsa3.main_arg1) = m ((c.tc : Thread Cert.Dsa3.nD Cert.Dsa3.τ).loc Cert.Dsa3.main_arg1)
      ∧ r.2.mem ((c.tc : Thread Cert.Dsa3.nD Cert.Dsa3.τ).loc Cert.Dsa3.main_arg2) = m ((c.tc : Thread Cert.Dsa3.nD Cert.Dsa3.τ).loc Cert.Dsa3.main_arg2)
      ∧ r.2.mem ((c.tc : Thread Cert.Dsa3.nD Cert.Dsa3.τ).loc Cert.Dsa3.main_arg3) = m ((c.tc : Thread Cert.Dsa3.nD Cert.Dsa3.τ).loc Cert.Dsa3.main_arg3)
      ∧ r.2.mem ((c.tc : Thread Cert.Dsa3.nD Cert.Dsa3.τ).loc Cert.Dsa3.main_arg4) = m ((c.tc : Thread Cert.Dsa3.nD Cert.Dsa3.τ).loc Cert.Dsa3.main_arg4)
      ∧ r.2.mem ((c.tc : Thread Cert.Dsa3.nD Cert.Dsa3.τ).loc Cert.Dsa3.main_arg5) = m ((c.tc : Thread Cert.Dsa3.nD Cert.Dsa3.τ).loc Cert.Dsa3.main_arg5))
      ∧ r.2.sem = fun _ => 0)

def quiescent_Dsa4 [hDsa4 : Cert.Dsa4.Facts] : Prop :=
  ∀ (m : (ℓ : Loc Cert.Dsa4.nD Cert.Dsa4.τ Cert.Dsa4.sig) → Buf (Elt Bits) ℓ) (g : Dev Cert.Dsa4.nD → PrngReg), Pre_Dsa4 m →
    θ_run (Cert.Dsa4.defs (F := Bits)) (onTc (τ := Cert.Dsa4.τ) (Cert.Dsa4.main (F := Bits))) ⟨m, fun _ => 0, g⟩ (fun r => (∀ c : Dev Cert.Dsa4.nD,
      r.2.mem ((c.tc : Thread Cert.Dsa4.nD Cert.Dsa4.τ).loc Cert.Dsa4.main_arg0) = m ((c.tc : Thread Cert.Dsa4.nD Cert.Dsa4.τ).loc Cert.Dsa4.main_arg0)
      ∧ r.2.mem ((c.tc : Thread Cert.Dsa4.nD Cert.Dsa4.τ).loc Cert.Dsa4.main_arg1) = m ((c.tc : Thread Cert.Dsa4.nD Cert.Dsa4.τ).loc Cert.Dsa4.main_arg1)
      ∧ r.2.mem ((c.tc : Thread Cert.Dsa4.nD Cert.Dsa4.τ).loc Cert.Dsa4.main_arg2) = m ((c.tc : Thread Cert.Dsa4.nD Cert.Dsa4.τ).loc Cert.Dsa4.main_arg2)
      ∧ r.2.mem ((c.tc : Thread Cert.Dsa4.nD Cert.Dsa4.τ).loc Cert.Dsa4.main_arg3) = m ((c.tc : Thread Cert.Dsa4.nD Cert.Dsa4.τ).loc Cert.Dsa4.main_arg3)
      ∧ r.2.mem ((c.tc : Thread Cert.Dsa4.nD Cert.Dsa4.τ).loc Cert.Dsa4.main_arg4) = m ((c.tc : Thread Cert.Dsa4.nD Cert.Dsa4.τ).loc Cert.Dsa4.main_arg4)
      ∧ r.2.mem ((c.tc : Thread Cert.Dsa4.nD Cert.Dsa4.τ).loc Cert.Dsa4.main_arg5) = m ((c.tc : Thread Cert.Dsa4.nD Cert.Dsa4.τ).loc Cert.Dsa4.main_arg5))
      ∧ r.2.sem = fun _ => 0)

def quiescent_DsaStep [hDsaStep : Cert.DsaStep.Facts] : Prop :=
  ∀ (m : (ℓ : Loc Cert.DsaStep.nD Cert.DsaStep.τ Cert.DsaStep.sig) → Buf (Elt Bits) ℓ) (g : Dev Cert.DsaStep.nD → PrngReg), Pre_DsaStep m →
    θ_run (Cert.DsaStep.defs (F := Bits)) (onTc (τ := Cert.DsaStep.τ) (Cert.DsaStep.main (F := Bits))) ⟨m, fun _ => 0, g⟩ (fun r => (∀ c : Dev Cert.DsaStep.nD,
      r.2.mem ((c.tc : Thread Cert.DsaStep.nD Cert.DsaStep.τ).loc Cert.DsaStep.main_arg0) = m ((c.tc : Thread Cert.DsaStep.nD Cert.DsaStep.τ).loc Cert.DsaStep.main_arg0)
      ∧ r.2.mem ((c.tc : Thread Cert.DsaStep.nD Cert.DsaStep.τ).loc Cert.DsaStep.main_arg1) = m ((c.tc : Thread Cert.DsaStep.nD Cert.DsaStep.τ).loc Cert.DsaStep.main_arg1)
      ∧ r.2.mem ((c.tc : Thread Cert.DsaStep.nD Cert.DsaStep.τ).loc Cert.DsaStep.main_arg2) = m ((c.tc : Thread Cert.DsaStep.nD Cert.DsaStep.τ).loc Cert.DsaStep.main_arg2)
      ∧ r.2.mem ((c.tc : Thread Cert.DsaStep.nD Cert.DsaStep.τ).loc Cert.DsaStep.main_arg3) = m ((c.tc : Thread Cert.DsaStep.nD Cert.DsaStep.τ).loc Cert.DsaStep.main_arg3)
      ∧ r.2.mem ((c.tc : Thread Cert.DsaStep.nD Cert.DsaStep.τ).loc Cert.DsaStep.main_arg4) = m ((c.tc : Thread Cert.DsaStep.nD Cert.DsaStep.τ).loc Cert.DsaStep.main_arg4)
      ∧ r.2.mem ((c.tc : Thread Cert.DsaStep.nD Cert.DsaStep.τ).loc Cert.DsaStep.main_arg5) = m ((c.tc : Thread Cert.DsaStep.nD Cert.DsaStep.τ).loc Cert.DsaStep.main_arg5)
      ∧ r.2.mem ((c.tc : Thread Cert.DsaStep.nD Cert.DsaStep.τ).loc Cert.DsaStep.main_arg6) = m ((c.tc : Thread Cert.DsaStep.nD Cert.DsaStep.τ).loc Cert.DsaStep.main_arg6)
      ∧ r.2.mem ((c.tc : Thread Cert.DsaStep.nD Cert.DsaStep.τ).loc Cert.DsaStep.main_arg7) = m ((c.tc : Thread Cert.DsaStep.nD Cert.DsaStep.τ).loc Cert.DsaStep.main_arg7)
      ∧ r.2.mem ((c.tc : Thread Cert.DsaStep.nD Cert.DsaStep.τ).loc Cert.DsaStep.main_arg8) = m ((c.tc : Thread Cert.DsaStep.nD Cert.DsaStep.τ).loc Cert.DsaStep.main_arg8))
      ∧ r.2.sem = fun _ => 0)

def preserves_Moe_MoeIdeal : Prop :=
  True

def algebraic_MoeIdeal_MoeRefIdeal [hMoeIdeal : Cert.MoeIdeal.Facts] [hMoeRefIdeal : Cert.MoeRefIdeal.Facts] [hPre_moe_range : Cert.Pre_moe_range.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeRefIdeal.nD Cert.MoeRefIdeal.τ Cert.MoeRefIdeal.sig) → Buf (Elt Ideal) ℓ) (g' : Dev Cert.MoeRefIdeal.nD → PrngReg), Pre_MoeIdeal m →
    (∀ c : Dev Cert.MoeIdeal.nD,
      m' ((c.tc : Thread Cert.MoeRefIdeal.nD Cert.MoeRefIdeal.τ).loc Cert.MoeRefIdeal.main_arg0) = m ((c.tc : Thread Cert.MoeIdeal.nD Cert.MoeIdeal.τ).loc Cert.MoeIdeal.main_arg0)
      ∧ m' ((c.tc : Thread Cert.MoeRefIdeal.nD Cert.MoeRefIdeal.τ).loc Cert.MoeRefIdeal.main_arg1) = m ((c.tc : Thread Cert.MoeIdeal.nD Cert.MoeIdeal.τ).loc Cert.MoeIdeal.main_arg1)
      ∧ m' ((c.tc : Thread Cert.MoeRefIdeal.nD Cert.MoeRefIdeal.τ).loc Cert.MoeRefIdeal.main_arg2) = m ((c.tc : Thread Cert.MoeIdeal.nD Cert.MoeIdeal.τ).loc Cert.MoeIdeal.main_arg2)
      ∧ m' ((c.tc : Thread Cert.MoeRefIdeal.nD Cert.MoeRefIdeal.τ).loc Cert.MoeRefIdeal.main_arg3) = m ((c.tc : Thread Cert.MoeIdeal.nD Cert.MoeIdeal.τ).loc Cert.MoeIdeal.main_arg3)
      ∧ m' ((c.tc : Thread Cert.MoeRefIdeal.nD Cert.MoeRefIdeal.τ).loc Cert.MoeRefIdeal.main_arg4) = m ((c.tc : Thread Cert.MoeIdeal.nD Cert.MoeIdeal.τ).loc Cert.MoeIdeal.main_arg4)
      ∧ m' ((c.tc : Thread Cert.MoeRefIdeal.nD Cert.MoeRefIdeal.τ).loc Cert.MoeRefIdeal.main_arg5) = m ((c.tc : Thread Cert.MoeIdeal.nD Cert.MoeIdeal.τ).loc Cert.MoeIdeal.main_arg5)) →
    ∃ (v0 : (c : Dev Cert.MoeIdeal.nD) → Buf (Elt Ideal) ((c.tc : Thread Cert.MoeIdeal.nD Cert.MoeIdeal.τ).loc Cert.MoeIdeal.main_v0)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v0) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4)
          ∧ r.2.mem ((c.tc : Thread Cert.MoeIdeal.nD Cert.MoeIdeal.τ).loc Cert.MoeIdeal.main_arg5) = m ((c.tc : Thread Cert.MoeIdeal.nD Cert.MoeIdeal.τ).loc Cert.MoeIdeal.main_arg5))
      ∧ θ_run (Cert.MoeRefIdeal.defs (F := Ideal)) (onTc (τ := Cert.MoeRefIdeal.τ) (Cert.MoeRefIdeal.main (F := Ideal))) ⟨m', fun _ => 0, g'⟩ (fun r => ∀ c : Dev Cert.MoeRefIdeal.nD,
          r.2.mem ((c.tc : Thread Cert.MoeRefIdeal.nD Cert.MoeRefIdeal.τ).loc Cert.MoeRefIdeal.main_v36) = v0 c
          ∧ r.2.mem ((c.tc : Thread Cert.MoeRefIdeal.nD Cert.MoeRefIdeal.τ).loc Cert.MoeRefIdeal.main_arg0) = m' ((c.tc : Thread Cert.MoeRefIdeal.nD Cert.MoeRefIdeal.τ).loc Cert.MoeRefIdeal.main_arg0)
          ∧ r.2.mem ((c.tc : Thread Cert.MoeRefIdeal.nD Cert.MoeRefIdeal.τ).loc Cert.MoeRefIdeal.main_arg1) = m' ((c.tc : Thread Cert.MoeRefIdeal.nD Cert.MoeRefIdeal.τ).loc Cert.MoeRefIdeal.main_arg1)
          ∧ r.2.mem ((c.tc : Thread Cert.MoeRefIdeal.nD Cert.MoeRefIdeal.τ).loc Cert.MoeRefIdeal.main_arg2) = m' ((c.tc : Thread Cert.MoeRefIdeal.nD Cert.MoeRefIdeal.τ).loc Cert.MoeRefIdeal.main_arg2)
          ∧ r.2.mem ((c.tc : Thread Cert.MoeRefIdeal.nD Cert.MoeRefIdeal.τ).loc Cert.MoeRefIdeal.main_arg3) = m' ((c.tc : Thread Cert.MoeRefIdeal.nD Cert.MoeRefIdeal.τ).loc Cert.MoeRefIdeal.main_arg3)
          ∧ r.2.mem ((c.tc : Thread Cert.MoeRefIdeal.nD Cert.MoeRefIdeal.τ).loc Cert.MoeRefIdeal.main_arg4) = m' ((c.tc : Thread Cert.MoeRefIdeal.nD Cert.MoeRefIdeal.τ).loc Cert.MoeRefIdeal.main_arg4)
          ∧ r.2.mem ((c.tc : Thread Cert.MoeRefIdeal.nD Cert.MoeRefIdeal.τ).loc Cert.MoeRefIdeal.main_arg5) = m' ((c.tc : Thread Cert.MoeRefIdeal.nD Cert.MoeRefIdeal.τ).loc Cert.MoeRefIdeal.main_arg5))

def preserves_InProj_InProjIdeal : Prop :=
  True

def algebraic_InProjIdeal_InProjRefIdeal [hInProjIdeal : Cert.InProjIdeal.Facts] [hInProjRefIdeal : Cert.InProjRefIdeal.Facts] : Prop :=
  ∀ (m : (ℓ : Loc Cert.InProjIdeal.nD Cert.InProjIdeal.τ Cert.InProjIdeal.sig) → Buf (Elt Ideal) ℓ) (g : Dev Cert.InProjIdeal.nD → PrngReg)
    (m' : (ℓ : Loc Cert.InProjRefIdeal.nD Cert.InProjRefIdeal.τ Cert.InProjRefIdeal.sig) → Buf (Elt Ideal) ℓ) (g' : Dev Cert.InProjRefIdeal.nD → PrngReg), Pre_InProjIdeal m →
    (∀ c : Dev Cert.InProjIdeal.nD,
      m' ((c.tc : Thread Cert.InProjRefIdeal.nD Cert.InProjRefIdeal.τ).loc Cert.InProjRefIdeal.main_arg0) = m ((c.tc : Thread Cert.InProjIdeal.nD Cert.InProjIdeal.τ).loc Cert.InProjIdeal.main_arg0)
      ∧ m' ((c.tc : Thread Cert.InProjRefIdeal.nD Cert.InProjRefIdeal.τ).loc Cert.InProjRefIdeal.main_arg1) = m ((c.tc : Thread Cert.InProjIdeal.nD Cert.InProjIdeal.τ).loc Cert.InProjIdeal.main_arg1)
      ∧ m' ((c.tc : Thread Cert.InProjRefIdeal.nD Cert.InProjRefIdeal.τ).loc Cert.InProjRefIdeal.main_arg2) = m ((c.tc : Thread Cert.InProjIdeal.nD Cert.InProjIdeal.τ).loc Cert.InProjIdeal.main_arg2)) →
    ∃ (v0 : (c : Dev Cert.InProjIdeal.nD) → Buf (Elt Ideal) ((c.tc : Thread Cert.InProjIdeal.nD Cert.InProjIdeal.τ).loc Cert.InProjIdeal.main_v2)),
      θ_run (Cert.InProjIdeal.defs (F := Ideal)) (onTc (τ := Cert.InProjIdeal.τ) (Cert.InProjIdeal.main (F := Ideal))) ⟨m, fun _ => 0, g⟩ (fun r => ∀ c : Dev Cert.InProjIdeal.nD,
          r.2.mem ((c.tc : Thread Cert.InProjIdeal.nD Cert.InProjIdeal.τ).loc Cert.InProjIdeal.main_v2) = v0 c
          ∧ r.2.mem ((c.tc : Thread Cert.InProjIdeal.nD Cert.InProjIdeal.τ).loc Cert.InProjIdeal.main_arg0) = m ((c.tc : Thread Cert.InProjIdeal.nD Cert.InProjIdeal.τ).loc Cert.InProjIdeal.main_arg0)
          ∧ r.2.mem ((c.tc : Thread Cert.InProjIdeal.nD Cert.InProjIdeal.τ).loc Cert.InProjIdeal.main_arg1) = m ((c.tc : Thread Cert.InProjIdeal.nD Cert.InProjIdeal.τ).loc Cert.InProjIdeal.main_arg1)
          ∧ r.2.mem ((c.tc : Thread Cert.InProjIdeal.nD Cert.InProjIdeal.τ).loc Cert.InProjIdeal.main_arg2) = m ((c.tc : Thread Cert.InProjIdeal.nD Cert.InProjIdeal.τ).loc Cert.InProjIdeal.main_arg2))
      ∧ θ_run (Cert.InProjRefIdeal.defs (F := Ideal)) (onTc (τ := Cert.InProjRefIdeal.τ) (Cert.InProjRefIdeal.main (F := Ideal))) ⟨m', fun _ => 0, g'⟩ (fun r => ∀ c : Dev Cert.InProjRefIdeal.nD,
          r.2.mem ((c.tc : Thread Cert.InProjRefIdeal.nD Cert.InProjRefIdeal.τ).loc Cert.InProjRefIdeal.main_v13) = v0 c
          ∧ r.2.mem ((c.tc : Thread Cert.InProjRefIdeal.nD Cert.InProjRefIdeal.τ).loc Cert.InProjRefIdeal.main_arg0) = m' ((c.tc : Thread Cert.InProjRefIdeal.nD Cert.InProjRefIdeal.τ).loc Cert.InProjRefIdeal.main_arg0)
          ∧ r.2.mem ((c.tc : Thread Cert.InProjRefIdeal.nD Cert.InProjRefIdeal.τ).loc Cert.InProjRefIdeal.main_arg1) = m' ((c.tc : Thread Cert.InProjRefIdeal.nD Cert.InProjRefIdeal.τ).loc Cert.InProjRefIdeal.main_arg1)
          ∧ r.2.mem ((c.tc : Thread Cert.InProjRefIdeal.nD Cert.InProjRefIdeal.τ).loc Cert.InProjRefIdeal.main_arg2) = m' ((c.tc : Thread Cert.InProjRefIdeal.nD Cert.InProjRefIdeal.τ).loc Cert.InProjRefIdeal.main_arg2))

def preserves_QkPost_QkPostIdeal : Prop :=
  True

def algebraic_QkPostIdeal_QkPostRefIdeal [hQkPostIdeal : Cert.QkPostIdeal.Facts] [hQkPostRefIdeal : Cert.QkPostRefIdeal.Facts] : Prop :=
  ∀ (m : (ℓ : Loc Cert.QkPostIdeal.nD Cert.QkPostIdeal.τ Cert.QkPostIdeal.sig) → Buf (Elt Ideal) ℓ) (g : Dev Cert.QkPostIdeal.nD → PrngReg)
    (m' : (ℓ : Loc Cert.QkPostRefIdeal.nD Cert.QkPostRefIdeal.τ Cert.QkPostRefIdeal.sig) → Buf (Elt Ideal) ℓ) (g' : Dev Cert.QkPostRefIdeal.nD → PrngReg), Pre_QkPostIdeal m →
    (∀ c : Dev Cert.QkPostIdeal.nD,
      m' ((c.tc : Thread Cert.QkPostRefIdeal.nD Cert.QkPostRefIdeal.τ).loc Cert.QkPostRefIdeal.main_arg0) = m ((c.tc : Thread Cert.QkPostIdeal.nD Cert.QkPostIdeal.τ).loc Cert.QkPostIdeal.main_arg0)
      ∧ m' ((c.tc : Thread Cert.QkPostRefIdeal.nD Cert.QkPostRefIdeal.τ).loc Cert.QkPostRefIdeal.main_arg1) = m ((c.tc : Thread Cert.QkPostIdeal.nD Cert.QkPostIdeal.τ).loc Cert.QkPostIdeal.main_arg1)
      ∧ m' ((c.tc : Thread Cert.QkPostRefIdeal.nD Cert.QkPostRefIdeal.τ).loc Cert.QkPostRefIdeal.main_arg2) = m ((c.tc : Thread Cert.QkPostIdeal.nD Cert.QkPostIdeal.τ).loc Cert.QkPostIdeal.main_arg2)
      ∧ m' ((c.tc : Thread Cert.QkPostRefIdeal.nD Cert.QkPostRefIdeal.τ).loc Cert.QkPostRefIdeal.main_arg3) = m ((c.tc : Thread Cert.QkPostIdeal.nD Cert.QkPostIdeal.τ).loc Cert.QkPostIdeal.main_arg3)
      ∧ m' ((c.tc : Thread Cert.QkPostRefIdeal.nD Cert.QkPostRefIdeal.τ).loc Cert.QkPostRefIdeal.main_arg4) = m ((c.tc : Thread Cert.QkPostIdeal.nD Cert.QkPostIdeal.τ).loc Cert.QkPostIdeal.main_arg4)) →
    ∃ (v0 : (c : Dev Cert.QkPostIdeal.nD) → Buf (Elt Ideal) ((c.tc : Thread Cert.QkPostIdeal.nD Cert.QkPostIdeal.τ).loc Cert.QkPostIdeal.main_v71_0)) (v1 : (c : Dev Cert.QkPostIdeal.nD) → Buf (Elt Ideal) ((c.tc : Thread Cert.QkPostIdeal.nD Cert.QkPostIdeal.τ).loc Cert.QkPostIdeal.main_v71_1)) (v2 : (c : Dev Cert.QkPostIdeal.nD) → Buf (Elt Ideal) ((c.tc : Thread Cert.QkPostIdeal.nD Cert.QkPostIdeal.τ).loc Cert.QkPostIdeal.main_v71_2)) (v3 : (c : Dev Cert.QkPostIdeal.nD) → Buf (Elt Ideal) ((c.tc : Thread Cert.QkPostIdeal.nD Cert.QkPostIdeal.τ).loc Cert.QkPostIdeal.main_v71_3)) (v4 : (c : Dev Cert.QkPostIdeal.nD) → Buf (Elt Ideal) ((c.tc : Thread Cert.QkPostIdeal.nD Cert.QkPostIdeal.τ).loc Cert.QkPostIdeal.main_v71_4)) (v5 : (c : Dev Cert.QkPostIdeal.nD) → Buf (Elt Ideal) ((c.tc : Thread Cert.QkPostIdeal.nD Cert.QkPostIdeal.τ).loc Cert.QkPostIdeal.main_v71_5)) (v6 : (c : Dev Cert.QkPostIdeal.nD) → Buf (Elt Ideal) ((c.tc : Thread Cert.QkPostIdeal.nD Cert.QkPostIdeal.τ).loc Cert.QkPostIdeal.main_v71_6)) (v7 : (c : Dev Cert.QkPostIdeal.nD) → Buf (Elt Ideal) ((c.tc : Thread Cert.QkPostIdeal.nD Cert.QkPostIdeal.τ).loc Cert.QkPostIdeal.main_v71_7)) (v8 : (c : Dev Cert.QkPostIdeal.nD) → Buf (Elt Ideal) ((c.tc : Thread Cert.QkPostIdeal.nD Cert.QkPostIdeal.τ).loc Cert.QkPostIdeal.main_v71_8)),
      θ_run (Cert.QkPostIdeal.defs (F := Ideal)) (onTc (τ := Cert.QkPostIdeal.τ) (Cert.QkPostIdeal.main (F := Ideal))) ⟨m, fun _ => 0, g⟩ (fun r => ∀ c : Dev Cert.QkPostIdeal.nD,
          r.2.mem ((c.tc : Thread Cert.QkPostIdeal.nD Cert.QkPostIdeal.τ).loc Cert.QkPostIdeal.main_v71_0) = v0 c
          ∧ r.2.mem ((c.tc : Thread Cert.QkPostIdeal.nD Cert.QkPostIdeal.τ).loc Cert.QkPostIdeal.main_v71_1) = v1 c
          ∧ r.2.mem ((c.tc : Thread Cert.QkPostIdeal.nD Cert.QkPostIdeal.τ).loc Cert.QkPostIdeal.main_v71_2) = v2 c
          ∧ r.2.mem ((c.tc : Thread Cert.QkPostIdeal.nD Cert.QkPostIdeal.τ).loc Cert.QkPostIdeal.main_v71_3) = v3 c
          ∧ r.2.mem ((c.tc : Thread Cert.QkPostIdeal.nD Cert.QkPostIdeal.τ).loc Cert.QkPostIdeal.main_v71_4) = v4 c
          ∧ r.2.mem ((c.tc : Thread Cert.QkPostIdeal.nD Cert.QkPostIdeal.τ).loc Cert.QkPostIdeal.main_v71_5) = v5 c
          ∧ r.2.mem ((c.tc : Thread Cert.QkPostIdeal.nD Cert.QkPostIdeal.τ).loc Cert.QkPostIdeal.main_v71_6) = v6 c
          ∧ r.2.mem ((c.tc : Thread Cert.QkPostIdeal.nD Cert.QkPostIdeal.τ).loc Cert.QkPostIdeal.main_v71_7) = v7 c
          ∧ r.2.mem ((c.tc : Thread Cert.QkPostIdeal.nD Cert.QkPostIdeal.τ).loc Cert.QkPostIdeal.main_v71_8) = v8 c
          ∧ r.2.mem ((c.tc : Thread Cert.QkPostIdeal.nD Cert.QkPostIdeal.τ).loc Cert.QkPostIdeal.main_arg0) = m ((c.tc : Thread Cert.QkPostIdeal.nD Cert.QkPostIdeal.τ).loc Cert.QkPostIdeal.main_arg0)
          ∧ r.2.mem ((c.tc : Thread Cert.QkPostIdeal.nD Cert.QkPostIdeal.τ).loc Cert.QkPostIdeal.main_arg1) = m ((c.tc : Thread Cert.QkPostIdeal.nD Cert.QkPostIdeal.τ).loc Cert.QkPostIdeal.main_arg1)
          ∧ r.2.mem ((c.tc : Thread Cert.QkPostIdeal.nD Cert.QkPostIdeal.τ).loc Cert.QkPostIdeal.main_arg2) = m ((c.tc : Thread Cert.QkPostIdeal.nD Cert.QkPostIdeal.τ).loc Cert.QkPostIdeal.main_arg2)
          ∧ r.2.mem ((c.tc : Thread Cert.QkPostIdeal.nD Cert.QkPostIdeal.τ).loc Cert.QkPostIdeal.main_arg3) = m ((c.tc : Thread Cert.QkPostIdeal.nD Cert.QkPostIdeal.τ).loc Cert.QkPostIdeal.main_arg3)
          ∧ r.2.mem ((c.tc : Thread Cert.QkPostIdeal.nD Cert.QkPostIdeal.τ).loc Cert.QkPostIdeal.main_arg4) = m ((c.tc : Thread Cert.QkPostIdeal.nD Cert.QkPostIdeal.τ).loc Cert.QkPostIdeal.main_arg4))
      ∧ θ_run (Cert.QkPostRefIdeal.defs (F := Ideal)) (onTc (τ := Cert.QkPostRefIdeal.τ) (Cert.QkPostRefIdeal.main (F := Ideal))) ⟨m', fun _ => 0, g'⟩ (fun r => ∀ c : Dev Cert.QkPostRefIdeal.nD,
          r.2.mem ((c.tc : Thread Cert.QkPostRefIdeal.nD Cert.QkPostRefIdeal.τ).loc Cert.QkPostRefIdeal.main_v141) = v0 c
          ∧ r.2.mem ((c.tc : Thread Cert.QkPostRefIdeal.nD Cert.QkPostRefIdeal.τ).loc Cert.QkPostRefIdeal.main_v97) = v1 c
          ∧ r.2.mem ((c.tc : Thread Cert.QkPostRefIdeal.nD Cert.QkPostRefIdeal.τ).loc Cert.QkPostRefIdeal.main_v142) = v2 c
          ∧ r.2.mem ((c.tc : Thread Cert.QkPostRefIdeal.nD Cert.QkPostRefIdeal.τ).loc Cert.QkPostRefIdeal.main_v2) = v3 c
          ∧ r.2.mem ((c.tc : Thread Cert.QkPostRefIdeal.nD Cert.QkPostRefIdeal.τ).loc Cert.QkPostRefIdeal.main_v143) = v4 c
          ∧ r.2.mem ((c.tc : Thread Cert.QkPostRefIdeal.nD Cert.QkPostRefIdeal.τ).loc Cert.QkPostRefIdeal.main_v190) = v5 c
          ∧ r.2.mem ((c.tc : Thread Cert.QkPostRefIdeal.nD Cert.QkPostRefIdeal.τ).loc Cert.QkPostRefIdeal.main_v140) = v6 c
          ∧ r.2.mem ((c.tc : Thread Cert.QkPostRefIdeal.nD Cert.QkPostRefIdeal.τ).loc Cert.QkPostRefIdeal.main_v191) = v7 c
          ∧ r.2.mem ((c.tc : Thread Cert.QkPostRefIdeal.nD Cert.QkPostRefIdeal.τ).loc Cert.QkPostRefIdeal.main_v189) = v8 c
          ∧ r.2.mem ((c.tc : Thread Cert.QkPostRefIdeal.nD Cert.QkPostRefIdeal.τ).loc Cert.QkPostRefIdeal.main_arg0) = m' ((c.tc : Thread Cert.QkPostRefIdeal.nD Cert.QkPostRefIdeal.τ).loc Cert.QkPostRefIdeal.main_arg0)
          ∧ r.2.mem ((c.tc : Thread Cert.QkPostRefIdeal.nD Cert.QkPostRefIdeal.τ).loc Cert.QkPostRefIdeal.main_arg1) = m' ((c.tc : Thread Cert.QkPostRefIdeal.nD Cert.QkPostRefIdeal.τ).loc Cert.QkPostRefIdeal.main_arg1)
          ∧ r.2.mem ((c.tc : Thread Cert.QkPostRefIdeal.nD Cert.QkPostRefIdeal.τ).loc Cert.QkPostRefIdeal.main_arg2) = m' ((c.tc : Thread Cert.QkPostRefIdeal.nD Cert.QkPostRefIdeal.τ).loc Cert.QkPostRefIdeal.main_arg2)
          ∧ r.2.mem ((c.tc : Thread Cert.QkPostRefIdeal.nD Cert.QkPostRefIdeal.τ).loc Cert.QkPostRefIdeal.main_arg3) = m' ((c.tc : Thread Cert.QkPostRefIdeal.nD Cert.QkPostRefIdeal.τ).loc Cert.QkPostRefIdeal.main_arg3)
          ∧ r.2.mem ((c.tc : Thread Cert.QkPostRefIdeal.nD Cert.QkPostRefIdeal.τ).loc Cert.QkPostRefIdeal.main_arg4) = m' ((c.tc : Thread Cert.QkPostRefIdeal.nD Cert.QkPostRefIdeal.τ).loc Cert.QkPostRefIdeal.main_arg4))

def preserves_Merge_MergeIdeal : Prop :=
  True

def algebraic_MergeIdeal_MergeRefIdeal [hMergeIdeal : Cert.MergeIdeal.Facts] [hMergeRefIdeal : Cert.MergeRefIdeal.Facts] : Prop :=
  ∀ (m : (ℓ : Loc Cert.MergeIdeal.nD Cert.MergeIdeal.τ Cert.MergeIdeal.sig) → Buf (Elt Ideal) ℓ) (g : Dev Cert.MergeIdeal.nD → PrngReg)
    (m' : (ℓ : Loc Cert.MergeRefIdeal.nD Cert.MergeRefIdeal.τ Cert.MergeRefIdeal.sig) → Buf (Elt Ideal) ℓ) (g' : Dev Cert.MergeRefIdeal.nD → PrngReg), Pre_MergeIdeal m →
    (∀ c : Dev Cert.MergeIdeal.nD,
      m' ((c.tc : Thread Cert.MergeRefIdeal.nD Cert.MergeRefIdeal.τ).loc Cert.MergeRefIdeal.main_arg0) = m ((c.tc : Thread Cert.MergeIdeal.nD Cert.MergeIdeal.τ).loc Cert.MergeIdeal.main_arg0)
      ∧ m' ((c.tc : Thread Cert.MergeRefIdeal.nD Cert.MergeRefIdeal.τ).loc Cert.MergeRefIdeal.main_arg1) = m ((c.tc : Thread Cert.MergeIdeal.nD Cert.MergeIdeal.τ).loc Cert.MergeIdeal.main_arg1)
      ∧ m' ((c.tc : Thread Cert.MergeRefIdeal.nD Cert.MergeRefIdeal.τ).loc Cert.MergeRefIdeal.main_arg2) = m ((c.tc : Thread Cert.MergeIdeal.nD Cert.MergeIdeal.τ).loc Cert.MergeIdeal.main_arg2)
      ∧ m' ((c.tc : Thread Cert.MergeRefIdeal.nD Cert.MergeRefIdeal.τ).loc Cert.MergeRefIdeal.main_arg3) = m ((c.tc : Thread Cert.MergeIdeal.nD Cert.MergeIdeal.τ).loc Cert.MergeIdeal.main_arg3)
      ∧ m' ((c.tc : Thread Cert.MergeRefIdeal.nD Cert.MergeRefIdeal.τ).loc Cert.MergeRefIdeal.main_arg4) = m ((c.tc : Thread Cert.MergeIdeal.nD Cert.MergeIdeal.τ).loc Cert.MergeIdeal.main_arg4)
      ∧ m' ((c.tc : Thread Cert.MergeRefIdeal.nD Cert.MergeRefIdeal.τ).loc Cert.MergeRefIdeal.main_arg5) = m ((c.tc : Thread Cert.MergeIdeal.nD Cert.MergeIdeal.τ).loc Cert.MergeIdeal.main_arg5)) →
    ∃ (v0 : (c : Dev Cert.MergeIdeal.nD) → Buf (Elt Ideal) ((c.tc : Thread Cert.MergeIdeal.nD Cert.MergeIdeal.τ).loc Cert.MergeIdeal.main_v3)),
      θ_run (Cert.MergeIdeal.defs (F := Ideal)) (onTc (τ := Cert.MergeIdeal.τ) (Cert.MergeIdeal.main (F := Ideal))) ⟨m, fun _ => 0, g⟩ (fun r => ∀ c : Dev Cert.MergeIdeal.nD,
          r.2.mem ((c.tc : Thread Cert.MergeIdeal.nD Cert.MergeIdeal.τ).loc Cert.MergeIdeal.main_v3) = v0 c
          ∧ r.2.mem ((c.tc : Thread Cert.MergeIdeal.nD Cert.MergeIdeal.τ).loc Cert.MergeIdeal.main_arg0) = m ((c.tc : Thread Cert.MergeIdeal.nD Cert.MergeIdeal.τ).loc Cert.MergeIdeal.main_arg0)
          ∧ r.2.mem ((c.tc : Thread Cert.MergeIdeal.nD Cert.MergeIdeal.τ).loc Cert.MergeIdeal.main_arg1) = m ((c.tc : Thread Cert.MergeIdeal.nD Cert.MergeIdeal.τ).loc Cert.MergeIdeal.main_arg1)
          ∧ r.2.mem ((c.tc : Thread Cert.MergeIdeal.nD Cert.MergeIdeal.τ).loc Cert.MergeIdeal.main_arg2) = m ((c.tc : Thread Cert.MergeIdeal.nD Cert.MergeIdeal.τ).loc Cert.MergeIdeal.main_arg2)
          ∧ r.2.mem ((c.tc : Thread Cert.MergeIdeal.nD Cert.MergeIdeal.τ).loc Cert.MergeIdeal.main_arg3) = m ((c.tc : Thread Cert.MergeIdeal.nD Cert.MergeIdeal.τ).loc Cert.MergeIdeal.main_arg3)
          ∧ r.2.mem ((c.tc : Thread Cert.MergeIdeal.nD Cert.MergeIdeal.τ).loc Cert.MergeIdeal.main_arg4) = m ((c.tc : Thread Cert.MergeIdeal.nD Cert.MergeIdeal.τ).loc Cert.MergeIdeal.main_arg4)
          ∧ r.2.mem ((c.tc : Thread Cert.MergeIdeal.nD Cert.MergeIdeal.τ).loc Cert.MergeIdeal.main_arg5) = m ((c.tc : Thread Cert.MergeIdeal.nD Cert.MergeIdeal.τ).loc Cert.MergeIdeal.main_arg5))
      ∧ θ_run (Cert.MergeRefIdeal.defs (F := Ideal)) (onTc (τ := Cert.MergeRefIdeal.τ) (Cert.MergeRefIdeal.main (F := Ideal))) ⟨m', fun _ => 0, g'⟩ (fun r => ∀ c : Dev Cert.MergeRefIdeal.nD,
          r.2.mem ((c.tc : Thread Cert.MergeRefIdeal.nD Cert.MergeRefIdeal.τ).loc Cert.MergeRefIdeal.main_v29) = v0 c
          ∧ r.2.mem ((c.tc : Thread Cert.MergeRefIdeal.nD Cert.MergeRefIdeal.τ).loc Cert.MergeRefIdeal.main_arg0) = m' ((c.tc : Thread Cert.MergeRefIdeal.nD Cert.MergeRefIdeal.τ).loc Cert.MergeRefIdeal.main_arg0)
          ∧ r.2.mem ((c.tc : Thread Cert.MergeRefIdeal.nD Cert.MergeRefIdeal.τ).loc Cert.MergeRefIdeal.main_arg1) = m' ((c.tc : Thread Cert.MergeRefIdeal.nD Cert.MergeRefIdeal.τ).loc Cert.MergeRefIdeal.main_arg1)
          ∧ r.2.mem ((c.tc : Thread Cert.MergeRefIdeal.nD Cert.MergeRefIdeal.τ).loc Cert.MergeRefIdeal.main_arg2) = m' ((c.tc : Thread Cert.MergeRefIdeal.nD Cert.MergeRefIdeal.τ).loc Cert.MergeRefIdeal.main_arg2)
          ∧ r.2.mem ((c.tc : Thread Cert.MergeRefIdeal.nD Cert.MergeRefIdeal.τ).loc Cert.MergeRefIdeal.main_arg3) = m' ((c.tc : Thread Cert.MergeRefIdeal.nD Cert.MergeRefIdeal.τ).loc Cert.MergeRefIdeal.main_arg3)
          ∧ r.2.mem ((c.tc : Thread Cert.MergeRefIdeal.nD Cert.MergeRefIdeal.τ).loc Cert.MergeRefIdeal.main_arg4) = m' ((c.tc : Thread Cert.MergeRefIdeal.nD Cert.MergeRefIdeal.τ).loc Cert.MergeRefIdeal.main_arg4)
          ∧ r.2.mem ((c.tc : Thread Cert.MergeRefIdeal.nD Cert.MergeRefIdeal.τ).loc Cert.MergeRefIdeal.main_arg5) = m' ((c.tc : Thread Cert.MergeRefIdeal.nD Cert.MergeRefIdeal.τ).loc Cert.MergeRefIdeal.main_arg5))

def preserves_OutProj_OutProjIdeal : Prop :=
  True

def algebraic_OutProjIdeal_OutProjRefIdeal [hOutProjIdeal : Cert.OutProjIdeal.Facts] [hOutProjRefIdeal : Cert.OutProjRefIdeal.Facts] : Prop :=
  ∀ (m : (ℓ : Loc Cert.OutProjIdeal.nD Cert.OutProjIdeal.τ Cert.OutProjIdeal.sig) → Buf (Elt Ideal) ℓ) (g : Dev Cert.OutProjIdeal.nD → PrngReg)
    (m' : (ℓ : Loc Cert.OutProjRefIdeal.nD Cert.OutProjRefIdeal.τ Cert.OutProjRefIdeal.sig) → Buf (Elt Ideal) ℓ) (g' : Dev Cert.OutProjRefIdeal.nD → PrngReg), Pre_OutProjIdeal m →
    (∀ c : Dev Cert.OutProjIdeal.nD,
      m' ((c.tc : Thread Cert.OutProjRefIdeal.nD Cert.OutProjRefIdeal.τ).loc Cert.OutProjRefIdeal.main_arg0) = m ((c.tc : Thread Cert.OutProjIdeal.nD Cert.OutProjIdeal.τ).loc Cert.OutProjIdeal.main_arg0)
      ∧ m' ((c.tc : Thread Cert.OutProjRefIdeal.nD Cert.OutProjRefIdeal.τ).loc Cert.OutProjRefIdeal.main_arg1) = m ((c.tc : Thread Cert.OutProjIdeal.nD Cert.OutProjIdeal.τ).loc Cert.OutProjIdeal.main_arg1)
      ∧ m' ((c.tc : Thread Cert.OutProjRefIdeal.nD Cert.OutProjRefIdeal.τ).loc Cert.OutProjRefIdeal.main_arg2) = m ((c.tc : Thread Cert.OutProjIdeal.nD Cert.OutProjIdeal.τ).loc Cert.OutProjIdeal.main_arg2)
      ∧ m' ((c.tc : Thread Cert.OutProjRefIdeal.nD Cert.OutProjRefIdeal.τ).loc Cert.OutProjRefIdeal.main_arg3) = m ((c.tc : Thread Cert.OutProjIdeal.nD Cert.OutProjIdeal.τ).loc Cert.OutProjIdeal.main_arg3)
      ∧ m' ((c.tc : Thread Cert.OutProjRefIdeal.nD Cert.OutProjRefIdeal.τ).loc Cert.OutProjRefIdeal.main_arg4) = m ((c.tc : Thread Cert.OutProjIdeal.nD Cert.OutProjIdeal.τ).loc Cert.OutProjIdeal.main_arg4)
      ∧ m' ((c.tc : Thread Cert.OutProjRefIdeal.nD Cert.OutProjRefIdeal.τ).loc Cert.OutProjRefIdeal.main_arg5) = m ((c.tc : Thread Cert.OutProjIdeal.nD Cert.OutProjIdeal.τ).loc Cert.OutProjIdeal.main_arg5)) →
    ∃ (v0 : (c : Dev Cert.OutProjIdeal.nD) → Buf (Elt Ideal) ((c.tc : Thread Cert.OutProjIdeal.nD Cert.OutProjIdeal.τ).loc Cert.OutProjIdeal.main_v11_0)) (v1 : (c : Dev Cert.OutProjIdeal.nD) → Buf (Elt Ideal) ((c.tc : Thread Cert.OutProjIdeal.nD Cert.OutProjIdeal.τ).loc Cert.OutProjIdeal.main_v11_1)),
      θ_run (Cert.OutProjIdeal.defs (F := Ideal)) (onTc (τ := Cert.OutProjIdeal.τ) (Cert.OutProjIdeal.main (F := Ideal))) ⟨m, fun _ => 0, g⟩ (fun r => ∀ c : Dev Cert.OutProjIdeal.nD,
          r.2.mem ((c.tc : Thread Cert.OutProjIdeal.nD Cert.OutProjIdeal.τ).loc Cert.OutProjIdeal.main_v11_0) = v0 c
          ∧ r.2.mem ((c.tc : Thread Cert.OutProjIdeal.nD Cert.OutProjIdeal.τ).loc Cert.OutProjIdeal.main_v11_1) = v1 c
          ∧ r.2.mem ((c.tc : Thread Cert.OutProjIdeal.nD Cert.OutProjIdeal.τ).loc Cert.OutProjIdeal.main_arg0) = m ((c.tc : Thread Cert.OutProjIdeal.nD Cert.OutProjIdeal.τ).loc Cert.OutProjIdeal.main_arg0)
          ∧ r.2.mem ((c.tc : Thread Cert.OutProjIdeal.nD Cert.OutProjIdeal.τ).loc Cert.OutProjIdeal.main_arg1) = m ((c.tc : Thread Cert.OutProjIdeal.nD Cert.OutProjIdeal.τ).loc Cert.OutProjIdeal.main_arg1)
          ∧ r.2.mem ((c.tc : Thread Cert.OutProjIdeal.nD Cert.OutProjIdeal.τ).loc Cert.OutProjIdeal.main_arg2) = m ((c.tc : Thread Cert.OutProjIdeal.nD Cert.OutProjIdeal.τ).loc Cert.OutProjIdeal.main_arg2)
          ∧ r.2.mem ((c.tc : Thread Cert.OutProjIdeal.nD Cert.OutProjIdeal.τ).loc Cert.OutProjIdeal.main_arg3) = m ((c.tc : Thread Cert.OutProjIdeal.nD Cert.OutProjIdeal.τ).loc Cert.OutProjIdeal.main_arg3)
          ∧ r.2.mem ((c.tc : Thread Cert.OutProjIdeal.nD Cert.OutProjIdeal.τ).loc Cert.OutProjIdeal.main_arg4) = m ((c.tc : Thread Cert.OutProjIdeal.nD Cert.OutProjIdeal.τ).loc Cert.OutProjIdeal.main_arg4)
          ∧ r.2.mem ((c.tc : Thread Cert.OutProjIdeal.nD Cert.OutProjIdeal.τ).loc Cert.OutProjIdeal.main_arg5) = m ((c.tc : Thread Cert.OutProjIdeal.nD Cert.OutProjIdeal.τ).loc Cert.OutProjIdeal.main_arg5))
      ∧ θ_run (Cert.OutProjRefIdeal.defs (F := Ideal)) (onTc (τ := Cert.OutProjRefIdeal.τ) (Cert.OutProjRefIdeal.main (F := Ideal))) ⟨m', fun _ => 0, g'⟩ (fun r => ∀ c : Dev Cert.OutProjRefIdeal.nD,
          r.2.mem ((c.tc : Thread Cert.OutProjRefIdeal.nD Cert.OutProjRefIdeal.τ).loc Cert.OutProjRefIdeal.main_v2) = v0 c
          ∧ r.2.mem ((c.tc : Thread Cert.OutProjRefIdeal.nD Cert.OutProjRefIdeal.τ).loc Cert.OutProjRefIdeal.main_v15) = v1 c
          ∧ r.2.mem ((c.tc : Thread Cert.OutProjRefIdeal.nD Cert.OutProjRefIdeal.τ).loc Cert.OutProjRefIdeal.main_arg0) = m' ((c.tc : Thread Cert.OutProjRefIdeal.nD Cert.OutProjRefIdeal.τ).loc Cert.OutProjRefIdeal.main_arg0)
          ∧ r.2.mem ((c.tc : Thread Cert.OutProjRefIdeal.nD Cert.OutProjRefIdeal.τ).loc Cert.OutProjRefIdeal.main_arg1) = m' ((c.tc : Thread Cert.OutProjRefIdeal.nD Cert.OutProjRefIdeal.τ).loc Cert.OutProjRefIdeal.main_arg1)
          ∧ r.2.mem ((c.tc : Thread Cert.OutProjRefIdeal.nD Cert.OutProjRefIdeal.τ).loc Cert.OutProjRefIdeal.main_arg2) = m' ((c.tc : Thread Cert.OutProjRefIdeal.nD Cert.OutProjRefIdeal.τ).loc Cert.OutProjRefIdeal.main_arg2)
          ∧ r.2.mem ((c.tc : Thread Cert.OutProjRefIdeal.nD Cert.OutProjRefIdeal.τ).loc Cert.OutProjRefIdeal.main_arg3) = m' ((c.tc : Thread Cert.OutProjRefIdeal.nD Cert.OutProjRefIdeal.τ).loc Cert.OutProjRefIdeal.main_arg3)
          ∧ r.2.mem ((c.tc : Thread Cert.OutProjRefIdeal.nD Cert.OutProjRefIdeal.τ).loc Cert.OutProjRefIdeal.main_arg4) = m' ((c.tc : Thread Cert.OutProjRefIdeal.nD Cert.OutProjRefIdeal.τ).loc Cert.OutProjRefIdeal.main_arg4)
          ∧ r.2.mem ((c.tc : Thread Cert.OutProjRefIdeal.nD Cert.OutProjRefIdeal.τ).loc Cert.OutProjRefIdeal.main_arg5) = m' ((c.tc : Thread Cert.OutProjRefIdeal.nD Cert.OutProjRefIdeal.τ).loc Cert.OutProjRefIdeal.main_arg5))

def Claim : Prop :=
  ∃ (hMoe : Cert.Moe.Facts) (hMoeIdeal : Cert.MoeIdeal.Facts) (hMoeRefIdeal : Cert.MoeRefIdeal.Facts) (hInProj : Cert.InProj.Facts) (hInProjIdeal : Cert.InProjIdeal.Facts) (hInProjRefIdeal : Cert.InProjRefIdeal.Facts) (hQkPost : Cert.QkPost.Facts) (hQkPostIdeal : Cert.QkPostIdeal.Facts) (hQkPostRefIdeal : Cert.QkPostRefIdeal.Facts) (hMerge : Cert.Merge.Facts) (hMergeIdeal : Cert.MergeIdeal.Facts) (hMergeRefIdeal : Cert.MergeRefIdeal.Facts) (hOutProj : Cert.OutProj.Facts) (hOutProjIdeal : Cert.OutProjIdeal.Facts) (hOutProjRefIdeal : Cert.OutProjRefIdeal.Facts) (hDsa1 : Cert.Dsa1.Facts) (hDsa2 : Cert.Dsa2.Facts) (hDsa3 : Cert.Dsa3.Facts) (hDsa4 : Cert.Dsa4.Facts) (hDsaStep : Cert.DsaStep.Facts) (hPre_moe_range : Cert.Pre_moe_range.Facts),
    quiescent_Moe (hMoe := hMoe) (hPre_moe_range := hPre_moe_range)
    ∧ quiescent_MoeIdeal (hMoeIdeal := hMoeIdeal) (hPre_moe_range := hPre_moe_range)
    ∧ quiescent_MoeRefIdeal (hMoeRefIdeal := hMoeRefIdeal)
    ∧ quiescent_MoeRefIdeal_pre_moe_range (hMoeRefIdeal := hMoeRefIdeal) (hPre_moe_range := hPre_moe_range)
    ∧ quiescent_InProj (hInProj := hInProj)
    ∧ quiescent_InProjIdeal (hInProjIdeal := hInProjIdeal)
    ∧ quiescent_InProjRefIdeal (hInProjRefIdeal := hInProjRefIdeal)
    ∧ quiescent_QkPost (hQkPost := hQkPost)
    ∧ quiescent_QkPostIdeal (hQkPostIdeal := hQkPostIdeal)
    ∧ quiescent_QkPostRefIdeal (hQkPostRefIdeal := hQkPostRefIdeal)
    ∧ quiescent_Merge (hMerge := hMerge)
    ∧ quiescent_MergeIdeal (hMergeIdeal := hMergeIdeal)
    ∧ quiescent_MergeRefIdeal (hMergeRefIdeal := hMergeRefIdeal)
    ∧ quiescent_OutProj (hOutProj := hOutProj)
    ∧ quiescent_OutProjIdeal (hOutProjIdeal := hOutProjIdeal)
    ∧ quiescent_OutProjRefIdeal (hOutProjRefIdeal := hOutProjRefIdeal)
    ∧ quiescent_Dsa1 (hDsa1 := hDsa1)
    ∧ quiescent_Dsa2 (hDsa2 := hDsa2)
    ∧ quiescent_Dsa3 (hDsa3 := hDsa3)
    ∧ quiescent_Dsa4 (hDsa4 := hDsa4)
    ∧ quiescent_DsaStep (hDsaStep := hDsaStep)
    ∧ preserves_Moe_MoeIdeal
    ∧ algebraic_MoeIdeal_MoeRefIdeal (hMoeIdeal := hMoeIdeal) (hMoeRefIdeal := hMoeRefIdeal) (hPre_moe_range := hPre_moe_range)
    ∧ preserves_InProj_InProjIdeal
    ∧ algebraic_InProjIdeal_InProjRefIdeal (hInProjIdeal := hInProjIdeal) (hInProjRefIdeal := hInProjRefIdeal)
    ∧ preserves_QkPost_QkPostIdeal
    ∧ algebraic_QkPostIdeal_QkPostRefIdeal (hQkPostIdeal := hQkPostIdeal) (hQkPostRefIdeal := hQkPostRefIdeal)
    ∧ preserves_Merge_MergeIdeal
    ∧ algebraic_MergeIdeal_MergeRefIdeal (hMergeIdeal := hMergeIdeal) (hMergeRefIdeal := hMergeRefIdeal)
    ∧ preserves_OutProj_OutProjIdeal
    ∧ algebraic_OutProjIdeal_OutProjRefIdeal (hOutProjIdeal := hOutProjIdeal) (hOutProjRefIdeal := hOutProjRefIdeal)
-- ==== Pre_moe_range.lean ====
abbrev S168 : Shape := ⟨1, ![168]⟩
abbrev S1 : Shape := ⟨1, ![1]⟩
abbrev S43008x2048 : Shape := ⟨2, ![43008, 2048]⟩
abbrev S32x2048x1024 : Shape := ⟨3, ![32, 2048, 1024]⟩
abbrev S32x1024x2048 : Shape := ⟨3, ![32, 1024, 2048]⟩
abbrev S_ : Shape := ⟨0, ![]⟩

class Facts : Prop where
  bcast_S_S168 : S_.BroadcastsInDim S168 (![] : Fin 0 → Fin S168.rank)
  bcast_S_S1 : S_.BroadcastsInDim S1 (![] : Fin 0 → Fin S1.rank)
  bcast_S1_S168_0 : S1.BroadcastsInDim S168 (![0] : Fin 1 → Fin S168.rank)

variable [Facts]

def fn {F : FTy → Type} [FloatOps F] (main_arg0 : IVec S168 32) (main_arg1 : IVec S1 32) (main_arg2 : FVec F S43008x2048 .f32) (main_arg3 : FVec F S32x2048x1024 .bf16) (main_arg4 : FVec F S32x2048x1024 .bf16) (main_arg5 : FVec F S32x1024x2048 .bf16) : IVec S168 1 :=
  let main_c : IVec S_ 32 := constantI S_ 32 0#32
  let main_v0 : IVec S168 32 := broadcastInDim S168 ![] bcast_S_S168 main_c
  let main_v1 : IVec S168 1 := cmpi .sge main_arg0 main_v0
  let main_c_0 : IVec S_ 32 := constantI S_ 32 32#32
  let main_v2 : IVec S168 32 := broadcastInDim S168 ![] bcast_S_S168 main_c_0
  let main_v3 : IVec S168 1 := cmpi .slt main_arg0 main_v2
  let main_v4 : IVec S168 1 := andi main_v1 main_v3
  let main_c_1 : IVec S_ 32 := constantI S_ 32 1#32
  let main_v5 : IVec S1 32 := broadcastInDim S1 ![] bcast_S_S1 main_c_1
  let main_v6 : IVec S1 1 := cmpi .sge main_arg1 main_v5
  let main_v7 : IVec S168 1 := broadcastInDim S168 ![0] bcast_S1_S168_0 main_v6
  let main_v8 : IVec S168 1 := andi main_v4 main_v7
  main_v8
-- ==== Moe.lean ====
abbrev S168 : Shape := ⟨1, ![168]⟩
abbrev S1 : Shape := ⟨1, ![1]⟩
abbrev S43008x2048 : Shape := ⟨2, ![43008, 2048]⟩
abbrev S32x2048x1024 : Shape := ⟨3, ![32, 2048, 1024]⟩
abbrev S32x1024x2048 : Shape := ⟨3, ![32, 1024, 2048]⟩
abbrev S256x2048 : Shape := ⟨2, ![256, 2048]⟩
abbrev S1x2048x1024 : Shape := ⟨3, ![1, 2048, 1024]⟩
abbrev S1x1024x2048 : Shape := ⟨3, ![1, 1024, 2048]⟩
abbrev S2048x1024 : Shape := ⟨2, ![2048, 1024]⟩
abbrev S256x1024 : Shape := ⟨2, ![256, 1024]⟩
abbrev S1024x2048 : Shape := ⟨2, ![1024, 2048]⟩

abbrev nBuf : Space → Nat
  | .hbm => 5
  | .vmem => 10
  | .smem => 2
  | _ => 0

abbrev bufTy : (tb : Table) → Fin (tcTables nBuf tb) → BufTy
  | .hbm, ⟨0, _⟩ => ⟨S43008x2048, .f32⟩
  | .hbm, ⟨1, _⟩ => ⟨S32x2048x1024, .bf16⟩
  | .hbm, ⟨2, _⟩ => ⟨S32x2048x1024, .bf16⟩
  | .hbm, ⟨3, _⟩ => ⟨S32x1024x2048, .bf16⟩
  | .hbm, ⟨4, _⟩ => ⟨S43008x2048, .f32⟩
  | .local _ .vmem, ⟨0, _⟩ => ⟨S256x2048, .f32⟩
  | .local _ .vmem, ⟨1, _⟩ => ⟨S256x2048, .f32⟩
  | .local _ .vmem, ⟨2, _⟩ => ⟨S1x2048x1024, .bf16⟩
  | .local _ .vmem, ⟨3, _⟩ => ⟨S1x2048x1024, .bf16⟩
  | .local _ .vmem, ⟨4, _⟩ => ⟨S1x2048x1024, .bf16⟩
  | .local _ .vmem, ⟨5, _⟩ => ⟨S1x2048x1024, .bf16⟩
  | .local _ .vmem, ⟨6, _⟩ => ⟨S1x1024x2048, .bf16⟩
  | .local _ .vmem, ⟨7, _⟩ => ⟨S1x1024x2048, .bf16⟩
  | .local _ .vmem, ⟨8, _⟩ => ⟨S256x2048, .f32⟩
  | .local _ .vmem, ⟨9, _⟩ => ⟨S256x2048, .f32⟩
  | .local _ .smem, ⟨0, _⟩ => ⟨S168, .i32⟩
  | .local _ .smem, ⟨1, _⟩ => ⟨S1, .i32⟩
  | _, _ => ⟨S43008x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![168], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S168.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S168) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1024x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== MoeRefIdeal.lean ====
abbrev S168 : Shape := ⟨1, ![168]⟩
abbrev S1 : Shape := ⟨1, ![1]⟩
abbrev S43008x2048 : Shape := ⟨2, ![43008, 2048]⟩
abbrev S32x2048x1024 : Shape := ⟨3, ![32, 2048, 1024]⟩
abbrev S32x1024x2048 : Shape := ⟨3, ![32, 1024, 2048]⟩
abbrev S168x256x2048 : Shape := ⟨3, ![168, 256, 2048]⟩
abbrev S_ : Shape := ⟨0, ![]⟩
abbrev S168x1 : Shape := ⟨2, ![168, 1]⟩
abbrev S168x2048x1024 : Shape := ⟨3, ![168, 2048, 1024]⟩
abbrev S168x256x1024 : Shape := ⟨3, ![168, 256, 1024]⟩
abbrev S168x1024x2048 : Shape := ⟨3, ![168, 1024, 2048]⟩
abbrev S168x1x1 : Shape := ⟨3, ![168, 1, 1]⟩

abbrev nBuf : Space → Nat
  | .hbm => 61
  | .vmem => 0
  | .smem => 0
  | _ => 0

abbrev bufTy : (tb : Table) → Fin (tcTables nBuf tb) → BufTy
  | .hbm, ⟨0, _⟩ => ⟨S168, .i32⟩
  | .hbm, ⟨1, _⟩ => ⟨S1, .i32⟩
  | .hbm, ⟨2, _⟩ => ⟨S43008x2048, .f32⟩
  | .hbm, ⟨3, _⟩ => ⟨S32x2048x1024, .bf16⟩
  | .hbm, ⟨4, _⟩ => ⟨S32x2048x1024, .bf16⟩
  | .hbm, ⟨5, _⟩ => ⟨S32x1024x2048, .bf16⟩
  | .hbm, ⟨6, _⟩ => ⟨S168x256x2048, .f32⟩
  | .hbm, ⟨7, _⟩ => ⟨S32x2048x1024, .f32⟩
  | .hbm, ⟨8, _⟩ => ⟨S_, .i32⟩
  | .hbm, ⟨9, _⟩ => ⟨S168, .i32⟩
  | .hbm, ⟨10, _⟩ => ⟨S168, .i1⟩
  | .hbm, ⟨11, _⟩ => ⟨S_, .i32⟩
  | .hbm, ⟨12, _⟩ => ⟨S168, .i32⟩
  | .hbm, ⟨13, _⟩ => ⟨S168, .i32⟩
  | .hbm, ⟨14, _⟩ => ⟨S168, .i32⟩
  | .hbm, ⟨15, _⟩ => ⟨S168x1, .i32⟩
  | .hbm, ⟨16, _⟩ => ⟨S168x2048x1024, .f32⟩
  | .hbm, ⟨17, _⟩ => ⟨S168x256x1024, .f32⟩
  | .hbm, ⟨18, _⟩ => ⟨S32x2048x1024, .f32⟩
  | .hbm, ⟨19, _⟩ => ⟨S_, .i32⟩
  | .hbm, ⟨20, _⟩ => ⟨S168, .i32⟩
  | .hbm, ⟨21, _⟩ => ⟨S168, .i1⟩
  | .hbm, ⟨22, _⟩ => ⟨S_, .i32⟩
  | .hbm, ⟨23, _⟩ => ⟨S168, .i32⟩
  | .hbm, ⟨24, _⟩ => ⟨S168, .i32⟩
  | .hbm, ⟨25, _⟩ => ⟨S168, .i32⟩
  | .hbm, ⟨26, _⟩ => ⟨S168x1, .i32⟩
  | .hbm, ⟨27, _⟩ => ⟨S168x2048x1024, .f32⟩
  | .hbm, ⟨28, _⟩ => ⟨S168x256x1024, .f32⟩
  | .hbm, ⟨29, _⟩ => ⟨S168x256x1024, .f32⟩
  | .hbm, ⟨30, _⟩ => ⟨S168x256x1024, .f32⟩
  | .hbm, ⟨31, _⟩ => ⟨S_, .f32⟩
  | .hbm, ⟨32, _⟩ => ⟨S168x256x1024, .f32⟩
  | .hbm, ⟨33, _⟩ => ⟨S168x256x1024, .f32⟩
  | .hbm, ⟨34, _⟩ => ⟨S_, .f32⟩
  | .hbm, ⟨35, _⟩ => ⟨S168x256x1024, .f32⟩
  | .hbm, ⟨36, _⟩ => ⟨S168x256x1024, .f32⟩
  | .hbm, ⟨37, _⟩ => ⟨S168x256x1024, .f32⟩
  | .hbm, ⟨38, _⟩ => ⟨S168x256x1024, .f32⟩
  | .hbm, ⟨39, _⟩ => ⟨S32x1024x2048, .f32⟩
  | .hbm, ⟨40, _⟩ => ⟨S_, .i32⟩
  | .hbm, ⟨41, _⟩ => ⟨S168, .i32⟩
  | .hbm, ⟨42, _⟩ => ⟨S168, .i1⟩
  | .hbm, ⟨43, _⟩ => ⟨S_, .i32⟩
  | .hbm, ⟨44, _⟩ => ⟨S168, .i32⟩
  | .hbm, ⟨45, _⟩ => ⟨S168, .i32⟩
  | .hbm, ⟨46, _⟩ => ⟨S168, .i32⟩
  | .hbm, ⟨47, _⟩ => ⟨S168x1, .i32⟩
  | .hbm, ⟨48, _⟩ => ⟨S168x1024x2048, .f32⟩
  | .hbm, ⟨49, _⟩ => ⟨S168x256x2048, .f32⟩
  | .hbm, ⟨50, _⟩ => ⟨S168, .i32⟩
  | .hbm, ⟨51, _⟩ => ⟨S_, .i32⟩
  | .hbm, ⟨52, _⟩ => ⟨S168, .i32⟩
  | .hbm, ⟨53, _⟩ => ⟨S168, .i1⟩
  | .hbm, ⟨54, _⟩ => ⟨S168x1x1, .i1⟩
  | .hbm, ⟨55, _⟩ => ⟨S_, .f32⟩
  | .hbm, ⟨56, _⟩ => ⟨S_, .f32⟩
  | .hbm, ⟨57, _⟩ => ⟨S168x256x2048, .i1⟩
  | .hbm, ⟨58, _⟩ => ⟨S168x256x2048, .f32⟩
  | .hbm, ⟨59, _⟩ => ⟨S168x256x2048, .f32⟩
  | .hbm, ⟨60, _⟩ => ⟨S43008x2048, .f32⟩
  | _, _ => ⟨S168, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_c_1 : Ref sig .tc := ⟨.hbm, 19, rfl⟩
abbrev main_v11 : Ref sig .tc := ⟨.hbm, 20, rfl⟩
abbrev main_v12 : Ref sig .tc := ⟨.hbm, 21, rfl⟩
abbrev main_c_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_call0_v0 : Ref sig .tc := ⟨.hbm, 29, rfl⟩
abbrev main_call0_v1 : Ref sig .tc := ⟨.hbm, 30, rfl⟩
abbrev main_call0_cst : Ref sig .tc := ⟨.hbm, 31, rfl⟩
abbrev main_call0_v2 : Ref sig .tc := ⟨.hbm, 32, rfl⟩
abbrev main_call0_v3 : Ref sig .tc := ⟨.hbm, 33, rfl⟩
abbrev main_call0_cst_0 : Ref sig .tc := ⟨.hbm, 34, rfl⟩
abbrev main_call0_v4 : Ref sig .tc := ⟨.hbm, 35, rfl⟩
abbrev main_call0_v5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_c_3 : Ref sig .tc := ⟨.hbm, 40, rfl⟩
abbrev main_v22 : Ref sig .tc := ⟨.hbm, 41, rfl⟩
abbrev main_v23 : Ref sig .tc := ⟨.hbm, 42, rfl⟩
abbrev main_c_4 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst : Ref sig .tc := ⟨.hbm, 55, rfl⟩
abbrev main_call1_v0 : Ref sig .tc := ⟨.hbm, 56, rfl⟩
abbrev main_call1_v1 : Ref sig .tc := ⟨.hbm, 57, rfl⟩
abbrev main_call1_v2 : Ref sig .tc := ⟨.hbm, 58, rfl⟩
abbrev main_v35 : Ref sig .tc := ⟨.hbm, 59, rfl⟩
abbrev main_v36 : Ref sig .tc := ⟨.hbm, 60, rfl⟩

abbrev nD : Nat := 1
abbrev τ : Topo := Topo.v7x

variable {F : FTy → Type} [FloatOps F]
-- ==== InProj.lean ====
abbrev S17408x2048 : Shape := ⟨2, ![17408, 2048]⟩
abbrev S2048 : Shape := ⟨1, ![2048]⟩
abbrev S2048x7296 : Shape := ⟨2, ![2048, 7296]⟩
abbrev S1x2048 : Shape := ⟨2, ![1, 2048]⟩
abbrev S17408x7296 : Shape := ⟨2, ![17408, 7296]⟩
abbrev S512x2048 : Shape := ⟨2, ![512, 2048]⟩
abbrev S2048x2432 : Shape := ⟨2, ![2048, 2432]⟩
abbrev S512x2432 : Shape := ⟨2, ![512, 2432]⟩
abbrev S512 : Shape := ⟨1, ![512]⟩
abbrev S512x1 : Shape := ⟨2, ![512, 1]⟩

abbrev nBuf : Space → Nat
  | .hbm => 6
  | .vmem => 8
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x7296, .f32⟩
  | .hbm, ⟨3, _⟩ => ⟨S1x2048, .f32⟩
  | .hbm, ⟨4, _⟩ => ⟨S2048x7296, .bf16⟩
  | .hbm, ⟨5, _⟩ => ⟨S17408x7296, .f32⟩
  | .local _ .vmem, ⟨0, _⟩ => ⟨S512x2048, .f32⟩
  | .local _ .vmem, ⟨1, _⟩ => ⟨S512x2048, .f32⟩
  | .local _ .vmem, ⟨2, _⟩ => ⟨S1x2048, .f32⟩
  | .local _ .vmem, ⟨3, _⟩ => ⟨S2048x2432, .bf16⟩
  | .local _ .vmem, ⟨4, _⟩ => ⟨S2048x2432, .bf16⟩
  | .local _ .vmem, ⟨5, _⟩ => ⟨S512x2432, .f32⟩
  | .local _ .vmem, ⟨6, _⟩ => ⟨S512x2432, .f32⟩
  | .local _ .vmem, ⟨7, _⟩ => ⟨S512x2048, .bf16⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![34, 3], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S2048x2432 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S512x2432 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== InProjRefIdeal.lean ====
abbrev S17408x2048 : Shape := ⟨2, ![17408, 2048]⟩
abbrev S2048 : Shape := ⟨1, ![2048]⟩
abbrev S2048x7296 : Shape := ⟨2, ![2048, 7296]⟩
abbrev S_ : Shape := ⟨0, ![]⟩
abbrev S17408 : Shape := ⟨1, ![17408]⟩
abbrev S17408x1 : Shape := ⟨2, ![17408, 1]⟩
abbrev S1x2048 : Shape := ⟨2, ![1, 2048]⟩
abbrev S17408x7296 : Shape := ⟨2, ![17408, 7296]⟩

abbrev nBuf : Space → Nat
  | .hbm => 20
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S2048, .f32⟩
  | .hbm, ⟨2, _⟩ => ⟨S2048x7296, .f32⟩
  | .hbm, ⟨3, _⟩ => ⟨S17408x2048, .f32⟩
  | .hbm, ⟨4, _⟩ => ⟨S_, .f32⟩
  | .hbm, ⟨5, _⟩ => ⟨S17408, .f32⟩
  | .hbm, ⟨6, _⟩ => ⟨S17408x1, .f32⟩
  | .hbm, ⟨7, _⟩ => ⟨S_, .f32⟩
  | .hbm, ⟨8, _⟩ => ⟨S17408x1, .f32⟩
  | .hbm, ⟨9, _⟩ => ⟨S17408x1, .f32⟩
  | .hbm, ⟨10, _⟩ => ⟨S_, .f32⟩
  | .hbm, ⟨11, _⟩ => ⟨S17408x1, .f32⟩
  | .hbm, ⟨12, _⟩ => ⟨S17408x1, .f32⟩
  | .hbm, ⟨13, _⟩ => ⟨S17408x1, .f32⟩
  | .hbm, ⟨14, _⟩ => ⟨S17408x2048, .f32⟩
  | .hbm, ⟨15, _⟩ => ⟨S17408x2048, .f32⟩
  | .hbm, ⟨16, _⟩ => ⟨S1x2048, .f32⟩
  | .hbm, ⟨17, _⟩ => ⟨S17408x2048, .f32⟩
  | .hbm, ⟨18, _⟩ => ⟨S17408x2048, .f32⟩
  | .hbm, ⟨19, _⟩ => ⟨S17408x7296, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩

abbrev nD : Nat := 1
abbrev τ : Topo := Topo.v7x

variable {F : FTy → Type} [FloatOps F]
-- ==== QkPost.lean ====
abbrev S17408x7296 : Shape := ⟨2, ![17408, 7296]⟩
abbrev S17408 : Shape := ⟨1, ![17408]⟩
abbrev S128 : Shape := ⟨1, ![128]⟩
abbrev S64 : Shape := ⟨1, ![64]⟩
abbrev S16 : Shape := ⟨1, ![16]⟩
abbrev S_ : Shape := ⟨0, ![]⟩
abbrev S17408x1 : Shape := ⟨2, ![17408, 1]⟩
abbrev S1x16 : Shape := ⟨2, ![1, 16]⟩
abbrev S17408x16 : Shape := ⟨2, ![17408, 16]⟩
abbrev S17408x96 : Shape := ⟨2, ![17408, 96]⟩
abbrev S17408x128 : Shape := ⟨2, ![17408, 128]⟩
abbrev S1x17408x1x128 : Shape := ⟨4, ![1, 17408, 1, 128]⟩
abbrev S8 : Shape := ⟨1, ![8]⟩
abbrev S1x8 : Shape := ⟨2, ![1, 8]⟩
abbrev S17408x8 : Shape := ⟨2, ![17408, 8]⟩
abbrev S17408x48 : Shape := ⟨2, ![17408, 48]⟩
abbrev S17408x64 : Shape := ⟨2, ![17408, 64]⟩
abbrev S1x17408x1x64 : Shape := ⟨4, ![1, 17408, 1, 64]⟩
abbrev S1x17408x2x64 : Shape := ⟨4, ![1, 17408, 2, 64]⟩
abbrev S1x128 : Shape := ⟨2, ![1, 128]⟩
abbrev S17408x1024 : Shape := ⟨2, ![17408, 1024]⟩
abbrev S17408x256 : Shape := ⟨2, ![17408, 256]⟩
abbrev S512x1024 : Shape := ⟨2, ![512, 1024]⟩
abbrev S512x256 : Shape := ⟨2, ![512, 256]⟩
abbrev S512x512 : Shape := ⟨2, ![512, 512]⟩
abbrev S512x128 : Shape := ⟨2, ![512, 128]⟩
abbrev S512x64 : Shape := ⟨2, ![512, 64]⟩
abbrev S512 : Shape := ⟨1, ![512]⟩
abbrev S512x1 : Shape := ⟨2, ![512, 1]⟩

abbrev nBuf : Space → Nat
  | .hbm => 100
  | .vmem => 43
  | .smem => 0
  | _ => 0

abbrev bufTy : (tb : Table) → Fin (tcTables nBuf tb) → BufTy
  | .hbm, ⟨0, _⟩ => ⟨S17408x7296, .f32⟩
  | .hbm, ⟨1, _⟩ => ⟨S17408, .i32⟩
  | .hbm, ⟨2, _⟩ => ⟨S128, .f32⟩
  | .hbm, ⟨3, _⟩ => ⟨S128, .f32⟩
  | .hbm, ⟨4, _⟩ => ⟨S64, .f32⟩
  | .hbm, ⟨5, _⟩ => ⟨S16, .f32⟩
  | .hbm, ⟨6, _⟩ => ⟨S16, .f32⟩
  | .hbm, ⟨7, _⟩ => ⟨S_, .f32⟩
  | .hbm, ⟨8, _⟩ => ⟨S16, .f32⟩
  | .hbm, ⟨9, _⟩ => ⟨S16, .f32⟩
  | .hbm, ⟨10, _⟩ => ⟨S_, .f32⟩
  | .hbm, ⟨11, _⟩ => ⟨S16, .f32⟩
  | .hbm, ⟨12, _⟩ => ⟨S16, .f32⟩
  | .hbm, ⟨13, _⟩ => ⟨S_, .f32⟩
  | .hbm, ⟨14, _⟩ => ⟨S16, .f32⟩
  | .hbm, ⟨15, _⟩ => ⟨S16, .f32⟩
  | .hbm, ⟨16, _⟩ => ⟨S17408, .f32⟩
  | .hbm, ⟨17, _⟩ => ⟨S17408x1, .f32⟩
  | .hbm, ⟨18, _⟩ => ⟨S1x16, .f32⟩
  | .hbm, ⟨19, _⟩ => ⟨S17408x16, .f32⟩
  | .hbm, ⟨20, _⟩ => ⟨S17408x16, .f32⟩
  | .hbm, ⟨21, _⟩ => ⟨S17408x16, .f32⟩
  | .hbm, ⟨22, _⟩ => ⟨S17408x16, .f32⟩
  | .hbm, ⟨23, _⟩ => ⟨S17408x16, .f32⟩
  | .hbm, ⟨24, _⟩ => ⟨S_, .f32⟩
  | .hbm, ⟨25, _⟩ => ⟨S17408x16, .f32⟩
  | .hbm, ⟨26, _⟩ => ⟨S_, .f32⟩
  | .hbm, ⟨27, _⟩ => ⟨S17408x96, .f32⟩
  | .hbm, ⟨28, _⟩ => ⟨S17408x128, .f32⟩
  | .hbm, ⟨29, _⟩ => ⟨S17408x16, .f32⟩
  | .hbm, ⟨30, _⟩ => ⟨S_, .f32⟩
  | .hbm, ⟨31, _⟩ => ⟨S17408x96, .f32⟩
  | .hbm, ⟨32, _⟩ => ⟨S17408x128, .f32⟩
  | .hbm, ⟨33, _⟩ => ⟨S_, .f32⟩
  | .hbm, ⟨34, _⟩ => ⟨S17408x96, .f32⟩
  | .hbm, ⟨35, _⟩ => ⟨S17408x128, .f32⟩
  | .hbm, ⟨36, _⟩ => ⟨S1x17408x1x128, .f32⟩
  | .hbm, ⟨37, _⟩ => ⟨S1x17408x1x128, .f32⟩
  | .hbm, ⟨38, _⟩ => ⟨S17408x128, .f32⟩
  | .hbm, ⟨39, _⟩ => ⟨S1x17408x1x128, .f32⟩
  | .hbm, ⟨40, _⟩ => ⟨S1x17408x1x128, .f32⟩
  | .hbm, ⟨41, _⟩ => ⟨S17408x128, .f32⟩
  | .hbm, ⟨42, _⟩ => ⟨S1x17408x1x128, .f32⟩
  | .hbm, ⟨43, _⟩ => ⟨S1x17408x1x128, .f32⟩
  | .hbm, ⟨44, _⟩ => ⟨S17408x128, .f32⟩
  | .hbm, ⟨45, _⟩ => ⟨S8, .f32⟩
  | .hbm, ⟨46, _⟩ => ⟨S8, .f32⟩
  | .hbm, ⟨47, _⟩ => ⟨S_, .f32⟩
  | .hbm, ⟨48, _⟩ => ⟨S8, .f32⟩
  | .hbm, ⟨49, _⟩ => ⟨S8, .f32⟩
  | .hbm, ⟨50, _⟩ => ⟨S_, .f32⟩
  | .hbm, ⟨51, _⟩ => ⟨S8, .f32⟩
  | .hbm, ⟨52, _⟩ => ⟨S8, .f32⟩
  | .hbm, ⟨53, _⟩ => ⟨S_, .f32⟩
  | .hbm, ⟨54, _⟩ => ⟨S8, .f32⟩
  | .hbm, ⟨55, _⟩ => ⟨S8, .f32⟩
  | .hbm, ⟨56, _⟩ => ⟨S17408, .f32⟩
  | .hbm, ⟨57, _⟩ => ⟨S17408x1, .f32⟩
  | .hbm, ⟨58, _⟩ => ⟨S1x8, .f32⟩
  | .hbm, ⟨59, _⟩ => ⟨S17408x8, .f32⟩
  | .hbm, ⟨60, _⟩ => ⟨S17408x8, .f32⟩
  | .hbm, ⟨61, _⟩ => ⟨S17408x8, .f32⟩
  | .hbm, ⟨62, _⟩ => ⟨S17408x8, .f32⟩
  | .hbm, ⟨63, _⟩ => ⟨S17408x8, .f32⟩
  | .hbm, ⟨64, _⟩ => ⟨S_, .f32⟩
  | .hbm, ⟨65, _⟩ => ⟨S17408x8, .f32⟩
  | .hbm, ⟨66, _⟩ => ⟨S_, .f32⟩
  | .hbm, ⟨67, _⟩ => ⟨S17408x48, .f32⟩
  | .hbm, ⟨68, _⟩ => ⟨S17408x64, .f32⟩
  | .hbm, ⟨69, _⟩ => ⟨S17408x8, .f32⟩
  | .hbm, ⟨70, _⟩ => ⟨S_, .f32⟩
  | .hbm, ⟨71, _⟩ => ⟨S17408x48, .f32⟩
  | .hbm, ⟨72, _⟩ => ⟨S17408x64, .f32⟩
  | .hbm, ⟨73, _⟩ => ⟨S_, .f32⟩
  | .hbm, ⟨74, _⟩ => ⟨S17408x48, .f32⟩
  | .hbm, ⟨75, _⟩ => ⟨S17408x64, .f32⟩
  | .hbm, ⟨76, _⟩ => ⟨S1x17408x1x64, .f32⟩
  | .hbm, ⟨77, _⟩ => ⟨S1x17408x2x64, .f32⟩
  | .hbm, ⟨78, _⟩ => ⟨S17408x128, .f32⟩
  | .hbm, ⟨79, _⟩ => ⟨S1x17408x1x64, .f32⟩
  | .hbm, ⟨80, _⟩ => ⟨S1x17408x2x64, .f32⟩
  | .hbm, ⟨81, _⟩ => ⟨S17408x128, .f32⟩
  | .hbm, ⟨82, _⟩ => ⟨S1x17408x1x64, .f32⟩
  | .hbm, ⟨83, _⟩ => ⟨S1x17408x2x64, .f32⟩
  | .hbm, ⟨84, _⟩ => ⟨S17408x128, .f32⟩
  | .hbm, ⟨85, _⟩ => ⟨S_, .f32⟩
  | .hbm, ⟨86, _⟩ => ⟨S64, .f32⟩
  | .hbm, ⟨87, _⟩ => ⟨S128, .f32⟩
  | .hbm, ⟨88, _⟩ => ⟨S1x128, .f32⟩
  | .hbm, ⟨89, _⟩ => ⟨S1x128, .f32⟩
  | .hbm, ⟨90, _⟩ => ⟨S1x128, .f32⟩
  | .hbm, ⟨91, _⟩ => ⟨S17408x1024, .bf16⟩
  | .hbm, ⟨92, _⟩ => ⟨S17408x256, .f32⟩
  | .hbm, ⟨93, _⟩ => ⟨S17408x256, .bf16⟩
  | .hbm, ⟨94, _⟩ => ⟨S17408x256, .f32⟩
  | .hbm, ⟨95, _⟩ => ⟨S17408x256, .bf16⟩
  | .hbm, ⟨96, _⟩ => ⟨S17408x1024, .bf16⟩
  | .hbm, ⟨97, _⟩ => ⟨S17408x64, .f32⟩
  | .hbm, ⟨98, _⟩ => ⟨S17408x128, .bf16⟩
  | .hbm, ⟨99, _⟩ => ⟨S17408x128, .f32⟩
  | .local _ .vmem, ⟨0, _⟩ => ⟨S512x1024, .f32⟩
  | .local _ .vmem, ⟨1, _⟩ => ⟨S512x1024, .f32⟩
  | .local _ .vmem, ⟨2, _⟩ => ⟨S512x256, .f32⟩
  | .local _ .vmem, ⟨3, _⟩ => ⟨S512x256, .f32⟩
  | .local _ .vmem, ⟨4, _⟩ => ⟨S512x256, .f32⟩
  | .local _ .vmem, ⟨5, _⟩ => ⟨S512x256, .f32⟩
  | .local _ .vmem, ⟨6, _⟩ => ⟨S512x512, .f32⟩
  | .local _ .vmem, ⟨7, _⟩ => ⟨S512x512, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x128, .f32⟩
  | .local _ .vmem, ⟨14, _⟩ => ⟨S512x128, .f32⟩
  | .local _ .vmem, ⟨15, _⟩ => ⟨S512x128, .f32⟩
  | .local _ .vmem, ⟨16, _⟩ => ⟨S512x128, .f32⟩
  | .local _ .vmem, ⟨17, _⟩ => ⟨S512x128, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S1x128, .f32⟩
  | .local _ .vmem, ⟨23, _⟩ => ⟨S1x128, .f32⟩
  | .local _ .vmem, ⟨24, _⟩ => ⟨S1x128, .f32⟩
  | .local _ .vmem, ⟨25, _⟩ => ⟨S512x1024, .bf16⟩
  | .local _ .vmem, ⟨26, _⟩ => ⟨S512x1024, .bf16⟩
  | .local _ .vmem, ⟨27, _⟩ => ⟨S512x256, .f32⟩
  | .local _ .vmem, ⟨28, _⟩ => ⟨S512x256, .f32⟩
  | .local _ .vmem, ⟨29, _⟩ => ⟨S512x256, .bf16⟩
  | .local _ .vmem, ⟨30, _⟩ => ⟨S512x256, .bf16⟩
  | .local _ .vmem, ⟨31, _⟩ => ⟨S512x256, .f32⟩
  | .local _ .vmem, ⟨32, _⟩ => ⟨S512x256, .f32⟩
  | .local _ .vmem, ⟨33, _⟩ => ⟨S512x256, .bf16⟩
  | .local _ .vmem, ⟨34, _⟩ => ⟨S512x256, .bf16⟩
  | .local _ .vmem, ⟨35, _⟩ => ⟨S512x1024, .bf16⟩
  | .local _ .vmem, ⟨36, _⟩ => ⟨S512x1024, .bf16⟩
  | .local _ .vmem, ⟨37, _⟩ => ⟨S512x64, .f32⟩
  | .local _ .vmem, ⟨38, _⟩ => ⟨S512x64, .f32⟩
  | .local _ .vmem, ⟨39, _⟩ => ⟨S512x128, .bf16⟩
  | .local _ .vmem, ⟨40, _⟩ => ⟨S512x128, .bf16⟩
  | .local _ .vmem, ⟨41, _⟩ => ⟨S512x128, .f32⟩
  | .local _ .vmem, ⟨42, _⟩ => ⟨S512x128, .f32⟩
  | _, _ => ⟨S17408x7296, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | _, _ => false

abbrev semScoped : Fin 0 → Bool
  | ⟨_, h⟩ => absurd h (Nat.not_lt_zero _)

abbrev dmaSemScoped : Fin 43 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | _ => false

abbrev sig : RefSig :=
  ofTc nBuf bufTy 0 43 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_2 : Ref sig .tc := ⟨.hbm, 24, rfl⟩
abbrev main_v16 : Ref sig .tc := ⟨.hbm, 25, rfl⟩
abbrev main_cst_3 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_cst_5 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_6 : Ref sig .tc := ⟨.hbm, 47, rfl⟩
abbrev main_v35 : Ref sig .tc := ⟨.hbm, 48, rfl⟩
abbrev main_v36 : Ref sig .tc := ⟨.hbm, 49, rfl⟩
abbrev main_cst_7 : Ref sig .tc := ⟨.hbm, 50, rfl⟩
abbrev main_v37 : Ref sig .tc := ⟨.hbm, 51, rfl⟩
abbrev main_v38 : Ref sig .tc := ⟨.hbm, 52, rfl⟩
abbrev main_cst_8 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_cst_9 : Ref sig .tc := ⟨.hbm, 64, rfl⟩
abbrev main_v49 : Ref sig .tc := ⟨.hbm, 65, rfl⟩
abbrev main_cst_10 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_cst_11 : Ref sig .tc := ⟨.hbm, 70, rfl⟩
abbrev main_v53 : Ref sig .tc := ⟨.hbm, 71, rfl⟩
abbrev main_v54 : Ref sig .tc := ⟨.hbm, 72, rfl⟩
abbrev main_cst_12 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_cst_13 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_v69 : Ref sig .tc := ⟨.hbm, 89, rfl⟩
abbrev main_v70 : Ref sig .tc := ⟨.hbm, 90, rfl⟩
abbrev main_v71_0 : Ref sig .tc := ⟨.hbm, 91, rfl⟩
abbrev main_v71_1 : Ref sig .tc := ⟨.hbm, 92, rfl⟩
abbrev main_v71_2 : Ref sig .tc := ⟨.hbm, 93, rfl⟩
abbrev main_v71_3 : Ref sig .tc := ⟨.hbm, 94, rfl⟩
abbrev main_v71_4 : Ref sig .tc := ⟨.hbm, 95, rfl⟩
abbrev main_v71_5 : Ref sig .tc := ⟨.hbm, 96, rfl⟩
abbrev main_v71_6 : Ref sig .tc := ⟨.hbm, 97, rfl⟩
abbrev main_v71_7 : Ref sig .tc := ⟨.hbm, 98, rfl⟩
abbrev main_v71_8 : Ref sig .tc := ⟨.hbm, 99, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg12_0 : Ref sig .tc := ⟨.vmem, 23, rfl⟩
abbrev cc0_stg13_0 : Ref sig .tc := ⟨.vmem, 24, rfl⟩
abbrev cc0_stg14_0 : Ref sig .tc := ⟨.vmem, 25, rfl⟩
abbrev cc0_stg14_1 : Ref sig .tc := ⟨.vmem, 26, rfl⟩
abbrev cc0_stg15_0 : Ref sig .tc := ⟨.vmem, 27, rfl⟩
abbrev cc0_stg15_1 : Ref sig .tc := ⟨.vmem, 28, rfl⟩
abbrev cc0_stg16_0 : Ref sig .tc := ⟨.vmem, 29, rfl⟩
abbrev cc0_stg16_1 : Ref sig .tc := ⟨.vmem, 30, rfl⟩
abbrev cc0_stg17_0 : Ref sig .tc := ⟨.vmem, 31, rfl⟩
abbrev cc0_stg17_1 : Ref sig .tc := ⟨.vmem, 32, rfl⟩
abbrev cc0_stg18_0 : Ref sig .tc := ⟨.vmem, 33, rfl⟩
abbrev cc0_stg18_1 : Ref sig .tc := ⟨.vmem, 34, rfl⟩
abbrev cc0_stg19_0 : Ref sig .tc := ⟨.vmem, 35, rfl⟩
abbrev cc0_stg19_1 : Ref sig .tc := ⟨.vmem, 36, rfl⟩
abbrev cc0_stg20_0 : Ref sig .tc := ⟨.vmem, 37, rfl⟩
abbrev cc0_stg20_1 : Ref sig .tc := ⟨.vmem, 38, rfl⟩
abbrev cc0_stg21_0 : Ref sig .tc := ⟨.vmem, 39, rfl⟩
abbrev cc0_stg21_1 : Ref sig .tc := ⟨.vmem, 40, rfl⟩
abbrev cc0_stg22_0 : Ref sig .tc := ⟨.vmem, 41, rfl⟩
abbrev cc0_stg22_1 : Ref sig .tc := ⟨.vmem, 42, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem12_0 : DmaSem sig := 23
abbrev cc0_sem13_0 : DmaSem sig := 24
abbrev cc0_sem14_0 : DmaSem sig := 25
abbrev cc0_sem14_1 : DmaSem sig := 26
abbrev cc0_sem15_0 : DmaSem sig := 27
abbrev cc0_sem15_1 : DmaSem sig := 28
abbrev cc0_sem16_0 : DmaSem sig := 29
abbrev cc0_sem16_1 : DmaSem sig := 30
abbrev cc0_sem17_0 : DmaSem sig := 31
abbrev cc0_sem17_1 : DmaSem sig := 32
abbrev cc0_sem18_0 : DmaSem sig := 33
abbrev cc0_sem18_1 : DmaSem sig := 34
abbrev cc0_sem19_0 : DmaSem sig := 35
abbrev cc0_sem19_1 : DmaSem sig := 36
abbrev cc0_sem20_0 : DmaSem sig := 37
abbrev cc0_sem20_1 : DmaSem sig := 38
abbrev cc0_sem21_0 : DmaSem sig := 39
abbrev cc0_sem21_1 : DmaSem sig := 40
abbrev cc0_sem22_0 : DmaSem sig := 41
abbrev cc0_sem22_1 : DmaSem sig := 42

abbrev nD : Nat := 1
abbrev τ : Topo := Topo.v7x

variable {F : FTy → Type} [FloatOps F]

abbrev grid0 : Pipeline.Grid := ⟨1, ![34], ![false]⟩

def cc0_transform_0 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_1 (i : grid0.Coords) : Fin 2 → Nat :=
  let arg0 : BitVec 32 := BitVec.ofNat 32 (i 0).val
  let c24_i32 : BitVec 32 := 24#32
  let c0_i32 : BitVec 32 := 0#32
  ![arg0.toNat, c24_i32.toNat]

def cc0_transform_2 (i : grid0.Coords) : Fin 2 → Nat :=
  let arg0 : BitVec 32 := BitVec.ofNat 32 (i 0).val
  let c25_i32 : BitVec 32 := 25#32
  let c0_i32 : BitVec 32 := 0#32
  ![arg0.toNat, c25_i32.toNat]

def cc0_transform_3 (i : grid0.Coords) : Fin 2 → Nat :=
  let arg0 : BitVec 32 := BitVec.ofNat 32 (i 0).val
  let c13_i32 : BitVec 32 := 13#32
  let c0_i32 : BitVec 32 := 0#32
  ![arg0.toNat, c13_i32.toNat]

def cc0_transform_4 (i : grid0.Coords) : Fin 2 → Nat :=
  let arg0 : BitVec 32 := BitVec.ofNat 32 (i 0).val
  let c56_i32 : BitVec 32 := 56#32
  let c0_i32 : BitVec 32 := 0#32
  ![arg0.toNat, c56_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_19 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_20 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_21 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_22 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S512x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 2 → Memref sig .tc .vmem S512x1024 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S512x256 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S512x256 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 2 → Memref sig .tc .vmem S512x256 .bf16 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true]

abbrev stage0_19 : Fin 2 → Memref sig .tc .vmem S512x1024 .bf16 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true]

abbrev stage0_20 : Fin 2 → Memref sig .tc .vmem S512x64 .f32 := fun | 0 => Memref.whole cc0_stg20_0 | 1 => Memref.whole cc0_stg20_1 | ⟨_ + 2, h⟩ => absurd h (Nat.not_lt.2 (Nat.le_add_left _ _))
abbrev sem0_20 : Fin 2 → DmaSem sig := fun | 0 => cc0_sem20_0 | 1 => cc0_sem20_1 | ⟨_ + 2, h⟩ => absurd h (Nat.not_lt.2 (Nat.le_add_left _ _))
abbrev reads0_20 : Fin grid0.rank → Bool := ![true]

abbrev stage0_21 : Fin 2 → Memref sig .tc .vmem S512x128 .bf16 := fun | 0 => Memref.whole cc0_stg21_0 | 1 => Memref.whole cc0_stg21_1 | ⟨_ + 2, h⟩ => absurd h (Nat.not_lt.2 (Nat.le_add_left _ _))
abbrev sem0_21 : Fin 2 → DmaSem sig := fun | 0 => cc0_sem21_0 | 1 => cc0_sem21_1 | ⟨_ + 2, h⟩ => absurd h (Nat.not_lt.2 (Nat.le_add_left _ _))
abbrev reads0_21 : Fin grid0.rank → Bool := ![true]

abbrev stage0_22 : Fin 2 → Memref sig .tc .vmem S512x128 .f32 := fun | 0 => Memref.whole cc0_stg22_0 | 1 => Memref.whole cc0_stg22_1 | ⟨_ + 2, h⟩ => absurd h (Nat.not_lt.2 (Nat.le_add_left _ _))
abbrev sem0_22 : Fin 2 → DmaSem sig := fun | 0 => cc0_sem22_0 | 1 => cc0_sem22_1 | ⟨_ + 2, h⟩ => absurd h (Nat.not_lt.2 (Nat.le_add_left _ _))
abbrev reads0_22 : Fin grid0.rank → Bool := ![true]
-- ==== QkPostRefIdeal.lean ====
abbrev S17408x7296 : Shape := ⟨2, ![17408, 7296]⟩
abbrev S17408 : Shape := ⟨1, ![17408]⟩
abbrev S128 : Shape := ⟨1, ![128]⟩
abbrev S64 : Shape := ⟨1, ![64]⟩
abbrev S17408x1024 : Shape := ⟨2, ![17408, 1024]⟩
abbrev S17408x256 : Shape := ⟨2, ![17408, 256]⟩
abbrev S17408x64 : Shape := ⟨2, ![17408, 64]⟩
abbrev S17408x8x128 : Shape := ⟨3, ![17408, 8, 128]⟩
abbrev S_ : Shape := ⟨0, ![]⟩
abbrev S17408x8 : Shape := ⟨2, ![17408, 8]⟩
abbrev S17408x8x1 : Shape := ⟨3, ![17408, 8, 1]⟩
abbrev S1x1x128 : Shape := ⟨3, ![1, 1, 128]⟩
abbrev S16 : Shape := ⟨1, ![16]⟩
abbrev S17408x1 : Shape := ⟨2, ![17408, 1]⟩
abbrev S1x16 : Shape := ⟨2, ![1, 16]⟩
abbrev S17408x16 : Shape := ⟨2, ![17408, 16]⟩
abbrev S17408x1x16 : Shape := ⟨3, ![17408, 1, 16]⟩
abbrev S17408x8x16 : Shape := ⟨3, ![17408, 8, 16]⟩
abbrev S17408x8x96 : Shape := ⟨3, ![17408, 8, 96]⟩
abbrev S17408x2x128 : Shape := ⟨3, ![17408, 2, 128]⟩
abbrev S17408x2 : Shape := ⟨2, ![17408, 2]⟩
abbrev S17408x2x1 : Shape := ⟨3, ![17408, 2, 1]⟩
abbrev S17408x2x16 : Shape := ⟨3, ![17408, 2, 16]⟩
abbrev S17408x2x96 : Shape := ⟨3, ![17408, 2, 96]⟩
abbrev S17408x1x64 : Shape := ⟨3, ![17408, 1, 64]⟩
abbrev S17408x1x1 : Shape := ⟨3, ![17408, 1, 1]⟩
abbrev S1x1x64 : Shape := ⟨3, ![1, 1, 64]⟩
abbrev S8 : Shape := ⟨1, ![8]⟩
abbrev S1x8 : Shape := ⟨2, ![1, 8]⟩
abbrev S17408x1x8 : Shape := ⟨3, ![17408, 1, 8]⟩
abbrev S17408x1x48 : Shape := ⟨3, ![17408, 1, 48]⟩
abbrev S17408x512 : Shape := ⟨2, ![17408, 512]⟩
abbrev S17408x8x64 : Shape := ⟨3, ![17408, 8, 64]⟩
abbrev S17408x8x8 : Shape := ⟨3, ![17408, 8, 8]⟩
abbrev S17408x8x48 : Shape := ⟨3, ![17408, 8, 48]⟩
abbrev S17408x128 : Shape := ⟨2, ![17408, 128]⟩

abbrev nBuf : Space → Nat
  | .hbm => 222
  | .vmem => 0
  | .smem => 0
  | _ => 0

abbrev hbmTy0_0 (i : Nat) : BufTy := match i % 128 with
  | 0 => ⟨S17408x7296, .f32⟩
  | 1 => ⟨S17408, .i32⟩
  | 2 => ⟨S128, .f32⟩
  | 3 => ⟨S128, .f32⟩
  | 4 => ⟨S64, .f32⟩
  | 5 => ⟨S17408x1024, .f32⟩
  | 6 => ⟨S17408x256, .f32⟩
  | 7 => ⟨S17408x256, .f32⟩
  | 8 => ⟨S17408x64, .f32⟩
  | 9 => ⟨S17408x8x128, .f32⟩
  | 10 => ⟨S17408x8x128, .f32⟩
  | 11 => ⟨S_, .f32⟩
  | 12 => ⟨S17408x8, .f32⟩
  | 13 => ⟨S17408x8x1, .f32⟩
  | 14 => ⟨S_, .f32⟩
  | 15 => ⟨S17408x8x1, .f32⟩
  | 16 => ⟨S17408x8x1, .f32⟩
  | 17 => ⟨S_, .f32⟩
  | 18 => ⟨S17408x8x1, .f32⟩
  | 19 => ⟨S17408x8x1, .f32⟩
  | 20 => ⟨S17408x8x1, .f32⟩
  | 21 => ⟨S17408x8x128, .f32⟩
  | 22 => ⟨S17408x8x128, .f32⟩
  | 23 => ⟨S1x1x128, .f32⟩
  | 24 => ⟨S17408x8x128, .f32⟩
  | 25 => ⟨S17408x8x128, .f32⟩
  | 26 => ⟨S16, .f32⟩
  | 27 => ⟨S16, .f32⟩
  | 28 => ⟨S_, .f32⟩
  | 29 => ⟨S16, .f32⟩
  | 30 => ⟨S16, .f32⟩
  | 31 => ⟨S_, .f32⟩
  | 32 => ⟨S16, .f32⟩
  | 33 => ⟨S16, .f32⟩
  | 34 => ⟨S_, .f32⟩
  | 35 => ⟨S16, .f32⟩
  | 36 => ⟨S16, .f32⟩
  | 37 => ⟨S17408, .f32⟩
  | 38 => ⟨S17408x1, .f32⟩
  | 39 => ⟨S1x16, .f32⟩
  | 40 => ⟨S17408x16, .f32⟩
  | 41 => ⟨S17408x16, .f32⟩
  | 42 => ⟨S17408x16, .f32⟩
  | 43 => ⟨S17408x16, .f32⟩
  | 44 => ⟨S17408x1x16, .f32⟩
  | 45 => ⟨S17408x16, .f32⟩
  | 46 => ⟨S17408x1x16, .f32⟩
  | 47 => ⟨S17408x8x16, .f32⟩
  | 48 => ⟨S17408x8x16, .f32⟩
  | 49 => ⟨S17408x8x96, .f32⟩
  | 50 => ⟨S17408x8x16, .f32⟩
  | 51 => ⟨S17408x8x16, .f32⟩
  | 52 => ⟨S17408x8x16, .f32⟩
  | 53 => ⟨S17408x8x16, .f32⟩
  | 54 => ⟨S17408x8x16, .f32⟩
  | 55 => ⟨S17408x8x16, .f32⟩
  | 56 => ⟨S17408x8x16, .f32⟩
  | 57 => ⟨S17408x8x16, .f32⟩
  | 58 => ⟨S17408x8x16, .f32⟩
  | 59 => ⟨S17408x8x16, .f32⟩
  | 60 => ⟨S17408x8x128, .f32⟩
  | 61 => ⟨S17408x1024, .f32⟩
  | 62 => ⟨S17408x2x128, .f32⟩
  | 63 => ⟨S17408x2x128, .f32⟩
  | 64 => ⟨S_, .f32⟩
  | 65 => ⟨S17408x2, .f32⟩
  | 66 => ⟨S17408x2x1, .f32⟩
  | 67 => ⟨S_, .f32⟩
  | 68 => ⟨S17408x2x1, .f32⟩
  | 69 => ⟨S17408x2x1, .f32⟩
  | 70 => ⟨S_, .f32⟩
  | 71 => ⟨S17408x2x1, .f32⟩
  | 72 => ⟨S17408x2x1, .f32⟩
  | 73 => ⟨S17408x2x1, .f32⟩
  | 74 => ⟨S17408x2x128, .f32⟩
  | 75 => ⟨S17408x2x128, .f32⟩
  | 76 => ⟨S1x1x128, .f32⟩
  | 77 => ⟨S17408x2x128, .f32⟩
  | 78 => ⟨S17408x2x128, .f32⟩
  | 79 => ⟨S16, .f32⟩
  | 80 => ⟨S16, .f32⟩
  | 81 => ⟨S_, .f32⟩
  | 82 => ⟨S16, .f32⟩
  | 83 => ⟨S16, .f32⟩
  | 84 => ⟨S_, .f32⟩
  | 85 => ⟨S16, .f32⟩
  | 86 => ⟨S16, .f32⟩
  | 87 => ⟨S_, .f32⟩
  | 88 => ⟨S16, .f32⟩
  | 89 => ⟨S16, .f32⟩
  | 90 => ⟨S17408, .f32⟩
  | 91 => ⟨S17408x1, .f32⟩
  | 92 => ⟨S1x16, .f32⟩
  | 93 => ⟨S17408x16, .f32⟩
  | 94 => ⟨S17408x16, .f32⟩
  | 95 => ⟨S17408x16, .f32⟩
  | 96 => ⟨S17408x16, .f32⟩
  | 97 => ⟨S17408x1x16, .f32⟩
  | 98 => ⟨S17408x16, .f32⟩
  | 99 => ⟨S17408x1x16, .f32⟩
  | 100 => ⟨S17408x2x16, .f32⟩
  | 101 => ⟨S17408x2x16, .f32⟩
  | 102 => ⟨S17408x2x96, .f32⟩
  | 103 => ⟨S17408x2x16, .f32⟩
  | 104 => ⟨S17408x2x16, .f32⟩
  | 105 => ⟨S17408x2x16, .f32⟩
  | 106 => ⟨S17408x2x16, .f32⟩
  | 107 => ⟨S17408x2x16, .f32⟩
  | 108 => ⟨S17408x2x16, .f32⟩
  | 109 => ⟨S17408x2x16, .f32⟩
  | 110 => ⟨S17408x2x16, .f32⟩
  | 111 => ⟨S17408x2x16, .f32⟩
  | 112 => ⟨S17408x2x16, .f32⟩
  | 113 => ⟨S17408x2x128, .f32⟩
  | 114 => ⟨S17408x256, .f32⟩
  | 115 => ⟨S17408x1x64, .f32⟩
  | 116 => ⟨S17408x1x64, .f32⟩
  | 117 => ⟨S_, .f32⟩
  | 118 => ⟨S17408x1, .f32⟩
  | 119 => ⟨S17408x1x1, .f32⟩
  | 120 => ⟨S_, .f32⟩
  | 121 => ⟨S17408x1x1, .f32⟩
  | 122 => ⟨S17408x1x1, .f32⟩
  | 123 => ⟨S_, .f32⟩
  | 124 => ⟨S17408x1x1, .f32⟩
  | 125 => ⟨S17408x1x1, .f32⟩
  | 126 => ⟨S17408x1x1, .f32⟩
  | 127 => ⟨S17408x1x64, .f32⟩
  | _ => ⟨S17408x7296, .f32⟩

abbrev hbmTy0_1 (i : Nat) : BufTy := match i % 128 with
  | 0 => ⟨S17408x1x64, .f32⟩
  | 1 => ⟨S1x1x64, .f32⟩
  | 2 => ⟨S17408x1x64, .f32⟩
  | 3 => ⟨S17408x1x64, .f32⟩
  | 4 => ⟨S8, .f32⟩
  | 5 => ⟨S8, .f32⟩
  | 6 => ⟨S_, .f32⟩
  | 7 => ⟨S8, .f32⟩
  | 8 => ⟨S8, .f32⟩
  | 9 => ⟨S_, .f32⟩
  | 10 => ⟨S8, .f32⟩
  | 11 => ⟨S8, .f32⟩
  | 12 => ⟨S_, .f32⟩
  | 13 => ⟨S8, .f32⟩
  | 14 => ⟨S8, .f32⟩
  | 15 => ⟨S17408, .f32⟩
  | 16 => ⟨S17408x1, .f32⟩
  | 17 => ⟨S1x8, .f32⟩
  | 18 => ⟨S17408x8, .f32⟩
  | 19 => ⟨S17408x8, .f32⟩
  | 20 => ⟨S17408x8, .f32⟩
  | 21 => ⟨S17408x8, .f32⟩
  | 22 => ⟨S17408x1x8, .f32⟩
  | 23 => ⟨S17408x8, .f32⟩
  | 24 => ⟨S17408x1x8, .f32⟩
  | 25 => ⟨S17408x1x8, .f32⟩
  | 26 => ⟨S17408x1x8, .f32⟩
  | 27 => ⟨S17408x1x48, .f32⟩
  | 28 => ⟨S17408x1x8, .f32⟩
  | 29 => ⟨S17408x1x8, .f32⟩
  | 30 => ⟨S17408x1x8, .f32⟩
  | 31 => ⟨S17408x1x8, .f32⟩
  | 32 => ⟨S17408x1x8, .f32⟩
  | 33 => ⟨S17408x1x8, .f32⟩
  | 34 => ⟨S17408x1x64, .f32⟩
  | 35 => ⟨S17408x64, .f32⟩
  | 36 => ⟨S17408x1024, .bf16⟩
  | 37 => ⟨S17408x256, .bf16⟩
  | 38 => ⟨S17408x256, .bf16⟩
  | 39 => ⟨S17408x512, .f32⟩
  | 40 => ⟨S17408x8x64, .f32⟩
  | 41 => ⟨S8, .f32⟩
  | 42 => ⟨S8, .f32⟩
  | 43 => ⟨S_, .f32⟩
  | 44 => ⟨S8, .f32⟩
  | 45 => ⟨S8, .f32⟩
  | 46 => ⟨S_, .f32⟩
  | 47 => ⟨S8, .f32⟩
  | 48 => ⟨S8, .f32⟩
  | 49 => ⟨S_, .f32⟩
  | 50 => ⟨S8, .f32⟩
  | 51 => ⟨S8, .f32⟩
  | 52 => ⟨S17408, .f32⟩
  | 53 => ⟨S17408x1, .f32⟩
  | 54 => ⟨S1x8, .f32⟩
  | 55 => ⟨S17408x8, .f32⟩
  | 56 => ⟨S17408x8, .f32⟩
  | 57 => ⟨S17408x8, .f32⟩
  | 58 => ⟨S17408x8, .f32⟩
  | 59 => ⟨S17408x1x8, .f32⟩
  | 60 => ⟨S17408x8, .f32⟩
  | 61 => ⟨S17408x1x8, .f32⟩
  | 62 => ⟨S17408x8x8, .f32⟩
  | 63 => ⟨S17408x8x8, .f32⟩
  | 64 => ⟨S17408x8x48, .f32⟩
  | 65 => ⟨S17408x8x8, .f32⟩
  | 66 => ⟨S17408x8x8, .f32⟩
  | 67 => ⟨S17408x8x8, .f32⟩
  | 68 => ⟨S17408x8x8, .f32⟩
  | 69 => ⟨S17408x8x8, .f32⟩
  | 70 => ⟨S17408x8x8, .f32⟩
  | 71 => ⟨S17408x8x8, .f32⟩
  | 72 => ⟨S17408x8x8, .f32⟩
  | 73 => ⟨S17408x8x8, .f32⟩
  | 74 => ⟨S17408x8x8, .f32⟩
  | 75 => ⟨S17408x8x64, .f32⟩
  | 76 => ⟨S_, .f32⟩
  | 77 => ⟨S17408x8x64, .f32⟩
  | 78 => ⟨S17408x8x128, .f32⟩
  | 79 => ⟨S17408x1024, .f32⟩
  | 80 => ⟨S_, .f32⟩
  | 81 => ⟨S17408x64, .f32⟩
  | 82 => ⟨S17408x128, .f32⟩
  | 83 => ⟨S17408x64, .f32⟩
  | 84 => ⟨S17408x64, .f32⟩
  | 85 => ⟨S17408x128, .f32⟩
  | 86 => ⟨S_, .f32⟩
  | 87 => ⟨S17408x128, .f32⟩
  | 88 => ⟨S17408x128, .f32⟩
  | 89 => ⟨S_, .f32⟩
  | 90 => ⟨S17408x128, .f32⟩
  | 91 => ⟨S17408x128, .f32⟩
  | 92 => ⟨S17408x1024, .bf16⟩
  | 93 => ⟨S17408x128, .bf16⟩
  | _ => ⟨S17408x7296, .f32⟩

abbrev hbmTy (i : Nat) : BufTy := match i / 128 with
  | 0 => hbmTy0_0 i
  | 1 => hbmTy0_1 i
  | _ => ⟨S17408x7296, .f32⟩

abbrev bufTy : (tb : Table) → Fin (tcTables nBuf tb) → BufTy
  | .hbm, ⟨i, _⟩ => hbmTy i
  | _, _ => ⟨S17408x7296, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_5 : Ref sig .tc := ⟨.hbm, 64, rfl⟩
abbrev main_v53 : Ref sig .tc := ⟨.hbm, 65, rfl⟩
abbrev main_v54 : Ref sig .tc := ⟨.hbm, 66, rfl⟩
abbrev main_cst_6 : Ref sig .tc := ⟨.hbm, 67, rfl⟩
abbrev main_v55 : Ref sig .tc := ⟨.hbm, 68, rfl⟩
abbrev main_v56 : Ref sig .tc := ⟨.hbm, 69, rfl⟩
abbrev main_cst_7 : Ref sig .tc := ⟨.hbm, 70, rfl⟩
abbrev main_v57 : Ref sig .tc := ⟨.hbm, 71, rfl⟩
abbrev main_v58 : Ref sig .tc := ⟨.hbm, 72, rfl⟩
abbrev main_v59 : Ref sig .tc := ⟨.hbm, 73, rfl⟩
abbrev main_v60 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_cst_8 : Ref sig .tc := ⟨.hbm, 81, rfl⟩
abbrev main_v67 : Ref sig .tc := ⟨.hbm, 82, rfl⟩
abbrev main_v68 : Ref sig .tc := ⟨.hbm, 83, rfl⟩
abbrev main_cst_9 : Ref sig .tc := ⟨.hbm, 84, rfl⟩
abbrev main_v69 : Ref sig .tc := ⟨.hbm, 85, rfl⟩
abbrev main_v70 : Ref sig .tc := ⟨.hbm, 86, rfl⟩
abbrev main_cst_10 : Ref sig .tc := ⟨.hbm, 87, rfl⟩
abbrev main_v71 : Ref sig .tc := ⟨.hbm, 88, rfl⟩
abbrev main_v72 : Ref sig .tc := ⟨.hbm, 89, rfl⟩
abbrev main_v73 : Ref sig .tc := ⟨.hbm, 90, rfl⟩
abbrev main_v74 : Ref sig .tc := ⟨.hbm, 91, rfl⟩
abbrev main_v75 : Ref sig .tc := ⟨.hbm, 92, rfl⟩
abbrev main_v76 : Ref sig .tc := ⟨.hbm, 93, rfl⟩
abbrev main_v77 : Ref sig .tc := ⟨.hbm, 94, rfl⟩
abbrev main_v78 : Ref sig .tc := ⟨.hbm, 95, rfl⟩
abbrev main_v79 : Ref sig .tc := ⟨.hbm, 96, rfl⟩
abbrev main_v80 : Ref sig .tc := ⟨.hbm, 97, rfl⟩
abbrev main_v81 : Ref sig .tc := ⟨.hbm, 98, rfl⟩
abbrev main_v82 : Ref sig .tc := ⟨.hbm, 99, rfl⟩
abbrev main_v83 : Ref sig .tc := ⟨.hbm, 100, rfl⟩
abbrev main_v84 : Ref sig .tc := ⟨.hbm, 101, rfl⟩
abbrev main_v85 : Ref sig .tc := ⟨.hbm, 102, rfl⟩
abbrev main_v86 : Ref sig .tc := ⟨.hbm, 103, rfl⟩
abbrev main_v87 : Ref sig .tc := ⟨.hbm, 104, rfl⟩
abbrev main_v88 : Ref sig .tc := ⟨.hbm, 105, rfl⟩
abbrev main_v89 : Ref sig .tc := ⟨.hbm, 106, rfl⟩
abbrev main_v90 : Ref sig .tc := ⟨.hbm, 107, rfl⟩
abbrev main_v91 : Ref sig .tc := ⟨.hbm, 108, rfl⟩
abbrev main_v92 : Ref sig .tc := ⟨.hbm, 109, rfl⟩
abbrev main_v93 : Ref sig .tc := ⟨.hbm, 110, rfl⟩
abbrev main_v94 : Ref sig .tc := ⟨.hbm, 111, rfl⟩
abbrev main_v95 : Ref sig .tc := ⟨.hbm, 112, rfl⟩
abbrev main_v96 : Ref sig .tc := ⟨.hbm, 113, rfl⟩
abbrev main_v97 : Ref sig .tc := ⟨.hbm, 114, rfl⟩
abbrev main_v98 : Ref sig .tc := ⟨.hbm, 115, rfl⟩
abbrev main_v99 : Ref sig .tc := ⟨.hbm, 116, rfl⟩
abbrev main_cst_11 : Ref sig .tc := ⟨.hbm, 117, rfl⟩
abbrev main_v100 : Ref sig .tc := ⟨.hbm, 118, rfl⟩
abbrev main_v101 : Ref sig .tc := ⟨.hbm, 119, rfl⟩
abbrev main_cst_12 : Ref sig .tc := ⟨.hbm, 120, rfl⟩
abbrev main_v102 : Ref sig .tc := ⟨.hbm, 121, rfl⟩
abbrev main_v103 : Ref sig .tc := ⟨.hbm, 122, rfl⟩
abbrev main_cst_13 : Ref sig .tc := ⟨.hbm, 123, rfl⟩
abbrev main_v104 : Ref sig .tc := ⟨.hbm, 124, rfl⟩
abbrev main_v105 : Ref sig .tc := ⟨.hbm, 125, rfl⟩
abbrev main_v106 : Ref sig .tc := ⟨.hbm, 126, rfl⟩
abbrev main_v107 : Ref sig .tc := ⟨.hbm, 127, rfl⟩
abbrev main_v108 : Ref sig .tc := ⟨.hbm, 128, rfl⟩
abbrev main_v109 : Ref sig .tc := ⟨.hbm, 129, rfl⟩
abbrev main_v110 : Ref sig .tc := ⟨.hbm, 130, rfl⟩
abbrev main_v111 : Ref sig .tc := ⟨.hbm, 131, rfl⟩
abbrev main_v112 : Ref sig .tc := ⟨.hbm, 132, rfl⟩
abbrev main_v113 : Ref sig .tc := ⟨.hbm, 133, rfl⟩
abbrev main_cst_14 : Ref sig .tc := ⟨.hbm, 134, rfl⟩
abbrev main_v114 : Ref sig .tc := ⟨.hbm, 135, rfl⟩
abbrev main_v115 : Ref sig .tc := ⟨.hbm, 136, rfl⟩
abbrev main_cst_15 : Ref sig .tc := ⟨.hbm, 137, rfl⟩
abbrev main_v116 : Ref sig .tc := ⟨.hbm, 138, rfl⟩
abbrev main_v117 : Ref sig .tc := ⟨.hbm, 139, rfl⟩
abbrev main_cst_16 : Ref sig .tc := ⟨.hbm, 140, rfl⟩
abbrev main_v118 : Ref sig .tc := ⟨.hbm, 141, rfl⟩
abbrev main_v119 : Ref sig .tc := ⟨.hbm, 142, rfl⟩
abbrev main_v120 : Ref sig .tc := ⟨.hbm, 143, rfl⟩
abbrev main_v121 : Ref sig .tc := ⟨.hbm, 144, rfl⟩
abbrev main_v122 : Ref sig .tc := ⟨.hbm, 145, rfl⟩
abbrev main_v123 : Ref sig .tc := ⟨.hbm, 146, rfl⟩
abbrev main_v124 : Ref sig .tc := ⟨.hbm, 147, rfl⟩
abbrev main_v125 : Ref sig .tc := ⟨.hbm, 148, rfl⟩
abbrev main_v126 : Ref sig .tc := ⟨.hbm, 149, rfl⟩
abbrev main_v127 : Ref sig .tc := ⟨.hbm, 150, rfl⟩
abbrev main_v128 : Ref sig .tc := ⟨.hbm, 151, rfl⟩
abbrev main_v129 : Ref sig .tc := ⟨.hbm, 152, rfl⟩
abbrev main_v130 : Ref sig .tc := ⟨.hbm, 153, rfl⟩
abbrev main_v131 : Ref sig .tc := ⟨.hbm, 154, rfl⟩
abbrev main_v132 : Ref sig .tc := ⟨.hbm, 155, rfl⟩
abbrev main_v133 : Ref sig .tc := ⟨.hbm, 156, rfl⟩
abbrev main_v134 : Ref sig .tc := ⟨.hbm, 157, rfl⟩
abbrev main_v135 : Ref sig .tc := ⟨.hbm, 158, rfl⟩
abbrev main_v136 : Ref sig .tc := ⟨.hbm, 159, rfl⟩
abbrev main_v137 : Ref sig .tc := ⟨.hbm, 160, rfl⟩
abbrev main_v138 : Ref sig .tc := ⟨.hbm, 161, rfl⟩
abbrev main_v139 : Ref sig .tc := ⟨.hbm, 162, rfl⟩
abbrev main_v140 : Ref sig .tc := ⟨.hbm, 163, rfl⟩
abbrev main_v141 : Ref sig .tc := ⟨.hbm, 164, rfl⟩
abbrev main_v142 : Ref sig .tc := ⟨.hbm, 165, rfl⟩
abbrev main_v143 : Ref sig .tc := ⟨.hbm, 166, rfl⟩
abbrev main_v144 : Ref sig .tc := ⟨.hbm, 167, rfl⟩
abbrev main_v145 : Ref sig .tc := ⟨.hbm, 168, rfl⟩
abbrev main_v146 : Ref sig .tc := ⟨.hbm, 169, rfl⟩
abbrev main_v147 : Ref sig .tc := ⟨.hbm, 170, rfl⟩
abbrev main_cst_17 : Ref sig .tc := ⟨.hbm, 171, rfl⟩
abbrev main_v148 : Ref sig .tc := ⟨.hbm, 172, rfl⟩
abbrev main_v149 : Ref sig .tc := ⟨.hbm, 173, rfl⟩
abbrev main_cst_18 : Ref sig .tc := ⟨.hbm, 174, rfl⟩
abbrev main_v150 : Ref sig .tc := ⟨.hbm, 175, rfl⟩
abbrev main_v151 : Ref sig .tc := ⟨.hbm, 176, rfl⟩
abbrev main_cst_19 : Ref sig .tc := ⟨.hbm, 177, rfl⟩
abbrev main_v152 : Ref sig .tc := ⟨.hbm, 178, rfl⟩
abbrev main_v153 : Ref sig .tc := ⟨.hbm, 179, rfl⟩
abbrev main_v154 : Ref sig .tc := ⟨.hbm, 180, rfl⟩
abbrev main_v155 : Ref sig .tc := ⟨.hbm, 181, rfl⟩
abbrev main_v156 : Ref sig .tc := ⟨.hbm, 182, rfl⟩
abbrev main_v157 : Ref sig .tc := ⟨.hbm, 183, rfl⟩
abbrev main_v158 : Ref sig .tc := ⟨.hbm, 184, rfl⟩
abbrev main_v159 : Ref sig .tc := ⟨.hbm, 185, rfl⟩
abbrev main_v160 : Ref sig .tc := ⟨.hbm, 186, rfl⟩
abbrev main_v161 : Ref sig .tc := ⟨.hbm, 187, rfl⟩
abbrev main_v162 : Ref sig .tc := ⟨.hbm, 188, rfl⟩
abbrev main_v163 : Ref sig .tc := ⟨.hbm, 189, rfl⟩
abbrev main_v164 : Ref sig .tc := ⟨.hbm, 190, rfl⟩
abbrev main_v165 : Ref sig .tc := ⟨.hbm, 191, rfl⟩
abbrev main_v166 : Ref sig .tc := ⟨.hbm, 192, rfl⟩
abbrev main_v167 : Ref sig .tc := ⟨.hbm, 193, rfl⟩
abbrev main_v168 : Ref sig .tc := ⟨.hbm, 194, rfl⟩
abbrev main_v169 : Ref sig .tc := ⟨.hbm, 195, rfl⟩
abbrev main_v170 : Ref sig .tc := ⟨.hbm, 196, rfl⟩
abbrev main_v171 : Ref sig .tc := ⟨.hbm, 197, rfl⟩
abbrev main_v172 : Ref sig .tc := ⟨.hbm, 198, rfl⟩
abbrev main_v173 : Ref sig .tc := ⟨.hbm, 199, rfl⟩
abbrev main_v174 : Ref sig .tc := ⟨.hbm, 200, rfl⟩
abbrev main_v175 : Ref sig .tc := ⟨.hbm, 201, rfl⟩
abbrev main_v176 : Ref sig .tc := ⟨.hbm, 202, rfl⟩
abbrev main_v177 : Ref sig .tc := ⟨.hbm, 203, rfl⟩
abbrev main_cst_20 : Ref sig .tc := ⟨.hbm, 204, rfl⟩
abbrev main_v178 : Ref sig .tc := ⟨.hbm, 205, rfl⟩
abbrev main_v179 : Ref sig .tc := ⟨.hbm, 206, rfl⟩
abbrev main_v180 : Ref sig .tc := ⟨.hbm, 207, rfl⟩
abbrev main_cst_21 : Ref sig .tc := ⟨.hbm, 208, rfl⟩
abbrev main_v181 : Ref sig .tc := ⟨.hbm, 209, rfl⟩
abbrev main_v182 : Ref sig .tc := ⟨.hbm, 210, rfl⟩
abbrev main_v183 : Ref sig .tc := ⟨.hbm, 211, rfl⟩
abbrev main_v184 : Ref sig .tc := ⟨.hbm, 212, rfl⟩
abbrev main_v185 : Ref sig .tc := ⟨.hbm, 213, rfl⟩
abbrev main_cst_22 : Ref sig .tc := ⟨.hbm, 214, rfl⟩
abbrev main_v186 : Ref sig .tc := ⟨.hbm, 215, rfl⟩
abbrev main_v187 : Ref sig .tc := ⟨.hbm, 216, rfl⟩
abbrev main_cst_23 : Ref sig .tc := ⟨.hbm, 217, rfl⟩
abbrev main_v188 : Ref sig .tc := ⟨.hbm, 218, rfl⟩
abbrev main_v189 : Ref sig .tc := ⟨.hbm, 219, rfl⟩
abbrev main_v190 : Ref sig .tc := ⟨.hbm, 220, rfl⟩
abbrev main_v191 : Ref sig .tc := ⟨.hbm, 221, rfl⟩

abbrev nD : Nat := 1
abbrev τ : Topo := Topo.v7x

variable {F : FTy → Type} [FloatOps F]
-- ==== Merge.lean ====
abbrev S17408x1024 : Shape := ⟨2, ![17408, 1024]⟩
abbrev S17408x7296 : Shape := ⟨2, ![17408, 7296]⟩
abbrev S1024x2048 : Shape := ⟨2, ![1024, 2048]⟩
abbrev S17408x2048 : Shape := ⟨2, ![17408, 2048]⟩
abbrev S1024x1024 : Shape := ⟨2, ![1024, 1024]⟩
abbrev S1024x512 : Shape := ⟨2, ![1024, 512]⟩

abbrev nBuf : Space → Nat
  | .hbm => 10
  | .vmem => 16
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x7296, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .bf16⟩
  | .hbm, ⟨7, _⟩ => ⟨S1024x2048, .bf16⟩
  | .hbm, ⟨8, _⟩ => ⟨S1024x2048, .bf16⟩
  | .hbm, ⟨9, _⟩ => ⟨S17408x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | .local _ .vmem, ⟨7, _⟩ => ⟨S1024x512, .f32⟩
  | .local _ .vmem, ⟨8, _⟩ => ⟨S1024x512, .bf16⟩
  | .local _ .vmem, ⟨9, _⟩ => ⟨S1024x512, .bf16⟩
  | .local _ .vmem, ⟨10, _⟩ => ⟨S1024x512, .bf16⟩
  | .local _ .vmem, ⟨11, _⟩ => ⟨S1024x512, .bf16⟩
  | .local _ .vmem, ⟨12, _⟩ => ⟨S1024x512, .bf16⟩
  | .local _ .vmem, ⟨13, _⟩ => ⟨S1024x512, .bf16⟩
  | .local _ .vmem, ⟨14, _⟩ => ⟨S1024x512, .bf16⟩
  | .local _ .vmem, ⟨15, _⟩ => ⟨S1024x512, .bf16⟩
  | _, _ => ⟨S17408x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![17, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c4_i32 : BitVec 32 := 4#32
  let v0 : BitVec 32 := Scalar.addi c4_i32 arg1
  let c0_i32 : BitVec 32 := 0#32
  ![arg0.toNat, v0.toNat]

def cc0_transform_3 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1024x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x512 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 2 → Memref sig .tc .vmem S1024x512 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== MergeRefIdeal.lean ====
abbrev S17408x1024 : Shape := ⟨2, ![17408, 1024]⟩
abbrev S17408x7296 : Shape := ⟨2, ![17408, 7296]⟩
abbrev S1024x2048 : Shape := ⟨2, ![1024, 2048]⟩
abbrev S17408x2048 : Shape := ⟨2, ![17408, 2048]⟩
abbrev S_ : Shape := ⟨0, ![]⟩

abbrev nBuf : Space → Nat
  | .hbm => 42
  | .vmem => 0
  | .smem => 0
  | _ => 0

abbrev bufTy : (tb : Table) → Fin (tcTables nBuf tb) → BufTy
  | .hbm, ⟨0, _⟩ => ⟨S17408x1024, .bf16⟩
  | .hbm, ⟨1, _⟩ => ⟨S17408x1024, .bf16⟩
  | .hbm, ⟨2, _⟩ => ⟨S17408x7296, .f32⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S17408x1024, .f32⟩
  | .hbm, ⟨7, _⟩ => ⟨S17408x1024, .f32⟩
  | .hbm, ⟨8, _⟩ => ⟨S17408x2048, .f32⟩
  | .hbm, ⟨9, _⟩ => ⟨S17408x2048, .f32⟩
  | .hbm, ⟨10, _⟩ => ⟨S17408x2048, .f32⟩
  | .hbm, ⟨11, _⟩ => ⟨S17408x2048, .f32⟩
  | .hbm, ⟨12, _⟩ => ⟨S17408x2048, .f32⟩
  | .hbm, ⟨13, _⟩ => ⟨S17408x2048, .f32⟩
  | .hbm, ⟨14, _⟩ => ⟨S_, .f32⟩
  | .hbm, ⟨15, _⟩ => ⟨S17408x2048, .f32⟩
  | .hbm, ⟨16, _⟩ => ⟨S17408x2048, .f32⟩
  | .hbm, ⟨17, _⟩ => ⟨S_, .f32⟩
  | .hbm, ⟨18, _⟩ => ⟨S17408x2048, .f32⟩
  | .hbm, ⟨19, _⟩ => ⟨S17408x2048, .f32⟩
  | .hbm, ⟨20, _⟩ => ⟨S17408x2048, .f32⟩
  | .hbm, ⟨21, _⟩ => ⟨S17408x2048, .f32⟩
  | .hbm, ⟨22, _⟩ => ⟨S17408x2048, .f32⟩
  | .hbm, ⟨23, _⟩ => ⟨S17408x2048, .f32⟩
  | .hbm, ⟨24, _⟩ => ⟨S_, .f32⟩
  | .hbm, ⟨25, _⟩ => ⟨S17408x2048, .f32⟩
  | .hbm, ⟨26, _⟩ => ⟨S17408x2048, .f32⟩
  | .hbm, ⟨27, _⟩ => ⟨S_, .f32⟩
  | .hbm, ⟨28, _⟩ => ⟨S17408x2048, .f32⟩
  | .hbm, ⟨29, _⟩ => ⟨S17408x2048, .f32⟩
  | .hbm, ⟨30, _⟩ => ⟨S17408x2048, .f32⟩
  | .hbm, ⟨31, _⟩ => ⟨S17408x2048, .f32⟩
  | .hbm, ⟨32, _⟩ => ⟨S17408x2048, .f32⟩
  | .hbm, ⟨33, _⟩ => ⟨S_, .f32⟩
  | .hbm, ⟨34, _⟩ => ⟨S17408x2048, .f32⟩
  | .hbm, ⟨35, _⟩ => ⟨S17408x2048, .f32⟩
  | .hbm, ⟨36, _⟩ => ⟨S_, .f32⟩
  | .hbm, ⟨37, _⟩ => ⟨S17408x2048, .f32⟩
  | .hbm, ⟨38, _⟩ => ⟨S17408x2048, .f32⟩
  | .hbm, ⟨39, _⟩ => ⟨S17408x2048, .f32⟩
  | .hbm, ⟨40, _⟩ => ⟨S17408x2048, .f32⟩
  | .hbm, ⟨41, _⟩ => ⟨S17408x2048, .bf16⟩
  | _, _ => ⟨S17408x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_cst_3 : Ref sig .tc := ⟨.hbm, 33, rfl⟩
abbrev main_v23 : Ref sig .tc := ⟨.hbm, 34, rfl⟩
abbrev main_v24 : Ref sig .tc := ⟨.hbm, 35, rfl⟩
abbrev main_cst_4 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== OutProj.lean ====
abbrev S17408x2048 : Shape := ⟨2, ![17408, 2048]⟩
abbrev S2048x2048 : Shape := ⟨2, ![2048, 2048]⟩
abbrev S2048 : Shape := ⟨1, ![2048]⟩
abbrev S2048x36 : Shape := ⟨2, ![2048, 36]⟩
abbrev S36 : Shape := ⟨1, ![36]⟩
abbrev S_ : Shape := ⟨0, ![]⟩
abbrev S2048x92 : Shape := ⟨2, ![2048, 92]⟩
abbrev S2048x128 : Shape := ⟨2, ![2048, 128]⟩
abbrev S92 : Shape := ⟨1, ![92]⟩
abbrev S128 : Shape := ⟨1, ![128]⟩
abbrev S1x128 : Shape := ⟨2, ![1, 128]⟩
abbrev S1x2048 : Shape := ⟨2, ![1, 2048]⟩
abbrev S17408x128 : Shape := ⟨2, ![17408, 128]⟩
abbrev S256x2048 : Shape := ⟨2, ![256, 2048]⟩
abbrev S256x128 : Shape := ⟨2, ![256, 128]⟩
abbrev S256 : Shape := ⟨1, ![256]⟩
abbrev S256x1 : Shape := ⟨2, ![256, 1]⟩
abbrev S256x256 : Shape := ⟨2, ![256, 256]⟩

abbrev nBuf : Space → Nat
  | .hbm => 24
  | .vmem => 19
  | .smem => 0
  | _ => 0

abbrev bufTy : (tb : Table) → Fin (tcTables nBuf tb) → BufTy
  | .hbm, ⟨0, _⟩ => ⟨S17408x2048, .f32⟩
  | .hbm, ⟨1, _⟩ => ⟨S17408x2048, .bf16⟩
  | .hbm, ⟨2, _⟩ => ⟨S2048x2048, .f32⟩
  | .hbm, ⟨3, _⟩ => ⟨S2048, .f32⟩
  | .hbm, ⟨4, _⟩ => ⟨S2048x36, .f32⟩
  | .hbm, ⟨5, _⟩ => ⟨S36, .f32⟩
  | .hbm, ⟨6, _⟩ => ⟨S2048x2048, .bf16⟩
  | .hbm, ⟨7, _⟩ => ⟨S_, .f32⟩
  | .hbm, ⟨8, _⟩ => ⟨S2048x92, .f32⟩
  | .hbm, ⟨9, _⟩ => ⟨S2048x128, .f32⟩
  | .hbm, ⟨10, _⟩ => ⟨S2048x128, .bf16⟩
  | .hbm, ⟨11, _⟩ => ⟨S2048x128, .f32⟩
  | .hbm, ⟨12, _⟩ => ⟨S2048x128, .f32⟩
  | .hbm, ⟨13, _⟩ => ⟨S2048x128, .bf16⟩
  | .hbm, ⟨14, _⟩ => ⟨S_, .f32⟩
  | .hbm, ⟨15, _⟩ => ⟨S92, .f32⟩
  | .hbm, ⟨16, _⟩ => ⟨S128, .f32⟩
  | .hbm, ⟨17, _⟩ => ⟨S1x128, .f32⟩
  | .hbm, ⟨18, _⟩ => ⟨S1x2048, .f32⟩
  | .hbm, ⟨19, _⟩ => ⟨S17408x2048, .f32⟩
  | .hbm, ⟨20, _⟩ => ⟨S17408x2048, .f32⟩
  | .hbm, ⟨21, _⟩ => ⟨S17408x128, .i32⟩
  | .hbm, ⟨22, _⟩ => ⟨S17408x128, .f32⟩
  | .hbm, ⟨23, _⟩ => ⟨S1x128, .f32⟩
  | .local _ .vmem, ⟨0, _⟩ => ⟨S256x2048, .f32⟩
  | .local _ .vmem, ⟨1, _⟩ => ⟨S256x2048, .f32⟩
  | .local _ .vmem, ⟨2, _⟩ => ⟨S256x2048, .bf16⟩
  | .local _ .vmem, ⟨3, _⟩ => ⟨S256x2048, .bf16⟩
  | .local _ .vmem, ⟨4, _⟩ => ⟨S2048x2048, .bf16⟩
  | .local _ .vmem, ⟨5, _⟩ => ⟨S1x2048, .f32⟩
  | .local _ .vmem, ⟨6, _⟩ => ⟨S2048x128, .bf16⟩
  | .local _ .vmem, ⟨7, _⟩ => ⟨S2048x128, .bf16⟩
  | .local _ .vmem, ⟨8, _⟩ => ⟨S1x128, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x128, .i32⟩
  | .local _ .vmem, ⟨14, _⟩ => ⟨S256x128, .i32⟩
  | .local _ .vmem, ⟨15, _⟩ => ⟨S256x128, .f32⟩
  | .local _ .vmem, ⟨16, _⟩ => ⟨S256x128, .f32⟩
  | .local _ .vmem, ⟨17, _⟩ => ⟨S1x128, .f32⟩
  | .local _ .vmem, ⟨18, _⟩ => ⟨S1x128, .f32⟩
  | _, _ => ⟨S17408x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev main_v11_3 : Ref sig .tc := ⟨.hbm, 22, rfl⟩
abbrev main_v11_4 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_scratch0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17

abbrev nD : Nat := 1
abbrev τ : Topo := Topo.v7x

variable {F : FTy → Type} [FloatOps F]

abbrev grid0 : Pipeline.Grid := ⟨1, ![68], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S2048x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S2048x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S2048x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S256x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x128 .i32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S256x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== OutProjRefIdeal.lean ====
abbrev S17408x2048 : Shape := ⟨2, ![17408, 2048]⟩
abbrev S2048x2048 : Shape := ⟨2, ![2048, 2048]⟩
abbrev S2048 : Shape := ⟨1, ![2048]⟩
abbrev S2048x36 : Shape := ⟨2, ![2048, 36]⟩
abbrev S36 : Shape := ⟨1, ![36]⟩
abbrev S_ : Shape := ⟨0, ![]⟩
abbrev S17408 : Shape := ⟨1, ![17408]⟩
abbrev S17408x1 : Shape := ⟨2, ![17408, 1]⟩
abbrev S1x2048 : Shape := ⟨2, ![1, 2048]⟩

abbrev nBuf : Space → Nat
  | .hbm => 25
  | .vmem => 0
  | .smem => 0
  | _ => 0

abbrev bufTy : (tb : Table) → Fin (tcTables nBuf tb) → BufTy
  | .hbm, ⟨0, _⟩ => ⟨S17408x2048, .f32⟩
  | .hbm, ⟨1, _⟩ => ⟨S17408x2048, .bf16⟩
  | .hbm, ⟨2, _⟩ => ⟨S2048x2048, .f32⟩
  | .hbm, ⟨3, _⟩ => ⟨S2048, .f32⟩
  | .hbm, ⟨4, _⟩ => ⟨S2048x36, .f32⟩
  | .hbm, ⟨5, _⟩ => ⟨S36, .f32⟩
  | .hbm, ⟨6, _⟩ => ⟨S17408x2048, .f32⟩
  | .hbm, ⟨7, _⟩ => ⟨S17408x2048, .f32⟩
  | .hbm, ⟨8, _⟩ => ⟨S17408x2048, .f32⟩
  | .hbm, ⟨9, _⟩ => ⟨S17408x2048, .f32⟩
  | .hbm, ⟨10, _⟩ => ⟨S_, .f32⟩
  | .hbm, ⟨11, _⟩ => ⟨S17408, .f32⟩
  | .hbm, ⟨12, _⟩ => ⟨S17408x1, .f32⟩
  | .hbm, ⟨13, _⟩ => ⟨S_, .f32⟩
  | .hbm, ⟨14, _⟩ => ⟨S17408x1, .f32⟩
  | .hbm, ⟨15, _⟩ => ⟨S17408x1, .f32⟩
  | .hbm, ⟨16, _⟩ => ⟨S_, .f32⟩
  | .hbm, ⟨17, _⟩ => ⟨S17408x1, .f32⟩
  | .hbm, ⟨18, _⟩ => ⟨S17408x1, .f32⟩
  | .hbm, ⟨19, _⟩ => ⟨S17408x1, .f32⟩
  | .hbm, ⟨20, _⟩ => ⟨S17408x2048, .f32⟩
  | .hbm, ⟨21, _⟩ => ⟨S17408x2048, .f32⟩
  | .hbm, ⟨22, _⟩ => ⟨S1x2048, .f32⟩
  | .hbm, ⟨23, _⟩ => ⟨S17408x2048, .f32⟩
  | .hbm, ⟨24, _⟩ => ⟨S17408x2048, .f32⟩
  | _, _ => ⟨S17408x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩

abbrev nD : Nat := 1
abbrev τ : Topo := Topo.v7x

variable {F : FTy → Type} [FloatOps F]
-- ==== Dsa1.lean ====
abbrev S4x4096x1024 : Shape := ⟨3, ![4, 4096, 1024]⟩
abbrev S4x4096x128 : Shape := ⟨3, ![4, 4096, 128]⟩
abbrev S4x4096x256 : Shape := ⟨3, ![4, 4096, 256]⟩
abbrev S4x1024x1024 : Shape := ⟨3, ![4, 1024, 1024]⟩
abbrev S1x128x1024 : Shape := ⟨3, ![1, 128, 1024]⟩
abbrev S1x128x128 : Shape := ⟨3, ![1, 128, 128]⟩
abbrev S1x1024x256 : Shape := ⟨3, ![1, 1024, 256]⟩
abbrev S1x1024x128 : Shape := ⟨3, ![1, 1024, 128]⟩
abbrev S128x1024 : Shape := ⟨2, ![128, 1024]⟩
abbrev S128x1 : Shape := ⟨2, ![128, 1]⟩
abbrev S1024x128 : Shape := ⟨2, ![1024, 128]⟩
abbrev S128x128 : Shape := ⟨2, ![128, 128]⟩
abbrev S1x128x1 : Shape := ⟨3, ![1, 128, 1]⟩
abbrev S128 : Shape := ⟨1, ![128]⟩
abbrev S1 : Shape := ⟨1, ![1]⟩
abbrev S1x1x1 : Shape := ⟨3, ![1, 1, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x128, .f32⟩
  | .hbm, ⟨3, _⟩ => ⟨S4x4096x256, .bf16⟩
  | .hbm, ⟨4, _⟩ => ⟨S4x4096x256, .bf16⟩
  | .hbm, ⟨5, _⟩ => ⟨S4x4096x128, .bf16⟩
  | .hbm, ⟨6, _⟩ => ⟨S4x1024x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x1024x256, .bf16⟩
  | .local _ .vmem, ⟨7, _⟩ => ⟨S1x1024x256, .bf16⟩
  | .local _ .vmem, ⟨8, _⟩ => ⟨S1x1024x256, .bf16⟩
  | .local _ .vmem, ⟨9, _⟩ => ⟨S1x1024x256, .bf16⟩
  | .local _ .vmem, ⟨10, _⟩ => ⟨S1x1024x128, .bf16⟩
  | .local _ .vmem, ⟨11, _⟩ => ⟨S1x1024x128, .bf16⟩
  | .local _ .vmem, ⟨12, _⟩ => ⟨S1x128x1024, .bf16⟩
  | .local _ .vmem, ⟨13, _⟩ => ⟨S1x128x1024, .bf16⟩
  | .local _ .vmem, ⟨14, _⟩ => ⟨S128x1024, .i32⟩
  | .local _ .vmem, ⟨15, _⟩ => ⟨S128x1024, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32_63 : BitVec 32 := 0#32
  let c32_i32 : BitVec 32 := 32#32
  let v135 : BitVec 32 := Scalar.addi c0_i32_63 c32_i32
  let c1_i32_64 : BitVec 32 := 1#32
  ⟨c0_i32_63, v135, c1_i32_64⟩
@[reducible] def k0_t2_loop : Scf.Loop 32 :=
  let c0_i32_204 : BitVec 32 := 0#32
  let c10_i32 : BitVec 32 := 10#32
  let v373 : BitVec 32 := Scalar.addi c0_i32_204 c10_i32
  let c1_i32_205 : BitVec 32 := 1#32
  ⟨c0_i32_204, v373, c1_i32_205⟩
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg1
  let c0_i32_0 : BitVec 32 := 0#32
  let c0_i32_1 : BitVec 32 := 0#32
  ![arg0.toNat, v0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x1024x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Dsa2.lean ====
abbrev S4x4096x1024 : Shape := ⟨3, ![4, 4096, 1024]⟩
abbrev S4x4096x128 : Shape := ⟨3, ![4, 4096, 128]⟩
abbrev S4x4096x256 : Shape := ⟨3, ![4, 4096, 256]⟩
abbrev S4x1024x1024 : Shape := ⟨3, ![4, 1024, 1024]⟩
abbrev S1x128x1024 : Shape := ⟨3, ![1, 128, 1024]⟩
abbrev S1x128x128 : Shape := ⟨3, ![1, 128, 128]⟩
abbrev S1x2048x256 : Shape := ⟨3, ![1, 2048, 256]⟩
abbrev S1x2048x128 : Shape := ⟨3, ![1, 2048, 128]⟩
abbrev S128x2048 : Shape := ⟨2, ![128, 2048]⟩
abbrev S128x1 : Shape := ⟨2, ![128, 1]⟩
abbrev S2048x128 : Shape := ⟨2, ![2048, 128]⟩
abbrev S128x128 : Shape := ⟨2, ![128, 128]⟩
abbrev S1x128x1 : Shape := ⟨3, ![1, 128, 1]⟩
abbrev S128 : Shape := ⟨1, ![128]⟩
abbrev S1 : Shape := ⟨1, ![1]⟩
abbrev S1x1x1 : Shape := ⟨3, ![1, 1, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x128, .f32⟩
  | .hbm, ⟨3, _⟩ => ⟨S4x4096x256, .bf16⟩
  | .hbm, ⟨4, _⟩ => ⟨S4x4096x256, .bf16⟩
  | .hbm, ⟨5, _⟩ => ⟨S4x4096x128, .bf16⟩
  | .hbm, ⟨6, _⟩ => ⟨S4x1024x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x2048x256, .bf16⟩
  | .local _ .vmem, ⟨7, _⟩ => ⟨S1x2048x256, .bf16⟩
  | .local _ .vmem, ⟨8, _⟩ => ⟨S1x2048x256, .bf16⟩
  | .local _ .vmem, ⟨9, _⟩ => ⟨S1x2048x256, .bf16⟩
  | .local _ .vmem, ⟨10, _⟩ => ⟨S1x2048x128, .bf16⟩
  | .local _ .vmem, ⟨11, _⟩ => ⟨S1x2048x128, .bf16⟩
  | .local _ .vmem, ⟨12, _⟩ => ⟨S1x128x1024, .bf16⟩
  | .local _ .vmem, ⟨13, _⟩ => ⟨S1x128x1024, .bf16⟩
  | .local _ .vmem, ⟨14, _⟩ => ⟨S128x2048, .i32⟩
  | .local _ .vmem, ⟨15, _⟩ => ⟨S128x2048, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32_62 : BitVec 32 := 0#32
  let c32_i32 : BitVec 32 := 32#32
  let v135 : BitVec 32 := Scalar.addi c0_i32_62 c32_i32
  let c1_i32_63 : BitVec 32 := 1#32
  ⟨c0_i32_62, v135, c1_i32_63⟩
@[reducible] def k0_t2_loop : Scf.Loop 32 :=
  let c0_i32_203 : BitVec 32 := 0#32
  let c11_i32 : BitVec 32 := 11#32
  let v373 : BitVec 32 := Scalar.addi c0_i32_203 c11_i32
  let c1_i32_204 : BitVec 32 := 1#32
  ⟨c0_i32_203, v373, c1_i32_204⟩
def cc0_transform_0 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x2048x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x2048x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x2048x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Dsa3.lean ====
abbrev S4x4096x1024 : Shape := ⟨3, ![4, 4096, 1024]⟩
abbrev S4x4096x128 : Shape := ⟨3, ![4, 4096, 128]⟩
abbrev S4x4096x256 : Shape := ⟨3, ![4, 4096, 256]⟩
abbrev S4x1024x1024 : Shape := ⟨3, ![4, 1024, 1024]⟩
abbrev S1x128x1024 : Shape := ⟨3, ![1, 128, 1024]⟩
abbrev S1x128x128 : Shape := ⟨3, ![1, 128, 128]⟩
abbrev S1x3072x256 : Shape := ⟨3, ![1, 3072, 256]⟩
abbrev S1x3072x128 : Shape := ⟨3, ![1, 3072, 128]⟩
abbrev S128x3072 : Shape := ⟨2, ![128, 3072]⟩
abbrev S128x1 : Shape := ⟨2, ![128, 1]⟩
abbrev S3072x128 : Shape := ⟨2, ![3072, 128]⟩
abbrev S128x128 : Shape := ⟨2, ![128, 128]⟩
abbrev S1x128x1 : Shape := ⟨3, ![1, 128, 1]⟩
abbrev S128 : Shape := ⟨1, ![128]⟩
abbrev S1 : Shape := ⟨1, ![1]⟩
abbrev S1x1x1 : Shape := ⟨3, ![1, 1, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x128, .f32⟩
  | .hbm, ⟨3, _⟩ => ⟨S4x4096x256, .bf16⟩
  | .hbm, ⟨4, _⟩ => ⟨S4x4096x256, .bf16⟩
  | .hbm, ⟨5, _⟩ => ⟨S4x4096x128, .bf16⟩
  | .hbm, ⟨6, _⟩ => ⟨S4x1024x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x3072x256, .bf16⟩
  | .local _ .vmem, ⟨7, _⟩ => ⟨S1x3072x256, .bf16⟩
  | .local _ .vmem, ⟨8, _⟩ => ⟨S1x3072x256, .bf16⟩
  | .local _ .vmem, ⟨9, _⟩ => ⟨S1x3072x256, .bf16⟩
  | .local _ .vmem, ⟨10, _⟩ => ⟨S1x3072x128, .bf16⟩
  | .local _ .vmem, ⟨11, _⟩ => ⟨S1x3072x128, .bf16⟩
  | .local _ .vmem, ⟨12, _⟩ => ⟨S1x128x1024, .bf16⟩
  | .local _ .vmem, ⟨13, _⟩ => ⟨S1x128x1024, .bf16⟩
  | .local _ .vmem, ⟨14, _⟩ => ⟨S128x3072, .i32⟩
  | .local _ .vmem, ⟨15, _⟩ => ⟨S128x3072, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32_62 : BitVec 32 := 0#32
  let c32_i32 : BitVec 32 := 32#32
  let v135 : BitVec 32 := Scalar.addi c0_i32_62 c32_i32
  let c1_i32_63 : BitVec 32 := 1#32
  ⟨c0_i32_62, v135, c1_i32_63⟩
@[reducible] def k0_t2_loop : Scf.Loop 32 :=
  let c0_i32_203 : BitVec 32 := 0#32
  let c12_i32 : BitVec 32 := 12#32
  let v373 : BitVec 32 := Scalar.addi c0_i32_203 c12_i32
  let c1_i32_204 : BitVec 32 := 1#32
  ⟨c0_i32_203, v373, c1_i32_204⟩
def cc0_transform_0 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c16_i32 : BitVec 32 := 16#32
  let v0 : BitVec 32 := Scalar.addi c16_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x3072x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x3072x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x3072x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Dsa4.lean ====
abbrev S4x4096x1024 : Shape := ⟨3, ![4, 4096, 1024]⟩
abbrev S4x4096x128 : Shape := ⟨3, ![4, 4096, 128]⟩
abbrev S4x4096x256 : Shape := ⟨3, ![4, 4096, 256]⟩
abbrev S4x1024x1024 : Shape := ⟨3, ![4, 1024, 1024]⟩
abbrev S1x128x1024 : Shape := ⟨3, ![1, 128, 1024]⟩
abbrev S1x128x128 : Shape := ⟨3, ![1, 128, 128]⟩
abbrev S1x4096x256 : Shape := ⟨3, ![1, 4096, 256]⟩
abbrev S1x4096x128 : Shape := ⟨3, ![1, 4096, 128]⟩
abbrev S128x4096 : Shape := ⟨2, ![128, 4096]⟩
abbrev S128x1 : Shape := ⟨2, ![128, 1]⟩
abbrev S4096x128 : Shape := ⟨2, ![4096, 128]⟩
abbrev S128x128 : Shape := ⟨2, ![128, 128]⟩
abbrev S1x128x1 : Shape := ⟨3, ![1, 128, 1]⟩
abbrev S128 : Shape := ⟨1, ![128]⟩
abbrev S1 : Shape := ⟨1, ![1]⟩
abbrev S1x1x1 : Shape := ⟨3, ![1, 1, 1]⟩

abbrev nBuf : Space → Nat
  | .hbm => 7
  | .vmem => 16
  | .smem => 0
  | _ => 0

abbrev bufTy : (tb : Table) → Fin (tcTables nBuf tb) → BufTy
  | .hbm, ⟨0, _⟩ => ⟨S4x4096x1024, .bf16⟩
  | .hbm, ⟨1, _⟩ => ⟨S4x4096x1024, .bf16⟩
  | .hbm, ⟨2, _⟩ => ⟨S4x4096x128, .f32⟩
  | .hbm, ⟨3, _⟩ => ⟨S4x4096x256, .bf16⟩
  | .hbm, ⟨4, _⟩ => ⟨S4x4096x256, .bf16⟩
  | .hbm, ⟨5, _⟩ => ⟨S4x4096x128, .bf16⟩
  | .hbm, ⟨6, _⟩ => ⟨S4x1024x1024, .bf16⟩
  | .local _ .vmem, ⟨0, _⟩ => ⟨S1x128x1024, .bf16⟩
  | .local _ .vmem, ⟨1, _⟩ => ⟨S1x128x1024, .bf16⟩
  | .local _ .vmem, ⟨2, _⟩ => ⟨S1x128x1024, .bf16⟩
  | .local _ .vmem, ⟨3, _⟩ => ⟨S1x128x1024, .bf16⟩
  | .local _ .vmem, ⟨4, _⟩ => ⟨S1x128x128, .f32⟩
  | .local _ .vmem, ⟨5, _⟩ => ⟨S1x128x128, .f32⟩
  | .local _ .vmem, ⟨6, _⟩ => ⟨S1x4096x256, .bf16⟩
  | .local _ .vmem, ⟨7, _⟩ => ⟨S1x4096x256, .bf16⟩
  | .local _ .vmem, ⟨8, _⟩ => ⟨S1x4096x256, .bf16⟩
  | .local _ .vmem, ⟨9, _⟩ => ⟨S1x4096x256, .bf16⟩
  | .local _ .vmem, ⟨10, _⟩ => ⟨S1x4096x128, .bf16⟩
  | .local _ .vmem, ⟨11, _⟩ => ⟨S1x4096x128, .bf16⟩
  | .local _ .vmem, ⟨12, _⟩ => ⟨S1x128x1024, .bf16⟩
  | .local _ .vmem, ⟨13, _⟩ => ⟨S1x128x1024, .bf16⟩
  | .local _ .vmem, ⟨14, _⟩ => ⟨S128x4096, .i32⟩
  | .local _ .vmem, ⟨15, _⟩ => ⟨S128x4096, .f32⟩
  | _, _ => ⟨S4x4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [BitOps F]

abbrev grid0 : Pipeline.Grid := ⟨2, ![4, 8], ![false, false]⟩

@[reducible] def k0_t1_loop : Scf.Loop 32 :=
  let c0_i32_62 : BitVec 32 := 0#32
  let c32_i32 : BitVec 32 := 32#32
  let v135 : BitVec 32 := Scalar.addi c0_i32_62 c32_i32
  let c1_i32_63 : BitVec 32 := 1#32
  ⟨c0_i32_62, v135, c1_i32_63⟩
@[reducible] def k0_t2_loop : Scf.Loop 32 :=
  let c0_i32_203 : BitVec 32 := 0#32
  let c12_i32 : BitVec 32 := 12#32
  let v373 : BitVec 32 := Scalar.addi c0_i32_203 c12_i32
  let c1_i32_204 : BitVec 32 := 1#32
  ⟨c0_i32_203, v373, c1_i32_204⟩
def cc0_transform_0 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, v0.toNat, c0_i32.toNat]

def cc0_transform_1 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, v0.toNat, c0_i32.toNat]

def cc0_transform_2 (i : grid0.Coords) : Fin 3 → Nat :=
  let arg0 : BitVec 32 := BitVec.ofNat 32 (i 0).val
  let arg1 : BitVec 32 := BitVec.ofNat 32 (i 1).val
  let c24_i32 : BitVec 32 := 24#32
  let v0 : BitVec 32 := Scalar.addi c24_i32 arg1
  let c0_i32 : BitVec 32 := 0#32
  let c0_i32_0 : BitVec 32 := 0#32
  ![arg0.toNat, v0.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4096x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x4096x256 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S1x4096x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S1x128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== DsaStep.lean ====
abbrev S32x32x1024 : Shape := ⟨3, ![32, 32, 1024]⟩
abbrev S32x32x128 : Shape := ⟨3, ![32, 32, 128]⟩
abbrev S32x2048x256 : Shape := ⟨3, ![32, 2048, 256]⟩
abbrev S32x2048x64 : Shape := ⟨3, ![32, 2048, 64]⟩
abbrev S32x32x256 : Shape := ⟨3, ![32, 32, 256]⟩
abbrev S1x32x1024 : Shape := ⟨3, ![1, 32, 1024]⟩
abbrev S1x32x128 : Shape := ⟨3, ![1, 32, 128]⟩
abbrev S1x2048x256 : Shape := ⟨3, ![1, 2048, 256]⟩
abbrev S1x2048x64 : Shape := ⟨3, ![1, 2048, 64]⟩
abbrev S1x32x256 : Shape := ⟨3, ![1, 32, 256]⟩
abbrev S2176x256 : Shape := ⟨2, ![2176, 256]⟩
abbrev S2176x128 : Shape := ⟨2, ![2176, 128]⟩
abbrev S32x2176 : Shape := ⟨2, ![32, 2176]⟩
abbrev S2048x256 : Shape := ⟨2, ![2048, 256]⟩
abbrev S32x256 : Shape := ⟨2, ![32, 256]⟩
abbrev S96x256 : Shape := ⟨2, ![96, 256]⟩
abbrev S2048x64 : Shape := ⟨2, ![2048, 64]⟩
abbrev S32x128 : Shape := ⟨2, ![32, 128]⟩
abbrev S96x128 : Shape := ⟨2, ![96, 128]⟩
abbrev S32x1 : Shape := ⟨2, ![32, 1]⟩
abbrev S1x32x1 : Shape := ⟨3, ![1, 32, 1]⟩
abbrev S32 : Shape := ⟨1, ![32]⟩
abbrev S1 : Shape := ⟨1, ![1]⟩
abbrev S1x1x1 : Shape := ⟨3, ![1, 1, 1]⟩

abbrev nBuf : Space → Nat
  | .hbm => 10
  | .vmem => 25
  | .smem => 0
  | _ => 0

abbrev bufTy : (tb : Table) → Fin (tcTables nBuf tb) → BufTy
  | .hbm, ⟨0, _⟩ => ⟨S32x32x1024, .bf16⟩
  | .hbm, ⟨1, _⟩ => ⟨S32x32x1024, .bf16⟩
  | .hbm, ⟨2, _⟩ => ⟨S32x32x128, .f32⟩
  | .hbm, ⟨3, _⟩ => ⟨S32x2048x256, .f32⟩
  | .hbm, ⟨4, _⟩ => ⟨S32x2048x256, .f32⟩
  | .hbm, ⟨5, _⟩ => ⟨S32x2048x64, .f32⟩
  | .hbm, ⟨6, _⟩ => ⟨S32x32x256, .bf16⟩
  | .hbm, ⟨7, _⟩ => ⟨S32x32x256, .bf16⟩
  | .hbm, ⟨8, _⟩ => ⟨S32x32x128, .bf16⟩
  | .hbm, ⟨9, _⟩ => ⟨S32x32x1024, .bf16⟩
  | .local _ .vmem, ⟨0, _⟩ => ⟨S1x32x1024, .bf16⟩
  | .local _ .vmem, ⟨1, _⟩ => ⟨S1x32x1024, .bf16⟩
  | .local _ .vmem, ⟨2, _⟩ => ⟨S1x32x1024, .bf16⟩
  | .local _ .vmem, ⟨3, _⟩ => ⟨S1x32x1024, .bf16⟩
  | .local _ .vmem, ⟨4, _⟩ => ⟨S1x32x128, .f32⟩
  | .local _ .vmem, ⟨5, _⟩ => ⟨S1x32x128, .f32⟩
  | .local _ .vmem, ⟨6, _⟩ => ⟨S1x2048x256, .f32⟩
  | .local _ .vmem, ⟨7, _⟩ => ⟨S1x2048x256, .f32⟩
  | .local _ .vmem, ⟨8, _⟩ => ⟨S1x2048x256, .f32⟩
  | .local _ .vmem, ⟨9, _⟩ => ⟨S1x2048x256, .f32⟩
  | .local _ .vmem, ⟨10, _⟩ => ⟨S1x2048x64, .f32⟩
  | .local _ .vmem, ⟨11, _⟩ => ⟨S1x2048x64, .f32⟩
  | .local _ .vmem, ⟨12, _⟩ => ⟨S1x32x256, .bf16⟩
  | .local _ .vmem, ⟨13, _⟩ => ⟨S1x32x256, .bf16⟩
  | .local _ .vmem, ⟨14, _⟩ => ⟨S1x32x256, .bf16⟩
  | .local _ .vmem, ⟨15, _⟩ => ⟨S1x32x256, .bf16⟩
  | .local _ .vmem, ⟨16, _⟩ => ⟨S1x32x128, .bf16⟩
  | .local _ .vmem, ⟨17, _⟩ => ⟨S1x32x128, .bf16⟩
  | .local _ .vmem, ⟨18, _⟩ => ⟨S1x32x1024, .bf16⟩
  | .local _ .vmem, ⟨19, _⟩ => ⟨S1x32x1024, .bf16⟩
  | .local _ .vmem, ⟨20, _⟩ => ⟨S2176x256, .bf16⟩
  | .local _ .vmem, ⟨21, _⟩ => ⟨S2176x256, .bf16⟩
  | .local _ .vmem, ⟨22, _⟩ => ⟨S2176x128, .bf16⟩
  | .local _ .vmem, ⟨23, _⟩ => ⟨S32x2176, .i32⟩
  | .local _ .vmem, ⟨24, _⟩ => ⟨S32x2176, .f32⟩
  | _, _ => ⟨S32x32x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_scratch0 : Ref sig .tc := ⟨.vmem, 20, rfl⟩
abbrev cc0_scratch1 : Ref sig .tc := ⟨.vmem, 21, rfl⟩
abbrev cc0_scratch2 : Ref sig .tc := ⟨.vmem, 22, rfl⟩
abbrev cc0_scratch3 : Ref sig .tc := ⟨.vmem, 23, rfl⟩
abbrev cc0_scratch4 : Ref sig .tc := ⟨.vmem, 24, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [BitOps F]

abbrev grid0 : Pipeline.Grid := ⟨1, ![32], ![false]⟩

@[reducible] def k0_t1_loop : Scf.Loop 32 :=
  let c0_i32_100 : BitVec 32 := 0#32
  let c32_i32 : BitVec 32 := 32#32
  let v181 : BitVec 32 := Scalar.addi c0_i32_100 c32_i32
  let c1_i32_101 : BitVec 32 := 1#32
  ⟨c0_i32_100, v181, c1_i32_101⟩
@[reducible] def k0_t2_loop : Scf.Loop 32 :=
  let c0_i32_237 : BitVec 32 := 0#32
  let c12_i32 : BitVec 32 := 12#32
  let v415 : BitVec 32 := Scalar.addi c0_i32_237 c12_i32
  let c1_i32_238 : BitVec 32 := 1#32
  ⟨c0_i32_237, v415, c1_i32_238⟩
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x32x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x32x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x32x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2048x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x2048x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x2048x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x32x256 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x32x256 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x32x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Proof.Dsa1Frame.lean ====
module

public import proofs.«01_k».proof.Proof.Gen.Dsa1.Frame
public import proofs.«01_k».proof.Proof.Gen.Dsa1.Loops
public import Idealize.ShloMosaic.Lib.Claim

@[expose] public section

set_option maxRecDepth 16384

noncomputable section

namespace Cert.Dsa1.Whole

open Cert.Dsa1 Cert.Dsa1.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs runs through and leaves its inputs as they were, the output and the scratch at some
    contents. -/
theorem run (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x1024x256 .bf16) (harg5 : arg5.IsWhole) (arg6 : Memref sig .tc .vmem S1x1024x256 .bf16) (harg6 : arg6.IsWhole) (arg7 : Memref sig .tc .vmem S1x1024x128 .bf16) (harg7 : arg7.IsWhole) (arg8 : Memref sig .tc .vmem S1x128x1024 .bf16) (harg8 : arg8.IsWhole) (arg9 : Memref sig .tc .vmem S128x1024 .i32) (harg9 : arg9.IsWhole) (arg10 : Memref sig .tc .vmem S128x1024 .f32) (harg10 : arg10.IsWhole)
    (x0 : Vec F S1x128x1024 .bf16) (x1 : Vec F S1x128x1024 .bf16) (x2 : Vec F S1x128x128 .f32) (x3 : Vec F S1x1024x256 .bf16) (x4 : Vec F S1x1024x256 .bf16) (x5 : Vec F S1x1024x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dsa i arg2 harg2 arg3 harg3 arg4 harg4 arg5 harg5 arg6 harg6 arg7 harg7 arg8 harg8 arg9 harg9 arg10 harg10) K := by
  simp only [cc0_dsa_eq_skeleton]; unfold cc0_dsa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl

/-! ## The proof data: the output forgotten, the scratch at some contents -/

/-- The output window is forgotten. -/
def fgt : Fin cfg0.W → Bool := fun w => w.val == 6

/-- The arrays as launched; each input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant: the scratch at some contents and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA0_eq, after0_0, after0_1, after0_2, after0_3, after0_4, after0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, HO⟩
  iapply (run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS0]; · iexact HS0
  isplitl [HS1]; · iexact HS1
  iintro ⟨H0, H1, H2, H3, H4, H5, HO, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact HO

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program terminates, its arguments unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main m ρ)

end Cert.Dsa1.Whole

end
-- ==== Proof.Dsa2Frame.lean ====
module

public import proofs.«01_k».proof.Proof.Gen.Dsa2.Frame
public import proofs.«01_k».proof.Proof.Gen.Dsa2.Loops
public import Idealize.ShloMosaic.Lib.Claim

@[expose] public section

set_option maxRecDepth 16384

noncomputable section

namespace Cert.Dsa2.Whole

open Cert.Dsa2 Cert.Dsa2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs runs through and leaves its inputs as they were, the output and the scratch at some
    contents. -/
theorem run (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x2048x256 .bf16) (harg5 : arg5.IsWhole) (arg6 : Memref sig .tc .vmem S1x2048x256 .bf16) (harg6 : arg6.IsWhole) (arg7 : Memref sig .tc .vmem S1x2048x128 .bf16) (harg7 : arg7.IsWhole) (arg8 : Memref sig .tc .vmem S1x128x1024 .bf16) (harg8 : arg8.IsWhole) (arg9 : Memref sig .tc .vmem S128x2048 .i32) (harg9 : arg9.IsWhole) (arg10 : Memref sig .tc .vmem S128x2048 .f32) (harg10 : arg10.IsWhole)
    (x0 : Vec F S1x128x1024 .bf16) (x1 : Vec F S1x128x1024 .bf16) (x2 : Vec F S1x128x128 .f32) (x3 : Vec F S1x2048x256 .bf16) (x4 : Vec F S1x2048x256 .bf16) (x5 : Vec F S1x2048x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dsa i arg2 harg2 arg3 harg3 arg4 harg4 arg5 harg5 arg6 harg6 arg7 harg7 arg8 harg8 arg9 harg9 arg10 harg10) K := by
  simp only [cc0_dsa_eq_skeleton]; unfold cc0_dsa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl

/-! ## The proof data: the output forgotten, the scratch at some contents -/

/-- The output window is forgotten. -/
def fgt : Fin cfg0.W → Bool := fun w => w.val == 6

/-- The arrays as launched; each input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant: the scratch at some contents and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA0_eq, after0_0, after0_1, after0_2, after0_3, after0_4, after0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, HO⟩
  iapply (run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS0]; · iexact HS0
  isplitl [HS1]; · iexact HS1
  iintro ⟨H0, H1, H2, H3, H4, H5, HO, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact HO

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program terminates, its arguments unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main m ρ)

end Cert.Dsa2.Whole

end
-- ==== Proof.Dsa3Frame.lean ====
module

public import proofs.«01_k».proof.Proof.Gen.Dsa3.Frame
public import proofs.«01_k».proof.Proof.Gen.Dsa3.Loops
public import Idealize.ShloMosaic.Lib.Claim

@[expose] public section

set_option maxRecDepth 16384

noncomputable section

namespace Cert.Dsa3.Whole

open Cert.Dsa3 Cert.Dsa3.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs runs through and leaves its inputs as they were, the output and the scratch at some
    contents. -/
theorem run (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x3072x256 .bf16) (harg5 : arg5.IsWhole) (arg6 : Memref sig .tc .vmem S1x3072x256 .bf16) (harg6 : arg6.IsWhole) (arg7 : Memref sig .tc .vmem S1x3072x128 .bf16) (harg7 : arg7.IsWhole) (arg8 : Memref sig .tc .vmem S1x128x1024 .bf16) (harg8 : arg8.IsWhole) (arg9 : Memref sig .tc .vmem S128x3072 .i32) (harg9 : arg9.IsWhole) (arg10 : Memref sig .tc .vmem S128x3072 .f32) (harg10 : arg10.IsWhole)
    (x0 : Vec F S1x128x1024 .bf16) (x1 : Vec F S1x128x1024 .bf16) (x2 : Vec F S1x128x128 .f32) (x3 : Vec F S1x3072x256 .bf16) (x4 : Vec F S1x3072x256 .bf16) (x5 : Vec F S1x3072x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dsa i arg2 harg2 arg3 harg3 arg4 harg4 arg5 harg5 arg6 harg6 arg7 harg7 arg8 harg8 arg9 harg9 arg10 harg10) K := by
  simp only [cc0_dsa_eq_skeleton]; unfold cc0_dsa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl

/-! ## The proof data: the output forgotten, the scratch at some contents -/

/-- The output window and the inputs whose blocks do not tile their arrays are forgotten. -/
def fgt : Fin cfg0.W → Bool := fun w => w.val == 3 || w.val == 4 || w.val == 5 || w.val == 6

/-- The arrays as launched; each input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, h⟩ => Dat.unnamed (cfg := cfg0) ⟨3, h⟩ t
    | ⟨4, h⟩ => Dat.unnamed (cfg := cfg0) ⟨4, h⟩ t
    | ⟨5, h⟩ => Dat.unnamed (cfg := cfg0) ⟨5, h⟩ t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d

/-- The invariant: the scratch at some contents and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ (∃ X, owns (c : Thread nD τ) (st0_3 t) fullShare X)
    ∗ (∃ X, owns (c : Thread nD τ) (st0_4 t) fullShare X)
    ∗ (∃ X, owns (c : Thread nD τ) (st0_5 t) fullShare X)
    ∗ (∃ X, owns (c : Thread nD τ) (st0_6 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA0_eq, after0_0, after0_1, after0_2]
  iintro ⟨⟨⟨HS0, HS1⟩, Hg⟩, Ho, ⟨%d0, H0⟩, ⟨%d1, H1⟩, ⟨%d2, H2⟩, ⟨%d3, H3⟩, ⟨%d4, H4⟩, ⟨%d5, H5⟩, HO⟩
  iapply (run c (grid0.coords t) _ _ _ _ _ _ _ _ _ _ _ _ _ _ _ _ _ _ (iblk m c 0 t) (iblk m c 1 t) (iblk m c 2 t) d3 d4 d5 Set.univ _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS0]; · iexact HS0
  isplitl [HS1]; · iexact HS1
  iintro ⟨H0, H1, H2, H3, H4, H5, HO, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexists d3; iexact H3
  isplitl [H4]; · iexists d4; iexact H4
  isplitl [H5]; · iexists d5; iexact H5
  iexact HO

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program terminates, its arguments unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main m ρ)

end Cert.Dsa3.Whole

end
-- ==== Proof.Dsa4Frame.lean ====
module

public import proofs.«01_k».proof.Proof.Gen.Dsa4.Frame
public import proofs.«01_k».proof.Proof.Gen.Dsa4.Loops
public import Idealize.ShloMosaic.Lib.Claim

@[expose] public section

set_option maxRecDepth 16384

noncomputable section

namespace Cert.Dsa4.Whole

open Cert.Dsa4 Cert.Dsa4.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs runs through and leaves its inputs as they were, the output and the scratch at some
    contents. -/
theorem run (c : Dev nD) (i : grid0.Coords) (arg2 : Memref sig .tc .vmem S1x128x1024 .bf16) (harg2 : arg2.IsWhole) (arg3 : Memref sig .tc .vmem S1x128x1024 .bf16) (harg3 : arg3.IsWhole) (arg4 : Memref sig .tc .vmem S1x128x128 .f32) (harg4 : arg4.IsWhole) (arg5 : Memref sig .tc .vmem S1x4096x256 .bf16) (harg5 : arg5.IsWhole) (arg6 : Memref sig .tc .vmem S1x4096x256 .bf16) (harg6 : arg6.IsWhole) (arg7 : Memref sig .tc .vmem S1x4096x128 .bf16) (harg7 : arg7.IsWhole) (arg8 : Memref sig .tc .vmem S1x128x1024 .bf16) (harg8 : arg8.IsWhole) (arg9 : Memref sig .tc .vmem S128x4096 .i32) (harg9 : arg9.IsWhole) (arg10 : Memref sig .tc .vmem S128x4096 .f32) (harg10 : arg10.IsWhole)
    (x0 : Vec F S1x128x1024 .bf16) (x1 : Vec F S1x128x1024 .bf16) (x2 : Vec F S1x128x128 .f32) (x3 : Vec F S1x4096x256 .bf16) (x4 : Vec F S1x4096x256 .bf16) (x5 : Vec F S1x4096x128 .bf16)
    (E : Set ℕ) (K : PUnit → sProp 𝕄) :
    iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ (∃ d, owns (c : Thread nD τ) arg9 fullShare d) ∗ (∃ d, owns (c : Thread nD τ) arg10 fullShare d)) -∗ K ⟨⟩))
      ⊢ wp frame (wpE (defs₀ (F := F)) Variants.none c none) E (cc0_dsa i arg2 harg2 arg3 harg3 arg4 harg4 arg5 harg5 arg6 harg6 arg7 harg7 arg8 harg8 arg9 harg9 arg10 harg10) K := by
  simp only [cc0_dsa_eq_skeleton]; unfold cc0_dsa_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%dO, %fO, -, HO⟩, ⟨%ds0, %fs0, -, HS0⟩, ⟨%ds1, %fs1, -, HS1⟩, Hk⟩
  obtain rfl := harg2.eq_unread hf0; obtain rfl := harg3.eq_unread hf1; obtain rfl := harg4.eq_unread hf2; obtain rfl := harg5.eq_unread hf3; obtain rfl := harg6.eq_unread hf4; obtain rfl := harg7.eq_unread hf5
  sl_exec
  split
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl
  · sl_exec
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [HO]
    · iexists _; iexists _; isplitr
      swap; · iexact HO
      ipureintro; rfl
    isplitl [HS0]
    · iexists _; iexists _; isplitr
      swap; · iexact HS0
      ipureintro; rfl
    iexists _; iexists _; isplitr
    swap; · iexact HS1
    ipureintro; rfl

/-! ## The proof data: the output forgotten, the scratch at some contents -/

/-- The output window is forgotten. -/
def fgt : Fin cfg0.W → Bool := fun w => w.val == 6

/-- The arrays as launched; each input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Dat.unnamed (cfg := cfg0) ⟨6, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d

/-- The invariant: the scratch at some contents and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ X, owns (c : Thread nD τ) (st0_6 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ (∃ X, owns (c : Thread nD τ) (st0_6 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA0_eq, after0_0, after0_1, after0_2, after0_3, after0_4, after0_5]
  iintro ⟨⟨⟨HS0, HS1⟩, Hg⟩, Ho, ⟨%d0, H0⟩, ⟨%d1, H1⟩, ⟨%d2, H2⟩, ⟨%d3, H3⟩, ⟨%d4, H4⟩, ⟨%d5, H5⟩, HO⟩
  iapply (run c (grid0.coords t) _ _ _ _ _ _ _ _ _ _ _ _ _ _ _ _ _ _ (iblk m c 0 t) (iblk m c 1 t) (iblk m c 2 t) (iblk m c 3 t) (iblk m c 4 t) (iblk m c 5 t) Set.univ _)
  isplitl [H0]; · iexact H0
  isplitl [H1]; · iexact H1
  isplitl [H2]; · iexact H2
  isplitl [H3]; · iexact H3
  isplitl [H4]; · iexact H4
  isplitl [H5]; · iexact H5
  isplitl [HO]; · iexact HO
  isplitl [HS0]; · iexact HS0
  isplitl [HS1]; · iexact HS1
  iintro ⟨H0, H1, H2, H3, H4, H5, HO, HS0, HS1⟩
  isplitl [HS0 HS1 Hg]
  · isplitl [HS0 HS1]
    · isplitl [HS0]; · iexact HS0
      iexact HS1
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact HO

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program terminates, its arguments unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c))⟩, h.2⟩) (run_main m ρ)

end Cert.Dsa4.Whole

end
-- ==== Proof.DsaStepFrame.lean ====
module

public import proofs.«01_k».proof.Proof.Gen.DsaStep.Frame
public import proofs.«01_k».proof.Proof.Gen.DsaStep.Loops
public import Idealize.ShloMosaic.Lib.Claim

@[expose] public section

set_option maxRecDepth 16384

noncomputable section

namespace Cert.DsaStep.Whole

open Cert.DsaStep Cert.DsaStep.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The body on whole memrefs runs through and leaves its inputs as they were, the output and the scratch at some
    contents. -/
theorem run (c : Dev nD) (i : grid0.Coords) (arg1 : Memref sig .tc .vmem S1x32x1024 .bf16) (harg1 : arg1.IsWhole) (arg2 : Memref sig .tc .vmem S1x32x1024 .bf16) (harg2 : arg2.IsWhole) (arg3 : Memref sig .tc .vmem S1x32x128 .f32) (harg3 : arg3.IsWhole) (arg4 : Memref sig .tc .vmem S1x2048x256 .f32) (harg4 : arg4.IsWhole) (arg5 : Memref sig .tc .vmem S1x2048x256 .f32) (harg5 : arg5.IsWhole) (arg6 : Memref sig .tc .vmem S1x2048x64 .f32) (harg6 : arg6.IsWhole) (arg7 : Memref sig .tc .vmem S1x32x256 .bf16) (harg7 : arg7.IsWhole) (arg8 : Memref sig .tc .vmem S1x32x256 .bf16) (harg8 : arg8.IsWhole) (arg9 : Memref sig .tc .vmem S1x32x128 .bf16) (harg9 : arg9.IsWhole) (arg10 : Memref sig .tc .vmem S1x32x1024 .bf16) (harg10 : arg10.IsWhole) (arg11 : Memref sig .tc .vmem S2176x256 .bf16) (harg11 : arg11.IsWhole) (arg12 : Memref sig .tc .vmem S2176x256 .bf16) (harg12 : arg12.IsWhole) (arg13 : Memref sig .tc .vmem S2176x128 .bf16) (harg13 : arg13.IsWhole) (arg14 : Memref sig .tc .vmem S32x2176 .i32) (harg14 : arg14.IsWhole) (arg15 : Memref sig .tc .vmem S32x2176 .f32) (harg15 : arg15.IsWhole)
    (x0 : Vec F S1x32x1024 .bf16) (x1 : Vec F S1x32x1024 .bf16) (x2 : Vec F S1x32x128 .f32) (x3 : Vec F S1x2048x256 .f32) (x4 : Vec F S1x2048x256 .f32) (x5 : Vec F S1x2048x64 .f32) (x6 : Vec F S1x32x256 .bf16) (x7 : Vec F S1x32x256 .bf16) (x8 : Vec F S1x32x128 .bf16)
    (E : Set ℕ) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d)) -∗ K ⟨⟩))
      ⊢ wp frame (wpE (defs₀ (F := F)) Variants.none c none) E (cc0_dsa_step i arg1 harg1 arg2 harg2 arg3 harg3 arg4 harg4 arg5 harg5 arg6 harg6 arg7 harg7 arg8 harg8 arg9 harg9 arg10 harg10 arg11 harg11 arg12 harg12 arg13 harg13 arg14 harg14 arg15 harg15) K := by
  simp only [cc0_dsa_step_eq_skeleton]; unfold cc0_dsa_step_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%dO, %fO, -, HO⟩, ⟨%ds0, %fs0, -, HS0⟩, ⟨%ds1, %fs1, -, HS1⟩, ⟨%ds2, %fs2, -, HS2⟩, ⟨%ds3, %fs3, -, HS3⟩, ⟨%ds4, %fs4, -, HS4⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec
  split
  · sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO]
    · iexists _; iexists _; isplitr
      swap; · iexact HO
      ipureintro; rfl
    isplitl [HS0]
    · iexists _; iexists _; isplitr
      swap; · iexact HS0
      ipureintro; rfl
    isplitl [HS1]
    · iexists _; iexists _; isplitr
      swap; · iexact HS1
      ipureintro; rfl
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl
  · sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [HO]
    · iexists _; iexists _; isplitr
      swap; · iexact HO
      ipureintro; rfl
    isplitl [HS0]
    · iexists _; iexists _; isplitr
      swap; · iexact HS0
      ipureintro; rfl
    isplitl [HS1]
    · iexists _; iexists _; isplitr
      swap; · iexact HS1
      ipureintro; rfl
    isplitl [HS2]
    · iexists _; iexists _; isplitr
      swap; · iexact HS2
      ipureintro; rfl
    isplitl [HS3]
    · iexists _; iexists _; isplitr
      swap; · iexact HS3
      ipureintro; rfl
    iexists _; iexists _; isplitr
    swap; · iexact HS4
    ipureintro; rfl

/-! ## The proof data: the output forgotten, the scratch at some contents -/

/-- The output window is forgotten. -/
def fgt : Fin cfg0.W → Bool := fun w => w.val == 9

/-- The arrays as launched; each input's buffer holds its block. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Dat.unnamed (cfg := cfg0) ⟨9, h⟩ t
  Φ _ := Pipeline.ΦA spec0 c
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- The invariant: the scratch at some contents and the generator's register. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d)) ∗ (∃ r, prngReg c r)) := by
  unfold Pipeline.ΦA; rw [scopedRest0_eq]; simp only [owns_whole]; try rfl

/-! ## The body at a point -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d))
    ∗ (∃ d, owns (c : Thread nD τ) (st0_8 t) fullShare ((dats m 0 c).before 8 t d))
    ∗ (∃ X, owns (c : Thread nD τ) (st0_9 t) fullShare X))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t)
    ∗ owns (c : Thread nD τ) (st0_8 t) fullShare ((dats m 0 c).after 8 t)
    ∗ (∃ X, owns (c : Thread nD τ) (st0_9 t) fullShare X))

set_option maxHeartbeats 3200000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8]
  rw [show (dats m 0 c).owesAt () t.succ = (dats m 0 c).owesAt () t.castSucc from rfl,
    show (dats m 0 c).Φ t.succ = Pipeline.ΦA spec0 c from rfl, show (dats m 0 c).Φ t.castSucc = Pipeline.ΦA spec0 c from rfl,
    PhiA0_eq, after0_0, after0_1, after0_2, after0_3, after0_4, after0_5, after0_6, after0_7, after0_8]
  iintro ⟨⟨⟨HS0, HS1, HS2, HS3, HS4⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, HO⟩
  iapply (run c (grid0.coords t) _ _ _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) (iblk m c 7 t) (iblk m c 8 t) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [HO]; · iexact HO
  isplitl [HS0]; · iexact HS0
  isplitl [HS1]; · iexact HS1
  isplitl [HS2]; · iexact HS2
  isplitl [HS3]; · iexact HS3
  isplitl [HS4]; · iexact HS4
  iintro ⟨H0, H1, H2, H3, H4, H5, H6, H7, H8, HO, HS0, HS1, HS2, HS3, HS4⟩
  isplitl [HS0 HS1 HS2 HS3 HS4 Hg]
  · isplitl [HS0 HS1 HS2 HS3 HS4]
    · isplitl [HS0]; · iexact HS0
      isplitl [HS1]; · iexact HS1
      isplitl [HS2]; · iexact HS2
      isplitl [HS3]; · iexact HS3
      iexact HS4
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact HO

theorem defs₀_row (t : Fin cfg0.N) :
    defs₀ (F := F) .tc cfg0.body (cfg0.bodyArgs t (cfg0.slots t)) = bodyAt0 t := by
  unfold defs₀; rw [Defs.onTc_tc]

/-- The library's body obligation, at every point. -/
theorem body_obligation (c : Dev nD) : BodyObligationLoose (dats (F := F) m 0 c) (defs₀ (F := F)) Variants.none () Set.univ fgt := fun t => by
  rw [bigSep_W0, bigSep_W0, defs₀_row]
  exact triple_restated (sound_body m c t) rfl .rfl fun _ => .rfl

/-! ## The run -/

set_option backward.isDefEq.respectTransparency.types false in
theorem run_main : θ_run defs (onTc (τ := τ) (main (F := F))) (s₀ m ρ)
    (fun r => Pipeline.RDat.FramePost cfg0 (fun c => (dats m 0 c).toRForget fgt) (V m) r ∧ r.2.sem = fun _ => 0) :=
  Pipeline.θ_run_frame_forget (Q' := _) cfgs (dats m) (0 : Fin 1) launch0 defs₀ Variants.none fgt m ρ main
    (hbody := body_obligation m) (hshare := fun c => (dats m 0 c).share_full fun _ => rfl)
    (howed := fun _ _ => rfl) (V := V m) (hmain := hmain m Variants.none) (hA := A_eq m) (hΦ := fun _ _ => rfl)

/-- The program terminates, its arguments unchanged and every counter at zero. -/
theorem ends : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => ⟨(Pipeline.RDat.FramePost.arr_in h.1 c 0 rfl).trans ((A_eq m c 0).trans (V_main_arg0 m c)),
      (Pipeline.RDat.FramePost.arr_in h.1 c 1 rfl).trans ((A_eq m c 1).trans (V_main_arg1 m c)),
      (Pipeline.RDat.FramePost.arr_in h.1 c 2 rfl).trans ((A_eq m c 2).trans (V_main_arg2 m c)),
      (Pipeline.RDat.FramePost.arr_in h.1 c 3 rfl).trans ((A_eq m c 3).trans (V_main_arg3 m c)),
      (Pipeline.RDat.FramePost.arr_in h.1 c 4 rfl).trans ((A_eq m c 4).trans (V_main_arg4 m c)),
      (Pipeline.RDat.FramePost.arr_in h.1 c 5 rfl).trans ((A_eq m c 5).trans (V_main_arg5 m c)),
      (Pipeline.RDat.FramePost.arr_in h.1 c 6 rfl).trans ((A_eq m c 6).trans (V_main_arg6 m c)),
      (Pipeline.RDat.FramePost.arr_in h.1 c 7 rfl).trans ((A_eq m c 7).trans (V_main_arg7 m c)),
      (Pipeline.RDat.FramePost.arr_in h.1 c 8 rfl).trans ((A_eq m c 8).trans (V_main_arg8 m c))⟩, h.2⟩) (run_main m ρ)

end Cert.DsaStep.Whole

end
-- ==== Proof.MoeRange.lean ====
module

public import proofs.«01_k».proof.Defs
public import proofs.«01_k».proof.Proof.Gen.Pre_moe_range
public import Idealize.ShloMosaic.Lib.WordArith
public import Idealize.ShloMosaic.Lib.Affine

@[expose] public section

/-! What the precondition of the expert kernel says of the words of its two tables. -/

namespace Cert.MoeRange

open Idealize.ShloMosaic

section
variable {F : FTy → Type} [FloatOps F] {a0 : IVec Pre_moe_range.S168 32} {a1 : IVec Pre_moe_range.S1 32}
  {a2 : FVec F Pre_moe_range.S43008x2048 .f32} {a3 a4 : FVec F Pre_moe_range.S32x2048x1024 .bf16} {a5 : FVec F Pre_moe_range.S32x1024x2048 .bf16}

/-- The printed predicate at one block. -/
theorem at_block (e : Pre_moe_range.fn (F := F) a0 a1 a2 a3 a4 a5 = fun _ => 1#1) (y : Pre_moe_range.S168.Idx) :
    (BitVec.sle 0#32 (a0 y) = true ∧ BitVec.slt (a0 y) 32#32 = true) ∧ ∃ z, BitVec.sle 1#32 (a1 z) = true := by
  have := congrFun e y
  simp only [Pre_moe_range.fn, andi, cmpi, broadcastInDim, constantI, IntOp.cmpi, WordArith.andi_ofBool, WordArith.ofBool_eq_one_iff,
    Bool.and_eq_true] at this
  exact ⟨this.1, _, this.2⟩

/-- Every block names one of the 32 experts. -/
theorem expert_lt (e : Pre_moe_range.fn (F := F) a0 a1 a2 a3 a4 a5 = fun _ => 1#1) (y : Pre_moe_range.S168.Idx) : (a0 y).toNat < 32 := by
  obtain ⟨⟨h0, h1⟩, -⟩ := at_block e y
  exact WordArith.toNat_lt_of_zero_sle_of_slt_ofNat _ 32 (by decide) h0 h1

/-- At least one block is in use. -/
theorem used_pos (e : Pre_moe_range.fn (F := F) a0 a1 a2 a3 a4 a5 = fun _ => 1#1) (y : Pre_moe_range.S1.Idx) : 1 ≤ (a1 y).toInt := by
  obtain ⟨-, z, h⟩ := at_block e (Shape.Idx.first (by decide))
  have : y = z := funext fun a => by
    have ha : a = 0 := Subsingleton.elim (α := Fin 1) a 0
    subst ha
    exact Subsingleton.elim (α := Fin 1) (y 0) (z 0)
  rw [this]
  rw [BitVec.sle_eq_decide, decide_eq_true_eq] at h
  exact h
end

/-- The smaller of a block's number and the last used one's is a block's number. -/
theorem row_lt {n : ℕ} {w : BitVec 32} (hn : n < 168) (h : 1 ≤ w.toInt) :
    (Scalar.minsi (BitVec.ofNat 32 n) (Scalar.subi w 1#32)).toNat < 168 := by
  have ew := BitVec.toInt_eq_toNat_cond w
  have hw : w.toNat < 2 ^ 31 ∧ 1 ≤ w.toNat := by
    have := w.isLt
    split at ew <;> omega
  have es : (Scalar.subi w 1#32).toNat = w.toNat - 1 := BitVec.toNat_sub_of_le (by rw [BitVec.le_def]; exact hw.2)
  have en : (BitVec.ofNat 32 n).toNat = n := WordArith.toNat_ofNat_of_lt n (by omega)
  have := WordArith.toNat_minsi_of_lt (BitVec.ofNat 32 n) (Scalar.subi w 1#32) (by omega) (by omega)
  rw [show Scalar.minsi (BitVec.ofNat 32 n) (Scalar.subi w 1#32) = IntOp.minsi (BitVec.ofNat 32 n) (Scalar.subi w 1#32) from rfl, this]
  omega

theorem flag (b : Bool) : (Scalar.cmpi .ne (Scalar.extui (BitVec.ofBool b) : BitVec 32) 0#32 = 1#1) ↔ b = true := by
  cases b <;> decide

/-- The two conditions of the body, on any two words, exclude each other and leave nothing out. -/
theorem opposite (x w : BitVec 32) :
    Scalar.cmpi .ne (Scalar.extui (Scalar.cmpi .sge x w) : BitVec 32) 0#32 = 1#1
      ↔ ¬ Scalar.cmpi .ne (Scalar.extui (Scalar.cmpi .slt x w) : BitVec 32) 0#32 = 1#1 := by
  rw [show Scalar.cmpi .sge x w = BitVec.ofBool (BitVec.sle w x) from rfl, show Scalar.cmpi .slt x w = BitVec.ofBool (BitVec.slt x w) from rfl,
    flag, flag, BitVec.sle_eq_decide, BitVec.slt_eq_decide, decide_eq_true_eq, decide_eq_true_eq]
  omega

/-- The body's first condition says that the block's number is below the count. -/
theorem below {n : ℕ} (hn : n < 168) (w : BitVec 32) :
    Scalar.cmpi .ne (Scalar.extui (Scalar.cmpi .slt (BitVec.ofNat 32 n) w) : BitVec 32) 0#32 = 1#1 ↔ BitVec.slt (BitVec.ofNat 32 n) w = true := by
  rw [show Scalar.cmpi .slt (BitVec.ofNat 32 n) w = BitVec.ofBool (BitVec.slt (BitVec.ofNat 32 n) w) from rfl, flag]

end Cert.MoeRange
-- ==== Proof.MoeFrame.lean ====
module

public import proofs.«01_k».proof.Proof.MoeRange
public import proofs.«01_k».proof.Proof.Gen.Moe.Launch
public import proofs.«01_k».proof.Proof.Gen.Moe.Flash.Runs
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.Moe.Tables

open Cert.Moe Cert.Moe.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Bits) ℕ (UR sig nD τ) ℕ

/-! ## The tables as the launch memory holds them -/

/-- The expert of each block. -/
def tab0 (m : (ℓ : Loc nD τ sig) → Buf (Elt Bits) ℓ) : S168.Idx → BitVec 32 := m (((0 : Dev nD) : Thread nD τ).loc main_arg0)

/-- The number of blocks in use. -/
def tab1 (m : (ℓ : Loc nD τ sig) → Buf (Elt Bits) ℓ) : S1.Idx → BitVec 32 := m (((0 : Dev nD) : Thread nD τ).loc main_arg1)

/-- Every block names one of the experts and at least one block is in use. -/
structure Good (m : (ℓ : Loc nD τ sig) → Buf (Elt Bits) ℓ) : Prop where
  expert : ∀ y, (tab0 m y).toNat < 32
  used : ∀ y, 1 ≤ (tab1 m y).toInt

/-- The tables' contents the pipeline runs at. -/
def pf (m : (ℓ : Loc nD τ sig) → Buf (Elt Bits) ℓ) : pre0.Contents (Elt Bits) :=
  fun | ⟨0, _⟩ => tab0 m | ⟨1, _⟩ => tab1 m | ⟨_ + 2, h⟩ => absurd h (by simp)

theorem expert_block {e : ℕ} (h : e < 32) : ∀ a, ((![e, 0, 0] : Fin 3 → ℕ) a + 1) * (S1x2048x1024.size a) ≤ S32x2048x1024.size a := by
  intro a; fin_cases a
  · show (e + 1) * 1 ≤ 32; omega
  · show (0 + 1) * 2048 ≤ 2048; omega
  · show (0 + 1) * 1024 ≤ 1024; omega

theorem expert_block' {e : ℕ} (h : e < 32) : ∀ a, ((![e, 0, 0] : Fin 3 → ℕ) a + 1) * (S1x1024x2048.size a) ≤ S32x1024x2048.size a := by
  intro a; fin_cases a
  · show (e + 1) * 1 ≤ 32; omega
  · show (0 + 1) * 1024 ≤ 1024; omega
  · show (0 + 1) * 2048 ≤ 2048; omega

theorem row_block {e : ℕ} (h : e < 168) : ∀ a, ((![e, 0] : Fin 2 → ℕ) a + 1) * (S256x2048.size a) ≤ S43008x2048.size a := by
  intro a; fin_cases a
  · show (e + 1) * 256 ≤ 43008; omega
  · show (0 + 1) * 2048 ≤ 2048; omega

/-- The row block an input point reads: its own, or the last in use where that comes first. -/
theorem row_lt (i : grid0.Coords) (w : BitVec 32) (h : 1 ≤ w.toInt) :
    (Scalar.minsi (BitVec.ofNat 32 (i 0).val) (Scalar.subi w 1#32)).toNat < 168 :=
  MoeRange.row_lt (i 0).isLt h

/-- Every window's blocks lie inside their arrays. -/
theorem ok {m : (ℓ : Loc nD τ sig) → Buf (Elt Bits) ℓ} (h : Good m) : ok0 (F := Bits) (pf m) :=
  ⟨fun i => ⟨row_block (row_lt i _ (h.used _)), .inl rfl⟩,
    fun i => ⟨expert_block (h.expert _), .inr (Affine.block_words_dvd (s := S32x2048x1024) (p := EltTy.packing .bf16) (by decide) (by decide))⟩,
    fun i => ⟨expert_block (h.expert _), .inr (Affine.block_words_dvd (s := S32x2048x1024) (p := EltTy.packing .bf16) (by decide) (by decide))⟩,
    fun i => ⟨expert_block' (h.expert _), .inr (Affine.block_words_dvd (s := S32x1024x2048) (p := EltTy.packing .bf16) (by decide) (by decide))⟩⟩

variable {m : (ℓ : Loc nD τ sig) → Buf (Elt Bits) ℓ} (h : Good m) (ρ : Dev nD → PrngReg)

/-- The admissible contents and the pipeline at them. -/
def adm : (pcfg0 (F := Bits)).Adm := ⟨pf m, ok h⟩
abbrev cfgT : Pipeline.Cfg sig Λ₀ := cfg0 (F := Bits) (adm h)
abbrev pcs : Fin 1 → Pipeline.Cfg sig Λ₀ := Pipeline.pin (pcfgs (F := Bits)) fun _ => adm h

abbrev crd (t : Fin (cfgT h).N) : (cfgT h).grid.Coords := (cfgT h).grid.coords t

abbrev st0 (t : Fin (cfgT h).N) : Memref sig .tc .vmem S256x2048 .f32 := spec0_0.stage ((cfgT h).slots t (0 : Fin 5))
abbrev sw0 (t : Fin (cfgT h).N) : (st0 h t).IsWhole := hstage0_0 (((cfgT h).slots t (0 : Fin 5)).cast nbuf0_0)
abbrev st1 (t : Fin (cfgT h).N) : Memref sig .tc .vmem S1x2048x1024 .bf16 := spec0_1.stage ((cfgT h).slots t (1 : Fin 5))
abbrev sw1 (t : Fin (cfgT h).N) : (st1 h t).IsWhole := hstage0_1 (((cfgT h).slots t (1 : Fin 5)).cast nbuf0_1)
abbrev st2 (t : Fin (cfgT h).N) : Memref sig .tc .vmem S1x2048x1024 .bf16 := spec0_2.stage ((cfgT h).slots t (2 : Fin 5))
abbrev sw2 (t : Fin (cfgT h).N) : (st2 h t).IsWhole := hstage0_2 (((cfgT h).slots t (2 : Fin 5)).cast nbuf0_2)
abbrev st3 (t : Fin (cfgT h).N) : Memref sig .tc .vmem S1x1024x2048 .bf16 := spec0_3.stage ((cfgT h).slots t (3 : Fin 5))
abbrev sw3 (t : Fin (cfgT h).N) : (st3 h t).IsWhole := hstage0_3 (((cfgT h).slots t (3 : Fin 5)).cast nbuf0_3)
abbrev st4 (t : Fin (cfgT h).N) : Memref sig .tc .vmem S256x2048 .f32 := spec0_4.stage ((cfgT h).slots t (4 : Fin 5))
abbrev sw4 (t : Fin (cfgT h).N) : (st4 h t).IsWhole := hstage0_4 (((cfgT h).slots t (4 : Fin 5)).cast nbuf0_4)

/-- A window's block at a point, read off its array at launch. -/
def blk (c : Dev nD) (w : Fin (cfgT h).W) (t : Fin (cfgT h).N) : (((cfgT h).win w).xblock (crd h t)).Idx → Elt Bits ((cfgT h).win w).elt :=
  (((cfgT h).win w).blk t).view.read (Elt Bits) ((s₀ m ρ).mem (((cfgT h).win w).arr.view.loc (c : Thread nD τ)))

/-! ## The two branches -/

/-- The count of blocks in use, as the body reads it. -/
abbrev word (m : (ℓ : Loc nD τ sig) → Buf (Elt Bits) ℓ) : BitVec 32 :=
  View.readAt (Elt Bits) (tbM0_1).view (Rect.unit (s := S1) ![0] S1.size inb_S1_S1_0).toLoadRect (tab1 m) (Shape.Idx.first (numel1_S1.symm ▸ Nat.one_pos))

/-- The point's block is in use. -/
abbrev Live (t : Fin (cfgT h).N) : Prop := k0_cond1 (crd h t) (word m) = 1#1

/-- The body's second condition is the first one's negation. -/
theorem cond2_iff (i : grid0.Coords) (w : BitVec 32) : k0_cond2 i w = 1#1 ↔ ¬ k0_cond1 i w = 1#1 := by
  unfold k0_cond2 k0_cond1
  exact MoeRange.opposite _ _

theorem dead {t : Fin (cfgT h).N} (q : ¬ Live h t) : k0_cond2 (crd h t) (word m) = 1#1 := (cond2_iff _ _).2 q
theorem live {t : Fin (cfgT h).N} (q : Live h t) : ¬ k0_cond2 (crd h t) (word m) = 1#1 := fun e => (cond2_iff _ _).1 e q

theorem idle_word (i : grid0.Coords) (w : BitVec 32) : (!(k0_cond1 i w == 1#1) && !(k0_cond2 i w == 1#1)) = false := by
  by_cases q : k0_cond1 i w = 1#1
  · simp [q]
  · simp [(cond2_iff i w).2 q]

/-- The output is stored at every point, -/
theorem idle4 (t : Fin (cfgT h).N) : (cfgT h).idle (4 : Fin 5) ((cfgT h).grid.coords t) = false := idle_word _ _

theorem flushes : ∀ t : Fin grid0.N, Pipeline.Window.flushOf grid0 true cc0_transform_4 t = true := by decide +kernel

/-- written back at every point, -/
theorem flush4 (t : Fin (cfgT h).N) : ((cfgT h).win (4 : Fin 5)).flush t = true := flushes t

/-- and so holds nothing before a point. -/
theorem fresh4 (t : Fin (cfgT h).N) : (cfgT h).fresh (4 : Fin 5) t.val = true := by
  obtain ⟨n, hn⟩ := t
  cases n with
  | zero => exact Pipeline.Cfg.fresh_zero _ _
  | succ n => rw [Pipeline.Cfg.fresh_succ _ _ n (Nat.lt_of_succ_lt hn), flush4 h ⟨n, Nat.lt_of_succ_lt hn⟩, Bool.true_or]

/-- What a point leaves in the output's staging buffer. -/
def left (c : Dev nD) (t : Fin (cfgT h).N) : S256x2048.Idx → Elt Bits .f32 :=
  if q : Live h t then
    out0_A_4 c (crd h t) (st0 h t) (sw0 h t) (st1 h t) (sw1 h t) (st2 h t) (sw2 h t) (st3 h t) (sw3 h t) (st4 h t) (sw4 h t)
      (tab0 m) (tab1 m) (blk h ρ c (0 : Fin 5) t) (blk h ρ c (1 : Fin 5) t) (blk h ρ c (2 : Fin 5) t) (blk h ρ c (3 : Fin 5) t) q (live h q)
  else
    out0_B_4 c (crd h t) (st0 h t) (sw0 h t) (st1 h t) (sw1 h t) (st2 h t) (sw2 h t) (st3 h t) (sw3 h t) (st4 h t) (sw4 h t)
      (tab0 m) (tab1 m) (blk h ρ c (0 : Fin 5) t) (blk h ρ c (1 : Fin 5) t) (blk h ρ c (2 : Fin 5) t) (blk h ρ c (3 : Fin 5) t) q (dead h q)

/-! ## The pipeline's proof data -/

/-- The body's halves of the tables. -/
def Held (m : (ℓ : Loc nD τ sig) → Buf (Elt Bits) ℓ) (c : Dev nD) : sProp 𝕄 :=
  iprop((tbM0_0.view.loc (c : Thread nD τ) ↦{fullShare.right} tab0 m) ∗ (tbM0_1.view.loc (c : Thread nD τ) ↦{fullShare.right} tab1 m))

/-- The proof data of the one pipeline on a core. -/
def dats (_ : Fin 1) (c : Dev nD) : Dat τ (Elt Bits) Unit ℕ (UR sig nD τ) ℕ (cfgT h) c where
  A w := (s₀ m ρ).mem (((cfgT h).win w).arr.view.loc (c : Thread nD τ))
  after w t := match w with
    | ⟨0, _⟩ => blk h ρ c (0 : Fin 5) t
    | ⟨1, _⟩ => blk h ρ c (1 : Fin 5) t
    | ⟨2, _⟩ => blk h ρ c (2 : Fin 5) t
    | ⟨3, _⟩ => blk h ρ c (3 : Fin 5) t
    | ⟨4, _⟩ => left h ρ c t
  Φ _ := Held m c
  q _ := fullShare
  owed _ := 0

theorem after0 (c : Dev nD) (t : Fin (cfgT h).N) : (dats h ρ 0 c).after (0 : Fin 5) t = blk h ρ c (0 : Fin 5) t := rfl
theorem after1 (c : Dev nD) (t : Fin (cfgT h).N) : (dats h ρ 0 c).after (1 : Fin 5) t = blk h ρ c (1 : Fin 5) t := rfl
theorem after2 (c : Dev nD) (t : Fin (cfgT h).N) : (dats h ρ 0 c).after (2 : Fin 5) t = blk h ρ c (2 : Fin 5) t := rfl
theorem after3 (c : Dev nD) (t : Fin (cfgT h).N) : (dats h ρ 0 c).after (3 : Fin 5) t = blk h ρ c (3 : Fin 5) t := rfl
theorem after4 (c : Dev nD) (t : Fin (cfgT h).N) : (dats h ρ 0 c).after (4 : Fin 5) t = left h ρ c t := rfl

theorem before0 (c : Dev nD) (t : Fin (cfgT h).N) (d) : (dats h ρ 0 c).before (0 : Fin 5) t d = blk h ρ c (0 : Fin 5) t :=
  ((dats h ρ 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (cfgT h).N) (d) : (dats h ρ 0 c).before (1 : Fin 5) t d = blk h ρ c (1 : Fin 5) t :=
  ((dats h ρ 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (cfgT h).N) (d) : (dats h ρ 0 c).before (2 : Fin 5) t d = blk h ρ c (2 : Fin 5) t :=
  ((dats h ρ 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (cfgT h).N) (d) : (dats h ρ 0 c).before (3 : Fin 5) t d = blk h ρ c (3 : Fin 5) t :=
  ((dats h ρ 0 c).before_in_eq_fetched (3 : Fin 5) rfl (fun _ => rfl) (fun _ _ _ => rfl) (fun t => by rw [after3]; unfold Dat.blockOf blk; rfl) t d).trans
    (by unfold Dat.fetched Dat.blockOf blk; rfl)

/-! ## The body -/

/-- The body at a point on its staging buffers. -/
abbrev bodyAt (t : Fin (cfgT h).N) : Prog (TpuEff nD τ sig (Elt Bits) Λ₀ .tc) PUnit :=
  cc0_moe (crd h t) (Memref.whole main_arg0) (Memref.isWhole_whole _) (Memref.whole main_arg1) (Memref.isWhole_whole _) (st0 h t) (sw0 h t) (st1 h t) (sw1 h t) (st2 h t) (sw2 h t) (st3 h t) (sw3 h t) (st4 h t) (sw4 h t)

set_option maxHeartbeats 4000000 in
/-- At a point the body turns what the windows hold before it into what they hold after it. -/
theorem body_sound (c : Dev nD) (t : Fin (cfgT h).N) :
    iprop((dats h ρ 0 c).Φ t.castSucc ∗ (dats h ρ 0 c).owesAt () t.castSucc
        ∗ (∃ d, owns (c : Thread nD τ) (st0 h t) fullShare ((dats h ρ 0 c).before (0 : Fin 5) t d))
        ∗ (∃ d, owns (c : Thread nD τ) (st1 h t) fullShare ((dats h ρ 0 c).before (1 : Fin 5) t d))
        ∗ (∃ d, owns (c : Thread nD τ) (st2 h t) fullShare ((dats h ρ 0 c).before (2 : Fin 5) t d))
        ∗ (∃ d, owns (c : Thread nD τ) (st3 h t) fullShare ((dats h ρ 0 c).before (3 : Fin 5) t d))
        ∗ (∃ d, owns (c : Thread nD τ) (st4 h t) fullShare ((dats h ρ 0 c).before (4 : Fin 5) t d)))
      ⊢ wp frame (wpE (defs₀ (F := Bits)) Variants.none c none) Set.univ (bodyAt h t) fun _ =>
          iprop((dats h ρ 0 c).Φ t.succ ∗ (dats h ρ 0 c).owesAt () t.succ
            ∗ bigSep Finset.univ fun w : Fin (cfgT h).W =>
                match (cfgT h).idle w ((cfgT h).grid.coords t) with
                | true =>
                  match ((cfgT h).win w).flush t with
                  | false => iprop(∃ d, owns (c : Thread nD τ) (((cfgT h).win w).stage ((cfgT h).slots t w)) fullShare ((dats h ρ 0 c).before w t d))
                  | true => owns (c : Thread nD τ) (((cfgT h).win w).stage ((cfgT h).slots t w)) fullShare ((dats h ρ 0 c).after w t)
                | false => owns (c : Thread nD τ) (((cfgT h).win w).stage ((cfgT h).slots t w)) fullShare ((dats h ρ 0 c).after w t)) := by
  rw [bigSep_W0]
  have hi := idle4 h t
  rewrite [hi]
  simp only [before0, before1, before2, before3, after0, after1, after2, after3, after4]
  rewrite [show (dats h ρ 0 c).Φ t.succ = Held m c from rfl, show (dats h ρ 0 c).Φ t.castSucc = Held m c from rfl,
    show (dats h ρ 0 c).owesAt () t.succ = (dats h ρ 0 c).owesAt () t.castSucc from rfl]
  unfold Held left
  by_cases q : Live h t
  · simp only [dif_pos q]
    iintro ⟨⟨HT0, HT1⟩, Ho, ⟨%d0, H0⟩, ⟨%d1, H1⟩, ⟨%d2, H2⟩, ⟨%d3, H3⟩, ⟨%d4, H4⟩⟩
    iapply ((kernelRun0_A c (crd h t) (st0 h t) (sw0 h t) (st1 h t) (sw1 h t) (st2 h t) (sw2 h t) (st3 h t) (sw3 h t) (st4 h t) (sw4 h t) (tab0 m) (tab1 m) (blk h ρ c (0 : Fin 5) t) (blk h ρ c (1 : Fin 5) t) (blk h ρ c (2 : Fin 5) t) (blk h ρ c (3 : Fin 5) t) q (live h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · simp only [dif_neg q]
    iintro ⟨⟨HT0, HT1⟩, Ho, ⟨%d0, H0⟩, ⟨%d1, H1⟩, ⟨%d2, H2⟩, ⟨%d3, H3⟩, ⟨%d4, H4⟩⟩
    iapply ((kernelRun0_B c (crd h t) (st0 h t) (sw0 h t) (st1 h t) (sw1 h t) (st2 h t) (sw2 h t) (st3 h t) (sw3 h t) (st4 h t) (sw4 h t) (tab0 m) (tab1 m) (blk h ρ c (0 : Fin 5) t) (blk h ρ c (1 : Fin 5) t) (blk h ρ c (2 : Fin 5) t) (blk h ρ c (3 : Fin 5) t) q (dead h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem obligation (c : Dev nD) : BodyObligation (dats h ρ 0 c) (defs₀ (F := Bits)) Variants.none () Set.univ := fun t => by
  rw [bigSep_W0]
  exact body_sound h ρ c t

/-! ## The launch -/

abbrev EP : Emb (UR sig nD τ) 𝕄 := emb₁

/-- The launch element. -/
def u₀ : UR sig nD τ :=
  initOf (Pipeline.cells (pcs h) ((launch0 (F := Bits)).cellOf_inj fun _ => adm h))
    (Pipeline.launchToks (pcs h) ((launch0 (F := Bits)).cellOf_inj fun _ => adm h))

theorem share_full (c : Dev nD) (w : Fin (cfgT h).W) : (dats h ρ 0 c).share w = fullShare := by unfold Dat.share; split <;> rfl

theorem tables_held (c : Dev nD) (q : Fin 2 → PosShare TreeShare) (v : pre0.Contents (Elt Bits)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm h).1 ∗ Pipeline.scopedRest spec0 c) ⊢ (dats h ρ 0 c).Φ 0 := by
  rw [tables_held, scopedRest0_eq, show (dats h ρ 0 c).Φ 0 = Held m c from rfl]
  unfold Held
  iintro ⟨-, ⟨HT0, HT1⟩, -⟩
  isplitl [HT0]
  · iexact HT0
  iexact HT1

theorem leave (c : Dev nD) : (dats h ρ 0 c).Φ (Fin.last (cfgT h).N) ⊢ iprop(BI.emp ∗ Pipeline.scopedRest spec0 c) := by
  rw [scopedRest0_eq, show (dats h ρ 0 c).Φ (Fin.last (cfgT h).N) = Held m c from rfl]
  unfold Held
  iintro ⟨-, -⟩
  isplitr; · iempintro
  iempintro

/-- What the run ends with: every array at what the proof data says, every table unchanged. -/
def Post : PUnit × MemSt nD τ sig (Elt Bits) → Prop := fun r =>
  ∀ c : Dev nD, (∀ w : Fin (cfgT h).W, r.2.mem (((cfgT h).win w).arr.view.loc (c : Thread nD τ)) = (dats h ρ 0 c).arrAt w (cfgT h).N)
    ∧ ∀ j, r.2.mem ((c : Thread nD τ).loc (pre0.ref j)) = (adm h).1 j

theorem dev_zero (c : Dev nD) : c = 0 := Subsingleton.elim (α := Fin 1) c 0

theorem table_at (c : Dev nD) (j : Fin 2) : m ((c : Thread nD τ).loc (pre0.ref j)) = (adm h).1 j := by
  rw [dev_zero c]
  fin_cases j <;> rfl

set_option backward.isDefEq.respectTransparency.types false in
set_option maxHeartbeats 4000000 in
/-- Every weakly fair execution ends, with the arrays as the proof data says and every semaphore counter at zero. -/
theorem run_quiescent : θ_run (defs (F := Bits)) (onTc (τ := τ) (main (F := Bits))) (s₀ m ρ) (fun r => Post h ρ r ∧ r.2.sem = fun _ => 0) :=
  Pipeline.θ_run_region_noSem_pf_quiescent pcfgs (fun _ => adm h) (dats h ρ) () ((launch0 (F := Bits)).cellOf_inj fun _ => adm h) (0 : Fin 1)
    (launch0 (F := Bits)).win.to₀ (launch0 (F := Bits)).pre EP defs₀ Variants.none m ρ main
    (hbody := fun c => (obligation h ρ c).loose) (hne := (launch0 (F := Bits)).block_pos)
    (harr := (launch0 (F := Bits)).arr_whole) (hstage := (launch0 (F := Bits)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h ρ) 0 (launch0 (F := Bits)).win.arr_inj c (launch0 (F := Bits)).arr_whole
      (share_full h ρ c) _ _ fun _ => rfl)
    (hpf := table_at h)
    (X := fun _ => iprop(emp)) (Y := fun _ => iprop(emp)) (Z := fun _ => iprop(emp))
    (hX := fun c => by rw [unscopedRestP0_eq]; iintro -; isplitr <;> iempintro)
    (hin := enter h ρ)
    (hout := leave h ρ)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The argument arrays after such an end are the launch's. -/
theorem args_kept {r : PUnit × MemSt nD τ sig (Elt Bits)} (hr : Post h ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (table_at h c 0).symm, ((hr c).2 1).trans (table_at h c 1).symm,
    ((hr c).1 (0 : Fin 5)).trans ((dats h ρ 0 c).arrAt_in (0 : Fin 5) rfl _), ((hr c).1 (1 : Fin 5)).trans ((dats h ρ 0 c).arrAt_in (1 : Fin 5) rfl _),
    ((hr c).1 (2 : Fin 5)).trans ((dats h ρ 0 c).arrAt_in (2 : Fin 5) rfl _), ((hr c).1 (3 : Fin 5)).trans ((dats h ρ 0 c).arrAt_in (3 : Fin 5) rfl _)⟩

/-- The precondition bounds the tables. -/
theorem good_of_pre (m : (ℓ : Loc nD τ sig) → Buf (Elt Bits) ℓ) (e : Cert.Pre_Moe m) : Good m :=
  ⟨MoeRange.expert_lt (e 0), MoeRange.used_pos (e 0)⟩

/-- The kernel's execution from a memory that meets the precondition: it ends, the arguments unchanged, every counter zero. -/
theorem frame_of_pre (m : (ℓ : Loc nD τ sig) → Buf (Elt Bits) ℓ) (ρ : Dev nD → PrngReg) (e : Cert.Pre_Moe m) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := Bits)) _ _).mono (fun _ hr => ⟨fun c => args_kept (good_of_pre m e) ρ hr.1 c, hr.2⟩) (run_quiescent (good_of_pre m e) ρ)

end Cert.Moe.Tables

end
-- ==== Proof.MoeIdealFrame.lean ====
module

public import proofs.«01_k».proof.Proof.MoeRange
public import proofs.«01_k».proof.Proof.Gen.MoeIdeal.Launch
public import proofs.«01_k».proof.Proof.Gen.MoeIdeal.Flash.Runs
public import Idealize.ShloMosaic.Lib.Claim
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init

@[expose] public section

set_option maxRecDepth 16384
set_option Elab.async false

noncomputable section

namespace Cert.MoeIdeal.Tables

open Cert.MoeIdeal Cert.MoeIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

local notation "𝕄" => MT nD τ sig Unit (Elt Ideal) ℕ (UR sig nD τ) ℕ

/-! ## The tables as the launch memory holds them -/

/-- The expert of each block. -/
def tab0 (m : (ℓ : Loc nD τ sig) → Buf (Elt Ideal) ℓ) : S168.Idx → BitVec 32 := m (((0 : Dev nD) : Thread nD τ).loc main_arg0)

/-- The number of blocks in use. -/
def tab1 (m : (ℓ : Loc nD τ sig) → Buf (Elt Ideal) ℓ) : S1.Idx → BitVec 32 := m (((0 : Dev nD) : Thread nD τ).loc main_arg1)

/-- Every block names one of the experts and at least one block is in use. -/
structure Good (m : (ℓ : Loc nD τ sig) → Buf (Elt Ideal) ℓ) : Prop where
  expert : ∀ y, (tab0 m y).toNat < 32
  used : ∀ y, 1 ≤ (tab1 m y).toInt

/-- The tables' contents the pipeline runs at. -/
def pf (m : (ℓ : Loc nD τ sig) → Buf (Elt Ideal) ℓ) : pre0.Contents (Elt Ideal) :=
  fun | ⟨0, _⟩ => tab0 m | ⟨1, _⟩ => tab1 m | ⟨_ + 2, h⟩ => absurd h (by simp)

theorem expert_block {e : ℕ} (h : e < 32) : ∀ a, ((![e, 0, 0] : Fin 3 → ℕ) a + 1) * (S1x2048x1024.size a) ≤ S32x2048x1024.size a := by
  intro a; fin_cases a
  · show (e + 1) * 1 ≤ 32; omega
  · show (0 + 1) * 2048 ≤ 2048; omega
  · show (0 + 1) * 1024 ≤ 1024; omega

theorem expert_block' {e : ℕ} (h : e < 32) : ∀ a, ((![e, 0, 0] : Fin 3 → ℕ) a + 1) * (S1x1024x2048.size a) ≤ S32x1024x2048.size a := by
  intro a; fin_cases a
  · show (e + 1) * 1 ≤ 32; omega
  · show (0 + 1) * 1024 ≤ 1024; omega
  · show (0 + 1) * 2048 ≤ 2048; omega

theorem row_block {e : ℕ} (h : e < 168) : ∀ a, ((![e, 0] : Fin 2 → ℕ) a + 1) * (S256x2048.size a) ≤ S43008x2048.size a := by
  intro a; fin_cases a
  · show (e + 1) * 256 ≤ 43008; omega
  · show (0 + 1) * 2048 ≤ 2048; omega

/-- The row block an input point reads: its own, or the last in use where that comes first. -/
theorem row_lt (i : grid0.Coords) (w : BitVec 32) (h : 1 ≤ w.toInt) :
    (Scalar.minsi (BitVec.ofNat 32 (i 0).val) (Scalar.subi w 1#32)).toNat < 168 :=
  MoeRange.row_lt (i 0).isLt h

/-- Every window's blocks lie inside their arrays. -/
theorem ok {m : (ℓ : Loc nD τ sig) → Buf (Elt Ideal) ℓ} (h : Good m) : ok0 (F := Ideal) (pf m) :=
  ⟨fun i => ⟨row_block (row_lt i _ (h.used _)), .inl rfl⟩,
    fun i => ⟨expert_block (h.expert _), .inr (Affine.block_words_dvd (s := S32x2048x1024) (p := EltTy.packing .bf16) (by decide) (by decide))⟩,
    fun i => ⟨expert_block (h.expert _), .inr (Affine.block_words_dvd (s := S32x2048x1024) (p := EltTy.packing .bf16) (by decide) (by decide))⟩,
    fun i => ⟨expert_block' (h.expert _), .inr (Affine.block_words_dvd (s := S32x1024x2048) (p := EltTy.packing .bf16) (by decide) (by decide))⟩⟩

variable {m : (ℓ : Loc nD τ sig) → Buf (Elt Ideal) ℓ} (h : Good m) (ρ : Dev nD → PrngReg)

/-- The admissible contents and the pipeline at them. -/
def adm : (pcfg0 (F := Ideal)).Adm := ⟨pf m, ok h⟩
abbrev cfgT : Pipeline.Cfg sig Λ₀ := cfg0 (F := Ideal) (adm h)
abbrev pcs : Fin 1 → Pipeline.Cfg sig Λ₀ := Pipeline.pin (pcfgs (F := Ideal)) fun _ => adm h

abbrev crd (t : Fin (cfgT h).N) : (cfgT h).grid.Coords := (cfgT h).grid.coords t

abbrev st0 (t : Fin (cfgT h).N) : Memref sig .tc .vmem S256x2048 .f32 := spec0_0.stage ((cfgT h).slots t (0 : Fin 5))
abbrev sw0 (t : Fin (cfgT h).N) : (st0 h t).IsWhole := hstage0_0 (((cfgT h).slots t (0 : Fin 5)).cast nbuf0_0)
abbrev st1 (t : Fin (cfgT h).N) : Memref sig .tc .vmem S1x2048x1024 .bf16 := spec0_1.stage ((cfgT h).slots t (1 : Fin 5))
abbrev sw1 (t : Fin (cfgT h).N) : (st1 h t).IsWhole := hstage0_1 (((cfgT h).slots t (1 : Fin 5)).cast nbuf0_1)
abbrev st2 (t : Fin (cfgT h).N) : Memref sig .tc .vmem S1x2048x1024 .bf16 := spec0_2.stage ((cfgT h).slots t (2 : Fin 5))
abbrev sw2 (t : Fin (cfgT h).N) : (st2 h t).IsWhole := hstage0_2 (((cfgT h).slots t (2 : Fin 5)).cast nbuf0_2)
abbrev st3 (t : Fin (cfgT h).N) : Memref sig .tc .vmem S1x1024x2048 .bf16 := spec0_3.stage ((cfgT h).slots t (3 : Fin 5))
abbrev sw3 (t : Fin (cfgT h).N) : (st3 h t).IsWhole := hstage0_3 (((cfgT h).slots t (3 : Fin 5)).cast nbuf0_3)
abbrev st4 (t : Fin (cfgT h).N) : Memref sig .tc .vmem S256x2048 .f32 := spec0_4.stage ((cfgT h).slots t (4 : Fin 5))
abbrev sw4 (t : Fin (cfgT h).N) : (st4 h t).IsWhole := hstage0_4 (((cfgT h).slots t (4 : Fin 5)).cast nbuf0_4)

/-- A window's block at a point, read off its array at launch. -/
def blk (c : Dev nD) (w : Fin (cfgT h).W) (t : Fin (cfgT h).N) : (((cfgT h).win w).xblock (crd h t)).Idx → Elt Ideal ((cfgT h).win w).elt :=
  (((cfgT h).win w).blk t).view.read (Elt Ideal) ((s₀ m ρ).mem (((cfgT h).win w).arr.view.loc (c : Thread nD τ)))

/-! ## The two branches -/

/-- The count of blocks in use, as the body reads it. -/
abbrev word (m : (ℓ : Loc nD τ sig) → Buf (Elt Ideal) ℓ) : BitVec 32 :=
  View.readAt (Elt Ideal) (tbM0_1).view (Rect.unit (s := S1) ![0] S1.size inb_S1_S1_0).toLoadRect (tab1 m) (Shape.Idx.first (numel1_S1.symm ▸ Nat.one_pos))

/-- The point's block is in use. -/
abbrev Live (t : Fin (cfgT h).N) : Prop := k0_cond1 (crd h t) (word m) = 1#1

/-- The body's second condition is the first one's negation. -/
theorem cond2_iff (i : grid0.Coords) (w : BitVec 32) : k0_cond2 i w = 1#1 ↔ ¬ k0_cond1 i w = 1#1 := by
  unfold k0_cond2 k0_cond1
  exact MoeRange.opposite _ _

theorem dead {t : Fin (cfgT h).N} (q : ¬ Live h t) : k0_cond2 (crd h t) (word m) = 1#1 := (cond2_iff _ _).2 q
theorem live {t : Fin (cfgT h).N} (q : Live h t) : ¬ k0_cond2 (crd h t) (word m) = 1#1 := fun e => (cond2_iff _ _).1 e q

theorem idle_word (i : grid0.Coords) (w : BitVec 32) : (!(k0_cond1 i w == 1#1) && !(k0_cond2 i w == 1#1)) = false := by
  by_cases q : k0_cond1 i w = 1#1
  · simp [q]
  · simp [(cond2_iff i w).2 q]

/-- The output is stored at every point, -/
theorem idle4 (t : Fin (cfgT h).N) : (cfgT h).idle (4 : Fin 5) ((cfgT h).grid.coords t) = false := idle_word _ _

theorem flushes : ∀ t : Fin grid0.N, Pipeline.Window.flushOf grid0 true cc0_transform_4 t = true := by decide +kernel

/-- written back at every point, -/
theorem flush4 (t : Fin (cfgT h).N) : ((cfgT h).win (4 : Fin 5)).flush t = true := flushes t

/-- and so holds nothing before a point. -/
theorem fresh4 (t : Fin (cfgT h).N) : (cfgT h).fresh (4 : Fin 5) t.val = true := by
  obtain ⟨n, hn⟩ := t
  cases n with
  | zero => exact Pipeline.Cfg.fresh_zero _ _
  | succ n => rw [Pipeline.Cfg.fresh_succ _ _ n (Nat.lt_of_succ_lt hn), flush4 h ⟨n, Nat.lt_of_succ_lt hn⟩, Bool.true_or]

/-- What a point leaves in the output's staging buffer. -/
def left (c : Dev nD) (t : Fin (cfgT h).N) : S256x2048.Idx → Elt Ideal .f32 :=
  if q : Live h t then
    out0_A_4 c (crd h t) (st0 h t) (sw0 h t) (st1 h t) (sw1 h t) (st2 h t) (sw2 h t) (st3 h t) (sw3 h t) (st4 h t) (sw4 h t)
      (tab0 m) (tab1 m) (blk h ρ c (0 : Fin 5) t) (blk h ρ c (1 : Fin 5) t) (blk h ρ c (2 : Fin 5) t) (blk h ρ c (3 : Fin 5) t) q (live h q)
  else
    out0_B_4 c (crd h t) (st0 h t) (sw0 h t) (st1 h t) (sw1 h t) (st2 h t) (sw2 h t) (st3 h t) (sw3 h t) (st4 h t) (sw4 h t)
      (tab0 m) (tab1 m) (blk h ρ c (0 : Fin 5) t) (blk h ρ c (1 : Fin 5) t) (blk h ρ c (2 : Fin 5) t) (blk h ρ c (3 : Fin 5) t) q (dead h q)

/-! ## The pipeline's proof data -/

/-- The body's halves of the tables. -/
def Held (m : (ℓ : Loc nD τ sig) → Buf (Elt Ideal) ℓ) (c : Dev nD) : sProp 𝕄 :=
  iprop((tbM0_0.view.loc (c : Thread nD τ) ↦{fullShare.right} tab0 m) ∗ (tbM0_1.view.loc (c : Thread nD τ) ↦{fullShare.right} tab1 m))

/-- The proof data of the one pipeline on a core. -/
def dats (_ : Fin 1) (c : Dev nD) : Dat τ (Elt Ideal) Unit ℕ (UR sig nD τ) ℕ (cfgT h) c where
  A w := (s₀ m ρ).mem (((cfgT h).win w).arr.view.loc (c : Thread nD τ))
  after w t := match w with
    | ⟨0, _⟩ => blk h ρ c (0 : Fin 5) t
    | ⟨1, _⟩ => blk h ρ c (1 : Fin 5) t
    | ⟨2, _⟩ => blk h ρ c (2 : Fin 5) t
    | ⟨3, _⟩ => blk h ρ c (3 : Fin 5) t
    | ⟨4, _⟩ => left h ρ c t
  Φ _ := Held m c
  q _ := fullShare
  owed _ := 0

theorem after0 (c : Dev nD) (t : Fin (cfgT h).N) : (dats h ρ 0 c).after (0 : Fin 5) t = blk h ρ c (0 : Fin 5) t := rfl
theorem after1 (c : Dev nD) (t : Fin (cfgT h).N) : (dats h ρ 0 c).after (1 : Fin 5) t = blk h ρ c (1 : Fin 5) t := rfl
theorem after2 (c : Dev nD) (t : Fin (cfgT h).N) : (dats h ρ 0 c).after (2 : Fin 5) t = blk h ρ c (2 : Fin 5) t := rfl
theorem after3 (c : Dev nD) (t : Fin (cfgT h).N) : (dats h ρ 0 c).after (3 : Fin 5) t = blk h ρ c (3 : Fin 5) t := rfl
theorem after4 (c : Dev nD) (t : Fin (cfgT h).N) : (dats h ρ 0 c).after (4 : Fin 5) t = left h ρ c t := rfl

theorem before0 (c : Dev nD) (t : Fin (cfgT h).N) (d) : (dats h ρ 0 c).before (0 : Fin 5) t d = blk h ρ c (0 : Fin 5) t :=
  ((dats h ρ 0 c).before_in_eq_fetched (0 : Fin 5) rfl (fun _ => rfl) (fun _ _ _ => rfl) (fun t => by rw [after0]; unfold Dat.blockOf blk; rfl) t d).trans
    (by unfold Dat.fetched Dat.blockOf blk; rfl)
theorem before1 (c : Dev nD) (t : Fin (cfgT h).N) (d) : (dats h ρ 0 c).before (1 : Fin 5) t d = blk h ρ c (1 : Fin 5) t :=
  ((dats h ρ 0 c).before_in_eq_fetched (1 : Fin 5) rfl (fun _ => rfl) (fun _ _ _ => rfl) (fun t => by rw [after1]; unfold Dat.blockOf blk; rfl) t d).trans
    (by unfold Dat.fetched Dat.blockOf blk; rfl)
theorem before2 (c : Dev nD) (t : Fin (cfgT h).N) (d) : (dats h ρ 0 c).before (2 : Fin 5) t d = blk h ρ c (2 : Fin 5) t :=
  ((dats h ρ 0 c).before_in_eq_fetched (2 : Fin 5) rfl (fun _ => rfl) (fun _ _ _ => rfl) (fun t => by rw [after2]; unfold Dat.blockOf blk; rfl) t d).trans
    (by unfold Dat.fetched Dat.blockOf blk; rfl)
theorem before3 (c : Dev nD) (t : Fin (cfgT h).N) (d) : (dats h ρ 0 c).before (3 : Fin 5) t d = blk h ρ c (3 : Fin 5) t :=
  ((dats h ρ 0 c).before_in_eq_fetched (3 : Fin 5) rfl (fun _ => rfl) (fun _ _ _ => rfl) (fun t => by rw [after3]; unfold Dat.blockOf blk; rfl) t d).trans
    (by unfold Dat.fetched Dat.blockOf blk; rfl)

/-! ## The body -/

/-- The body at a point on its staging buffers. -/
abbrev bodyAt (t : Fin (cfgT h).N) : Prog (TpuEff nD τ sig (Elt Ideal) Λ₀ .tc) PUnit :=
  cc0_moe (crd h t) (Memref.whole main_arg0) (Memref.isWhole_whole _) (Memref.whole main_arg1) (Memref.isWhole_whole _) (st0 h t) (sw0 h t) (st1 h t) (sw1 h t) (st2 h t) (sw2 h t) (st3 h t) (sw3 h t) (st4 h t) (sw4 h t)

set_option maxHeartbeats 4000000 in
/-- At a point the body turns what the windows hold before it into what they hold after it. -/
theorem body_sound (c : Dev nD) (t : Fin (cfgT h).N) :
    iprop((dats h ρ 0 c).Φ t.castSucc ∗ (dats h ρ 0 c).owesAt () t.castSucc
        ∗ (∃ d, owns (c : Thread nD τ) (st0 h t) fullShare ((dats h ρ 0 c).before (0 : Fin 5) t d))
        ∗ (∃ d, owns (c : Thread nD τ) (st1 h t) fullShare ((dats h ρ 0 c).before (1 : Fin 5) t d))
        ∗ (∃ d, owns (c : Thread nD τ) (st2 h t) fullShare ((dats h ρ 0 c).before (2 : Fin 5) t d))
        ∗ (∃ d, owns (c : Thread nD τ) (st3 h t) fullShare ((dats h ρ 0 c).before (3 : Fin 5) t d))
        ∗ (∃ d, owns (c : Thread nD τ) (st4 h t) fullShare ((dats h ρ 0 c).before (4 : Fin 5) t d)))
      ⊢ wp frame (wpE (defs₀ (F := Ideal)) Variants.none c none) Set.univ (bodyAt h t) fun _ =>
          iprop((dats h ρ 0 c).Φ t.succ ∗ (dats h ρ 0 c).owesAt () t.succ
            ∗ bigSep Finset.univ fun w : Fin (cfgT h).W =>
                match (cfgT h).idle w ((cfgT h).grid.coords t) with
                | true =>
                  match ((cfgT h).win w).flush t with
                  | false => iprop(∃ d, owns (c : Thread nD τ) (((cfgT h).win w).stage ((cfgT h).slots t w)) fullShare ((dats h ρ 0 c).before w t d))
                  | true => owns (c : Thread nD τ) (((cfgT h).win w).stage ((cfgT h).slots t w)) fullShare ((dats h ρ 0 c).after w t)
                | false => owns (c : Thread nD τ) (((cfgT h).win w).stage ((cfgT h).slots t w)) fullShare ((dats h ρ 0 c).after w t)) := by
  rw [bigSep_W0]
  have hi := idle4 h t
  rewrite [hi]
  simp only [before0, before1, before2, before3, after0, after1, after2, after3, after4]
  rewrite [show (dats h ρ 0 c).Φ t.succ = Held m c from rfl, show (dats h ρ 0 c).Φ t.castSucc = Held m c from rfl,
    show (dats h ρ 0 c).owesAt () t.succ = (dats h ρ 0 c).owesAt () t.castSucc from rfl]
  unfold Held left
  by_cases q : Live h t
  · simp only [dif_pos q]
    iintro ⟨⟨HT0, HT1⟩, Ho, ⟨%d0, H0⟩, ⟨%d1, H1⟩, ⟨%d2, H2⟩, ⟨%d3, H3⟩, ⟨%d4, H4⟩⟩
    iapply ((kernelRun0_A c (crd h t) (st0 h t) (sw0 h t) (st1 h t) (sw1 h t) (st2 h t) (sw2 h t) (st3 h t) (sw3 h t) (st4 h t) (sw4 h t) (tab0 m) (tab1 m) (blk h ρ c (0 : Fin 5) t) (blk h ρ c (1 : Fin 5) t) (blk h ρ c (2 : Fin 5) t) (blk h ρ c (3 : Fin 5) t) q (live h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_A_4 c _ _ _ _ _ _ _ _ _ _ _ _ _ _ _ _ _ _ _)
  · simp only [dif_neg q]
    iintro ⟨⟨HT0, HT1⟩, Ho, ⟨%d0, H0⟩, ⟨%d1, H1⟩, ⟨%d2, H2⟩, ⟨%d3, H3⟩, ⟨%d4, H4⟩⟩
    iapply ((kernelRun0_B c (crd h t) (st0 h t) (sw0 h t) (st1 h t) (sw1 h t) (st2 h t) (sw2 h t) (st3 h t) (sw3 h t) (st4 h t) (sw4 h t) (tab0 m) (tab1 m) (blk h ρ c (0 : Fin 5) t) (blk h ρ c (1 : Fin 5) t) (blk h ρ c (2 : Fin 5) t) (blk h ρ c (3 : Fin 5) t) q (dead h q)).2 _)
    isplitl [H0]; · iapply rep_of_owns; iexact H0
    isplitl [H1]; · iapply rep_of_owns; iexact H1
    isplitl [H2]; · iapply rep_of_owns; iexact H2
    isplitl [H3]; · iapply rep_of_owns; iexact H3
    isplitl [HT0]; · iexact HT0
    isplitl [HT1]; · iexact HT1
    isplitl [H4]; · iexists _; iexact H4
    iintro ⟨H0, H1, H2, H3, HT0, HT1, ⟨%e4, H4⟩⟩
    isplitl [HT0 HT1]
    · isplitl [HT0]
      · iexact HT0
      iexact HT1
    isplitl [Ho]; · iexact Ho
    isplitl [H0]; · iapply owns_of_rep; iexact H0
    isplitl [H1]; · iapply owns_of_rep; iexact H1
    isplitl [H2]; · iapply owns_of_rep; iexact H2
    isplitl [H3]; · iapply owns_of_rep; iexact H3
    unfold owns; iexists _; isplitr; swap
    · iexact H4
    · ipureintro; exact View.read_writes_of_cover _ _ _ _ _ (cover0_B_4 c _ _ _ _ _ _ _ _ _ _ _ _ _ _ _ _ _ _ _)

theorem obligation (c : Dev nD) : BodyObligation (dats h ρ 0 c) (defs₀ (F := Ideal)) Variants.none () Set.univ := fun t => by
  rw [bigSep_W0]
  exact body_sound h ρ c t

/-! ## The launch -/

abbrev EP : Emb (UR sig nD τ) 𝕄 := emb₁

/-- The launch element. -/
def u₀ : UR sig nD τ :=
  initOf (Pipeline.cells (pcs h) ((launch0 (F := Ideal)).cellOf_inj fun _ => adm h))
    (Pipeline.launchToks (pcs h) ((launch0 (F := Ideal)).cellOf_inj fun _ => adm h))

theorem share_full (c : Dev nD) (w : Fin (cfgT h).W) : (dats h ρ 0 c).share w = fullShare := by unfold Dat.share; split <;> rfl

theorem tables_held (c : Dev nD) (q : Fin 2 → PosShare TreeShare) (v : pre0.Contents (Elt Ideal)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

theorem enter (c : Dev nD) :
    iprop(BI.emp ∗ Pipeline.prefHeld pre0 c (fun _ => fullShare.right) (adm h).1 ∗ Pipeline.scopedRest spec0 c) ⊢ (dats h ρ 0 c).Φ 0 := by
  rw [tables_held, scopedRest0_eq, show (dats h ρ 0 c).Φ 0 = Held m c from rfl]
  unfold Held
  iintro ⟨-, ⟨HT0, HT1⟩, -⟩
  isplitl [HT0]
  · iexact HT0
  iexact HT1

theorem leave (c : Dev nD) : (dats h ρ 0 c).Φ (Fin.last (cfgT h).N) ⊢ iprop(BI.emp ∗ Pipeline.scopedRest spec0 c) := by
  rw [scopedRest0_eq, show (dats h ρ 0 c).Φ (Fin.last (cfgT h).N) = Held m c from rfl]
  unfold Held
  iintro ⟨-, -⟩
  isplitr; · iempintro
  iempintro

/-- What the run ends with: every array at what the proof data says, every table unchanged. -/
def Post : PUnit × MemSt nD τ sig (Elt Ideal) → Prop := fun r =>
  ∀ c : Dev nD, (∀ w : Fin (cfgT h).W, r.2.mem (((cfgT h).win w).arr.view.loc (c : Thread nD τ)) = (dats h ρ 0 c).arrAt w (cfgT h).N)
    ∧ ∀ j, r.2.mem ((c : Thread nD τ).loc (pre0.ref j)) = (adm h).1 j

theorem dev_zero (c : Dev nD) : c = 0 := Subsingleton.elim (α := Fin 1) c 0

theorem table_at (c : Dev nD) (j : Fin 2) : m ((c : Thread nD τ).loc (pre0.ref j)) = (adm h).1 j := by
  rw [dev_zero c]
  fin_cases j <;> rfl

set_option backward.isDefEq.respectTransparency.types false in
set_option maxHeartbeats 4000000 in
/-- Every weakly fair execution ends, with the arrays as the proof data says and every semaphore counter at zero. -/
theorem run_quiescent : θ_run (defs (F := Ideal)) (onTc (τ := τ) (main (F := Ideal))) (s₀ m ρ) (fun r => Post h ρ r ∧ r.2.sem = fun _ => 0) :=
  Pipeline.θ_run_region_noSem_pf_quiescent pcfgs (fun _ => adm h) (dats h ρ) () ((launch0 (F := Ideal)).cellOf_inj fun _ => adm h) (0 : Fin 1)
    (launch0 (F := Ideal)).win.to₀ (launch0 (F := Ideal)).pre EP defs₀ Variants.none m ρ main
    (hbody := fun c => (obligation h ρ c).loose) (hne := (launch0 (F := Ideal)).block_pos)
    (harr := (launch0 (F := Ideal)).arr_whole) (hstage := (launch0 (F := Ideal)).stage_whole) (howed := fun _ _ => rfl)
    (u₀ := u₀ h) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs h) (dats h ρ) 0 (launch0 (F := Ideal)).win.arr_inj c (launch0 (F := Ideal)).arr_whole
      (share_full h ρ c) _ _ fun _ => rfl)
    (hpf := table_at h)
    (X := fun _ => iprop(emp)) (Y := fun _ => iprop(emp)) (Z := fun _ => iprop(emp))
    (hX := fun c => by rw [unscopedRestP0_eq]; iintro -; isplitr <;> iempintro)
    (hin := enter h ρ)
    (hout := leave h ρ)
    (QY := fun _ _ => True)
    (hY := fun c s' => by
      iintro ⟨-, -, HSI⟩; imodintro
      isplitr; · ipureintro; trivial
      iexact HSI)
    (hQ := fun _ hr hz => ⟨fun c => ⟨(hr c).1, (hr c).2.1⟩, hz⟩)

/-- The argument arrays after such an end are the launch's. -/
theorem args_kept {r : PUnit × MemSt nD τ sig (Elt Ideal)} (hr : Post h ρ r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  ⟨((hr c).2 0).trans (table_at h c 0).symm, ((hr c).2 1).trans (table_at h c 1).symm,
    ((hr c).1 (0 : Fin 5)).trans ((dats h ρ 0 c).arrAt_in (0 : Fin 5) rfl _), ((hr c).1 (1 : Fin 5)).trans ((dats h ρ 0 c).arrAt_in (1 : Fin 5) rfl _),
    ((hr c).1 (2 : Fin 5)).trans ((dats h ρ 0 c).arrAt_in (2 : Fin 5) rfl _), ((hr c).1 (3 : Fin 5)).trans ((dats h ρ 0 c).arrAt_in (3 : Fin 5) rfl _)⟩

/-- The precondition bounds the tables. -/
theorem good_of_pre (m : (ℓ : Loc nD τ sig) → Buf (Elt Ideal) ℓ) (e : Cert.Pre_MoeIdeal m) : Good m :=
  ⟨MoeRange.expert_lt (e 0), MoeRange.used_pos (e 0)⟩

/-- The kernel's execution from a memory that meets the precondition: it ends, the arguments unchanged, every counter zero. -/
theorem frame_of_pre (m : (ℓ : Loc nD τ sig) → Buf (Elt Ideal) ℓ) (ρ : Dev nD → PrngReg) (e : Cert.Pre_MoeIdeal m) :
    θ_run (defs (F := Ideal)) (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  (θ_run (defs (F := Ideal)) _ _).mono (fun _ hr => ⟨fun c => args_kept (good_of_pre m e) ρ hr.1 c, hr.2⟩) (run_quiescent (good_of_pre m e) ρ)

end Cert.MoeIdeal.Tables

end
-- ==== Proof.MoeRefPoint.lean ====
/-
  The experts' reference at an index: the row's feed-forward network with the weights of its block's expert, or zero.
-/
module

public import proofs.«01_k».proof.Proof.Gen.MoeRefIdeal.Run
public import Idealize.ShloMosaic.Lib.Pipeline.ValueKit
public import Idealize.ShloMosaic.Lib.Pointwise
public import Idealize.ShloMosaic.Lib.StackMember

@[expose] public section

set_option maxRecDepth 16384

noncomputable section

open Idealize.ShloMosaic Idealize.ShloMosaic.TcCoe Idealize.SL.Sem

namespace Cert.MoeRefIdeal.Point

open Cert.MoeRefIdeal Cert.MoeRefIdeal.Gen

/-- A gather of whole matrices out of a stack, one per start index: entry `(i, a, b)` of the result is entry `(a, b)` of the
    matrix the `i`-th start index names. -/
theorem gather_matrix {α : Type} {N A B R : Nat}
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (s : IVec ⟨2, ![R, 1]⟩ 32) (i : Fin R) (a : Fin A) (b : Fin B) (e : Fin N)
    (he : (s (ix2 i 0)).toInt = e.val) :
    Host.gather (⟨[1, 2], [0], [], [], [0], 1, ![1, A, B], wf⟩ : GatherDims _ _ _) x s (ix3 i a b) = x (ix3 e a b) := by
  unfold Host.gather
  refine congrArg x (funext fun ax => Fin.ext ?_)
  show GatherDims.start _ _ _ _ + GatherDims.batchCoord _ _ _ + GatherDims.offCoord _ _ _ = _
  rw [GatherDims.batchCoord_eq_zero _ _ _ List.not_mem_nil, Nat.add_zero]
  match ax with
  | ⟨0, _⟩ =>
    rw [GatherDims.offCoord_eq_zero _ _ _ (fun h => ((GatherDims.mem_sKept _ _).1 h).1 (List.mem_singleton.2 rfl)), Nat.add_zero]
    unfold GatherDims.start
    refine (dif_pos (show (0 : Fin 3) ∈ [(0 : Fin 3)] from List.mem_singleton.2 rfl)).trans ?_
    have hs : ∀ c, GatherDims.siIdx (⟨[1, 2], [0], [], [], [0], 1, ![1, A, B], wf⟩ : GatherDims ⟨3, ![N, A, B]⟩ ⟨2, ![R, 1]⟩ ⟨3, ![R, A, B]⟩)
        (ix3 i a b) c = ix2 i 0 := by
      intro c
      funext d
      match d with
      | ⟨0, _⟩ => rfl
      | ⟨1, _⟩ => exact Fin.ext (by have := c.isLt; simpa [GatherDims.siIdx] using this)
    rw [hs, he]
    show min e.val (N - 1) = e.val
    have := e.isLt
    omega
  | ⟨1, _⟩ =>
    exact (congrArg (· + _) (dif_neg (show ¬ (1 : Fin 3) ∈ [(0 : Fin 3)] by decide))).trans (Nat.zero_add _)
  | ⟨2, _⟩ =>
    exact (congrArg (· + _) (dif_neg (show ¬ (2 : Fin 3) ∈ [(0 : Fin 3)] by decide))).trans (Nat.zero_add _)

/-- The start indices of the gathers: a block's expert, a negative number counted from the end. -/
abbrev starts (e : IVec S168 32) : IVec S168x1 32 :=
  broadcastInDim S168x1 ![0] bcast_S168_S168x1_0 (select (cmpi .slt e (broadcastInDim S168 ![] bcast_S_S168 (constantI S_ 32 0#32)))
    (addi e (broadcastInDim S168 ![] bcast_S_S168 (constantI S_ 32 32#32))) e)

/-- The rows' products with their experts' first matrices. -/
def wide (e : IVec S168 32) (x : FVec Ideal S43008x2048 .f32) (w : FVec Ideal S32x2048x1024 .bf16) : FVec Ideal S168x256x1024 .f32 :=
  Host.dotGeneral dot_S168x256x2048_S168x2048x1024_S168x256x1024_2_1_1_2_0_0 none (shapeCast _ x shapeCasts_S43008x2048_S168x256x2048)
    (Host.gather gather_S32x2048x1024_S168x1_S168x2048x1024_12_0_n_n_0_1_120481024 (extf .f32 w bitsLt_bf16_f32) (starts e))

/-- One over one plus the exponential of the negated argument, as the reference writes its sigmoid. -/
abbrev sigmoid (g : FVec Ideal S168x256x1024 .f32) : FVec Ideal S168x256x1024 .f32 :=
  Host.divf (broadcastInDim S168x256x1024 ![] bcast_S_S168x256x1024 (constant S_ .f32 0x3F800000#32))
    (addf (broadcastInDim S168x256x1024 ![] bcast_S_S168x256x1024 (constant S_ .f32 0x3F800000#32)) (Host.exp (Host.negf g)))

/-- The reference's result before the last reshape. -/
abbrev blocks (e : IVec S168 32) (n : IVec S1 32) (x : FVec Ideal S43008x2048 .f32) (wg wu : FVec Ideal S32x2048x1024 .bf16)
    (wd : FVec Ideal S32x1024x2048 .bf16) : FVec Ideal S168x256x2048 .f32 :=
  select (broadcastInDim S168x256x2048 ![0, 1, 2] bcast_S168x1x1_S168x256x2048_0_1_2 (broadcastInDim S168x1x1 ![0] bcast_S168_S168x1x1_0
      (cmpi .slt (iotaInDim S168 32 0) (broadcastInDim S168 ![] bcast_S_S168 (shapeCast _ n shapeCasts_S1_S_)))))
    (Host.dotGeneral dot_S168x256x1024_S168x1024x2048_S168x256x2048_2_1_1_2_0_0 none
      (mulf (mulf (wide e x wg) (sigmoid (wide e x wg))) (wide e x wu))
      (Host.gather gather_S32x1024x2048_S168x1_S168x1024x2048_12_0_n_n_0_1_110242048 (extf .f32 wd bitsLt_bf16_f32) (starts e)))
    (broadcastInDim S168x256x2048 ![] bcast_S_S168x256x2048 (id (constant S_ .f32 0x00000000#32)))

/-- The reference's result as a function of its six arguments. -/
abbrev REF (e : IVec S168 32) (n : IVec S1 32) (x : FVec Ideal S43008x2048 .f32) (wg wu : FVec Ideal S32x2048x1024 .bf16)
    (wd : FVec Ideal S32x1024x2048 .bf16) : FVec Ideal S43008x2048 .f32 :=
  shapeCast _ (blocks e n x wg wu wd) shapeCasts_S168x256x2048_S43008x2048

/-- Row `r` of block `i` as a row of the array. -/
abbrev row (i : Fin 168) (r : Fin 256) : Fin 43008 := ⟨i.val * 256 + r.val, by omega⟩

theorem starts_at (e : IVec S168 32) (i : Fin 168) (k : Fin 32) (hk : (e (ix1 i)).toInt = k.val) :
    (starts e (ix2 i 0)).toInt = k.val := by
  have h : starts e (ix2 i 0) = e (ix1 i) := by
    pointwise [starts]
    refine if_neg ?_
    have hn : (e (ix1 i)).slt 0#32 = false := by simp only [BitVec.slt, hk]; simp
    simp [IntOp.cmpi, hn]
  rw [h, hk]

theorem wide_at (e : IVec S168 32) (x : FVec Ideal S43008x2048 .f32) (w : FVec Ideal S32x2048x1024 .bf16)
    (i : Fin 168) (r : Fin 256) (q : Fin 1024) (k : Fin 32) (hk : (e (ix1 i)).toInt = k.val) :
    wide e x w (ix3 i r q) = ∑ j : Fin 2048, x (ix2 (row i r) j) * w (ix3 k j q) := by
  have h : wide e x w (ix3 i r q) = ∑ j : Fin 2048, shapeCast S168x256x2048 x shapeCasts_S43008x2048_S168x256x2048 (ix3 i r j)
      * Host.gather gather_S32x2048x1024_S168x1_S168x2048x1024_12_0_n_n_0_1_120481024 (extf .f32 w bitsLt_bf16_f32 : FVec Ideal S32x2048x1024 .f32) (starts e) (ix3 i j q) :=
    StackMember.dotGeneral_stack_apply dot_S168x256x2048_S168x2048x1024_S168x256x1024_2_1_1_2_0_0_wf none _ _ i r q
  rw [h]
  refine Finset.sum_congr rfl fun j _ => ?_
  rw [show Host.gather gather_S32x2048x1024_S168x1_S168x2048x1024_12_0_n_n_0_1_120481024 (extf .f32 w bitsLt_bf16_f32 : FVec Ideal S32x2048x1024 .f32) (starts e) (ix3 i j q)
    = w (ix3 k j q) from gather_matrix _ _ _ _ _ _ _ (starts_at e i k hk)]
  congr 1
  pointwise

/-- The reference at row `r` of block `i`. -/
theorem blocks_at (e : IVec S168 32) (n : IVec S1 32) (x : FVec Ideal S43008x2048 .f32) (wg wu : FVec Ideal S32x2048x1024 .bf16)
    (wd : FVec Ideal S32x1024x2048 .bf16) (i : Fin 168) (r : Fin 256) (q : Fin 2048) (k : Fin 32) (hk : (e (ix1 i)).toInt = k.val) :
    REF e n x wg wu wd (ix2 (row i r) q)
      = if (BitVec.ofNat 32 i.val).slt (n (ix1 0)) then
          ∑ j : Fin 1024, (mulf (mulf (wide e x wg) (sigmoid (wide e x wg))) (wide e x wu)) (ix3 i r j) * wd (ix3 k j q)
        else 0 := by
  have h0 : REF e n x wg wu wd (ix2 (row i r) q) = blocks e n x wg wu wd (ix3 i r q) := by
    show shapeCast _ _ _ _ = _
    generalize blocks e n x wg wu wd = z
    pointwise
    congr 1
    funext ax
    match ax with
    | ⟨0, _⟩ => exact Fin.ext (by show (i.val * 256 + r.val) / 256 = i.val; omega)
    | ⟨1, _⟩ => exact Fin.ext (by show (i.val * 256 + r.val) % 256 = r.val; omega)
    | ⟨2, _⟩ => rfl
  have h1 := StackMember.dotGeneral_stack_apply dot_S168x256x1024_S168x1024x2048_S168x256x2048_2_1_1_2_0_0_wf none
    (mulf (mulf (wide e x wg) (sigmoid (wide e x wg))) (wide e x wu))
    (Host.gather gather_S32x1024x2048_S168x1_S168x1024x2048_12_0_n_n_0_1_110242048 (extf .f32 wd bitsLt_bf16_f32 : FVec Ideal S32x1024x2048 .f32) (starts e)) i r q
  have h2 : (if (BitVec.ofNat 32 i.val).slt (n (ix1 0)) then Host.dotGeneral dot_S168x256x1024_S168x1024x2048_S168x256x2048_2_1_1_2_0_0 none
      (mulf (mulf (wide e x wg) (sigmoid (wide e x wg))) (wide e x wu))
      (Host.gather gather_S32x1024x2048_S168x1_S168x1024x2048_12_0_n_n_0_1_110242048 (extf .f32 wd bitsLt_bf16_f32 : FVec Ideal S32x1024x2048 .f32) (starts e)) (ix3 i r q) else 0)
      = blocks e n x wg wu wd (ix3 i r q) := by
    unfold blocks
    generalize (Host.dotGeneral dot_S168x256x1024_S168x1024x2048_S168x256x2048_2_1_1_2_0_0 none _ _ : FVec Ideal S168x256x2048 .f32) = z
    pointwise
    by_cases hs : (BitVec.ofNat 32 i.val).slt (n (ix1 0)) = true
    · simp [hs, IntOp.cmpi, Scalar.select]
    · simp only [hs, IntOp.cmpi, Scalar.select]
      exact Ideal.ofBits_zero_f32.symm
  rw [h0, ← h2]
  refine congrArg (fun z => if (BitVec.ofNat 32 i.val).slt (n (ix1 0)) = true then z else (0 : EReal)) (h1.trans (Finset.sum_congr rfl fun j _ => ?_))
  congr 1
  exact gather_matrix _ (extf .f32 wd bitsLt_bf16_f32 : FVec Ideal S32x1024x2048 .f32) _ _ _ _ _ (starts_at e i k hk)

end Cert.MoeRefIdeal.Point

end
-- ==== Proof.MoeValue.lean ====
/-
  The value of the experts' kernel: every block it writes back is the reference's block, element by element.
-/
module

public import proofs.«01_k».proof.Proof.MoeIdealFrame
public import proofs.«01_k».proof.Proof.MoeRefPoint

@[expose] public section

set_option maxRecDepth 16384

noncomputable section

open Idealize.ShloMosaic Idealize.ShloMosaic.TcCoe Idealize.SL.Sem
open Idealize.ShloMosaic.Pipeline (Dat)

namespace Cert.MoeIdeal.Final

open Cert.MoeIdeal Cert.MoeIdeal.Gen Cert.MoeIdeal.Tables

variable {m : (ℓ : Loc nD τ sig) → Buf (Elt Ideal) ℓ} (h : Good m) (ρ : Dev nD → PrngReg)

theorem coord : ∀ t : Fin grid0.N, (grid0.coords t 0).val = t.val := by decide +kernel

theorem points : grid0.N = 168 := by decide +kernel

/-- A point as the number of its block. -/
def num (t : Fin (cfgT h).N) : Fin 168 := ⟨t.val, lt_of_lt_of_eq t.isLt points⟩

/-- The only entry of the count. -/
theorem word_eq : word m = tab1 m (ix1 0) := by
  unfold word
  rw [show (Shape.Idx.first (numel1_S1.symm ▸ Nat.one_pos) : S1.Idx) = ix1 0 from funext fun a => by
    match a with
    | ⟨0, _⟩ => exact Subsingleton.elim (α := Fin 1) _ _]
  show tab1 m _ = _
  congr 1
  funext a
  match a with
  | ⟨0, _⟩ => exact Subsingleton.elim (α := Fin 1) _ _

/-- The point's block is in use exactly when its number is below the count. -/
theorem live_iff (t : Fin (cfgT h).N) : Live h t ↔ (BitVec.ofNat 32 (num h t).val).slt (tab1 m (ix1 0)) = true := by
  unfold Live k0_cond1
  rw [word_eq]
  have e : ((crd h t) 0).val = (num h t).val := coord t
  rw [← MoeRange.below (num h t).isLt, ← e]

/-- The expert of a point's block. -/
def expert (t : Fin (cfgT h).N) : Fin 32 := ⟨(tab0 m (ix1 (num h t))).toNat, h.expert _⟩

theorem expert_int (t : Fin (cfgT h).N) : (tab0 m (ix1 (num h t))).toInt = (expert h t).val := by
  have := h.expert (ix1 (num h t))
  rw [BitVec.toInt_eq_toNat_of_lt (by omega)]
  rfl

theorem table_entry (t : Fin (cfgT h).N) :
    (pf m).at 0 (Rect.unit (s := S168) ![(Scalar.indexCast (BitVec.ofNat 32 ((crd h t) 0).val)).toNat] S1.size (k0_off1_inb (crd h t))) numel1_S1
      = tab0 m (ix1 (num h t)) := by
  show tab0 m _ = _
  congr 1
  funext a
  match a with
  | ⟨0, _⟩ =>
    refine Fin.ext ?_
    have e : ((crd h t) 0).val = (num h t).val := coord t
    have := (num h t).isLt
    have ez : (BitVec.ofNat 32 (num h t).val).toNat = (num h t).val := by rw [BitVec.toNat_ofNat, Nat.mod_eq_of_lt (by omega)]
    refine (Rect.emb_apply _ _ _).trans ?_
    show (BitVec.ofNat 32 ((crd h t) 0).val).toNat + 0 = (num h t).val
    rw [e]
    show (BitVec.ofNat 32 (num h t).val).toNat + 0 = (num h t).val
    rw [ez, Nat.add_zero]

theorem index1 (t : Fin (cfgT h).N) : ((cfgT h).win 1).index t = ![(expert h t).val, 0, 0] := by
  show (![((pf m).at 0 (Rect.unit (s := S168) ![(Scalar.indexCast (BitVec.ofNat 32 ((crd h t) 0).val)).toNat] S1.size (k0_off1_inb (crd h t))) numel1_S1).toNat, 0, 0] : Fin 3 → ℕ) = _
  rw [table_entry]
  rfl

theorem num_word (t : Fin (cfgT h).N) : (BitVec.ofNat 32 ((crd h t) 0).val).toNat = (num h t).val := by
  have e : ((crd h t) 0).val = (num h t).val := coord t
  have := (num h t).isLt
  rw [e, BitVec.toNat_ofNat, Nat.mod_eq_of_lt (by omega)]

theorem count_entry : (pf m).at 1 (Rect.unit (s := S1) ![0] S1.size inb_S1_S1_0) numel1_S1 = tab1 m (ix1 0) := by
  show tab1 m _ = _
  congr 1
  funext a
  match a with
  | ⟨0, _⟩ => exact Subsingleton.elim (α := Fin 1) _ _

theorem index0 (t : Fin (cfgT h).N) (q : Live h t) : ((cfgT h).win 0).index t = ![(num h t).val, 0] := by
  show (![(Scalar.minsi (BitVec.ofNat 32 ((crd h t) 0).val) (Scalar.subi ((pf m).at 1 (Rect.unit (s := S1) ![0] S1.size inb_S1_S1_0) numel1_S1) 1#32)).toNat, 0] : Fin 2 → ℕ) = _
  rw [count_entry]
  have e := num_word h t
  have hq := (live_iff h t).1 q
  have hu := h.used (ix1 0)
  have hn := (num h t).isLt
  generalize tab1 m (ix1 0) = w at hq hu ⊢
  generalize (crd h t 0).val = k at e ⊢
  rw [BitVec.slt_eq_decide, decide_eq_true_eq] at hq
  have ew := BitVec.toInt_eq_toNat_cond w
  have hk : (BitVec.ofNat 32 (num h t).val).toInt = (num h t).val := by
    rw [BitVec.toInt_eq_toNat_of_lt] <;> rw [BitVec.toNat_ofNat, Nat.mod_eq_of_lt (by omega)]
    omega
  rw [hk] at hq
  have hw : w.toNat < 2 ^ 31 ∧ (num h t).val < w.toNat := by
    have := w.isLt
    split at ew <;> omega
  have es : (Scalar.subi w 1#32).toNat = w.toNat - 1 := BitVec.toNat_sub_of_le (by rw [BitVec.le_def]; show 1 ≤ _; omega)
  have := WordArith.toNat_minsi_of_lt (BitVec.ofNat 32 k) (Scalar.subi w 1#32) (by omega) (by omega)
  rw [show Scalar.minsi (BitVec.ofNat 32 k) (Scalar.subi w 1#32) = IntOp.minsi (BitVec.ofNat 32 k) (Scalar.subi w 1#32) from rfl, this]
  rw [show min (BitVec.ofNat 32 k).toNat (Scalar.subi w 1#32).toNat = (num h t).val by omega]

theorem index4 (t : Fin (cfgT h).N) : ((cfgT h).win 4).index t = ![(num h t).val, 0] := by
  show (![(BitVec.ofNat 32 ((crd h t) 0).val).toNat, 0] : Fin 2 → ℕ) = _
  rw [num_word]

theorem index2 (t : Fin (cfgT h).N) : ((cfgT h).win 2).index t = ![(expert h t).val, 0, 0] := index1 h t
theorem index3 (t : Fin (cfgT h).N) : ((cfgT h).win 3).index t = ![(expert h t).val, 0, 0] := index1 h t

/-- Row `r` of the point's block as a row of the array. -/
abbrev rowOf (t : Fin (cfgT h).N) (r : Fin 256) : Fin 43008 := Cert.MoeRefIdeal.Point.row (num h t) r

theorem read0 (c : Dev nD) (t : Fin (cfgT h).N) (q : Live h t) (r : Fin 256) (k : Fin 2048) :
    blk h ρ c 0 t (ix2 r k) = (m ((c : Thread nD τ).loc main_arg2) : FVec Ideal S43008x2048 .f32) (ix2 (rowOf h t r) k) := by
  blk_ext [blk, index0 h t q, rowOf]

theorem read1 (c : Dev nD) (t : Fin (cfgT h).N) (k : Fin 2048) (j : Fin 1024) :
    blk h ρ c 1 t (ix3 0 k j) = (m ((c : Thread nD τ).loc main_arg3) : FVec Ideal S32x2048x1024 .bf16) (ix3 (expert h t) k j) := by
  blk_ext [blk, index1 h t]

theorem read2 (c : Dev nD) (t : Fin (cfgT h).N) (k : Fin 2048) (j : Fin 1024) :
    blk h ρ c 2 t (ix3 0 k j) = (m ((c : Thread nD τ).loc main_arg4) : FVec Ideal S32x2048x1024 .bf16) (ix3 (expert h t) k j) := by
  blk_ext [blk, index2 h t]

theorem read3 (c : Dev nD) (t : Fin (cfgT h).N) (k : Fin 1024) (j : Fin 2048) :
    blk h ρ c 3 t (ix3 0 k j) = (m ((c : Thread nD τ).loc main_arg5) : FVec Ideal S32x1024x2048 .bf16) (ix3 (expert h t) k j) := by
  blk_ext [blk, index3 h t]

/-- Where a block's index sits in the result. -/
theorem place (t : Fin (cfgT h).N) (r : Fin 256) (q : Fin 2048) :
    (((cfgT h).win 4).blk t).view.emb (ix2 r q) = ix2 (rowOf h t r) q := by
  blk_ext [index4 h t, rowOf]

theorem left_live (c : Dev nD) (t : Fin (cfgT h).N) (q : Live h t) :
    left h ρ c t = k0_pay1 (blk h ρ c 0 t) (blk h ρ c 1 t) (blk h ρ c 2 t) (blk h ρ c 3 t) := by
  unfold left
  rw [dif_pos q]
  frame_out
  simp only [View.read_rep]

theorem left_dead (c : Dev nD) (t : Fin (cfgT h).N) (q : ¬ Live h t) :
    left h ρ c t = k0_pay2 (F := Ideal) := by
  unfold left
  rw [dif_neg q]
  frame_out

/-- What the point leaves at a block index is the reference's result at the array index where it sits. -/
theorem point (c : Dev nD) (t : Fin (cfgT h).N) (y : S256x2048.Idx) :
    left h ρ c t y = Cert.MoeRefIdeal.Point.REF (tab0 m) (tab1 m) (m ((c : Thread nD τ).loc main_arg2)) (m ((c : Thread nD τ).loc main_arg3))
      (m ((c : Thread nD τ).loc main_arg4)) (m ((c : Thread nD τ).loc main_arg5)) ((((cfgT h).win 4).blk t).view.emb y) := by
  idx_vars y
  rw [place]
  refine Eq.trans ?_ (Cert.MoeRefIdeal.Point.blocks_at _ _ _ _ _ _ _ _ _ _ (expert_int h t)).symm
  by_cases q : Live h t
  · rw [left_live h ρ c t q, if_pos ((live_iff h t).1 q)]
    pointwise [k0_pay1, Cert.MoeRefIdeal.Point.sigmoid]
    simp only [read0 h ρ c t q, read1, read2, read3, Cert.MoeRefIdeal.Point.wide_at _ _ _ _ _ _ _ (expert_int h t)]
    rfl
  · rw [left_dead h ρ c t q, if_neg (fun e => q ((live_iff h t).2 e))]
    pointwise [k0_pay2]

/-- The blocks written back fill the result. -/
theorem fills : ((cfgT h).win 4).Covers := by
  refine ⟨fun a => ?_, fun b => ⟨⟨(b (0 : Fin 2)).val, ?_⟩, flush4 h _, fun a => ⟨?_, Or.inl rfl⟩⟩⟩
  · match a with
    | ⟨0, _⟩ => show 0 < 256; decide
    | ⟨1, _⟩ => show 0 < 2048; decide
  · exact lt_of_lt_of_eq (b (0 : Fin 2)).isLt (show (43008 + 256 - 1) / 256 = grid0.N by rw [points])
  · rw [index4]
    match a with
    | ⟨0, _⟩ => rfl
    | ⟨1, _⟩ =>
      have := (b (1 : Fin 2)).isLt
      have e : ((cfgT h).win 4).nblk (1 : Fin 2) = 1 := by show (2048 + 2048 - 1) / 2048 = 1; decide
      show 0 = (b (1 : Fin 2)).val
      omega

/-- The result array after the run. -/
theorem final (c : Dev nD) : (dats h ρ 0 c).arrAt 4 (cfgT h).N
    = Cert.MoeRefIdeal.Point.REF (tab0 m) (tab1 m) (m ((c : Thread nD τ).loc main_arg2)) (m ((c : Thread nD τ).loc main_arg3))
      (m ((c : Thread nD τ).loc main_arg4)) (m ((c : Thread nD τ).loc main_arg5)) := by
  refine (dats h ρ 0 c).arrAt_eq_of_covers 4 _ (fills h) fun t _ y => ?_
  rw [after4]
  exact point h ρ c t y

end Cert.MoeIdeal.Final

end
-- ==== Proof.MoeClaim.lean ====
/-
  The claims about the experts' kernel, from its value and from the runs.
-/
module

public import proofs.«01_k».proof.Defs
public import proofs.«01_k».proof.Proof.MoeFrame
public import proofs.«01_k».proof.Proof.MoeValue

@[expose] public section

set_option maxRecDepth 16384

open Idealize.ShloMosaic Idealize.ShloMosaic.TcCoe Idealize.SL.Sem

namespace Cert.MoeIdeal.Final

open Cert.MoeIdeal.Tables

theorem kernel_ends : Cert.quiescent_Moe (hMoe := Cert.Moe.Gen.facts) (hPre_moe_range := Cert.Pre_moe_range.Gen.facts) :=
  fun m ρ e => Cert.Moe.Tables.frame_of_pre m ρ e

theorem ideal_ends : Cert.quiescent_MoeIdeal (hMoeIdeal := Cert.MoeIdeal.Gen.facts) (hPre_moe_range := Cert.Pre_moe_range.Gen.facts) :=
  fun m ρ e => frame_of_pre m ρ e

theorem reference_ends : Cert.quiescent_MoeRefIdeal (hMoeRefIdeal := Cert.MoeRefIdeal.Gen.facts) := fun m ρ _ =>
  (θ_run _ _ _).mono (fun r h => ⟨fun c => (h c).2, sem_eq_zero_of_no_sems (by decide) r.2⟩) (Cert.MoeRefIdeal.Value.run (F := Ideal) m ρ)

theorem reference_ends_in_range :
    Cert.quiescent_MoeRefIdeal_pre_moe_range (hMoeRefIdeal := Cert.MoeRefIdeal.Gen.facts) (hPre_moe_range := Cert.Pre_moe_range.Gen.facts) :=
  fun m ρ _ =>
  (θ_run _ _ _).mono (fun r h => ⟨fun c => (h c).2, sem_eq_zero_of_no_sems (by decide) r.2⟩) (Cert.MoeRefIdeal.Value.run (F := Ideal) m ρ)

theorem same_value :
    Cert.algebraic_MoeIdeal_MoeRefIdeal (hMoeIdeal := Cert.MoeIdeal.Gen.facts) (hMoeRefIdeal := Cert.MoeRefIdeal.Gen.facts)
      (hPre_moe_range := Cert.Pre_moe_range.Gen.facts) := by
  intro m ρ m' ρ' e hag
  have h := good_of_pre m e
  refine ⟨_, (θ_run _ _ _).mono (fun _ hr c => ⟨((hr.1 c).1 (4 : Fin 5)).trans (final h ρ c), args_kept h ρ hr.1 c⟩) (run_quiescent h ρ), ?_⟩
  refine (θ_run _ _ _).mono (fun _ hr c => ?_) (Cert.MoeRefIdeal.Value.run (F := Ideal) m' ρ')
  obtain ⟨e0, e1, e2, e3, e4, e5⟩ := hag c
  refine ⟨((hr c).1).trans ?_, (hr c).2⟩
  obtain rfl := dev_zero c
  rw [e0, e1, e2, e3, e4, e5]
  rfl

end Cert.MoeIdeal.Final
-- ==== Proof.InProjValue.lean ====
/-
  The value of the input projection: every block the kernel writes back is the reference's block, element by element.
  The normalized rows of a block are computed at the first of its three points and kept in scratch for the other two.
-/
module

public import proofs.«01_k».proof.Proof.Gen.InProjIdeal.Value
public import proofs.«01_k».proof.Proof.Gen.InProjRefIdeal.Run
public import Idealize.ShloMosaic.Lib.Pipeline.ValueKit
public import Idealize.ShloMosaic.Lib.Pipeline.ReadBack
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.InProjIdeal.Final

open Cert.InProjIdeal Cert.InProjIdeal.Gen

variable (m : (ℓ : Loc nD τ sig) → Buf (Elt Ideal) ℓ) (ρ : Dev nD → PrngReg)

/-- The reference's normalized rows, times the gain. -/
def NORM (x : FVec Ideal Cert.InProjRefIdeal.S17408x2048 .f32) (g : FVec Ideal Cert.InProjRefIdeal.S2048 .f32) :
    FVec Ideal Cert.InProjRefIdeal.S17408x2048 .f32 :=
  mulf
    (mulf x (broadcastInDim Cert.InProjRefIdeal.S17408x2048 ![0, 1] Cert.InProjRefIdeal.Gen.bcast_S17408x1_S17408x2048_0_1
      (Host.rsqrt (addf
        (Host.divf
          (broadcastInDim Cert.InProjRefIdeal.S17408x1 ![0] Cert.InProjRefIdeal.Gen.bcast_S17408_S17408x1_0
            (Host.reduceAdd (mulf x x) (constant Cert.InProjRefIdeal.S_ .f32 0x00000000#32)
              Cert.InProjRefIdeal.Gen.reducesTo_S17408x2048_S17408_d1 Cert.InProjRefIdeal.Gen.h_S_))
          (broadcastInDim Cert.InProjRefIdeal.S17408x1 ![] Cert.InProjRefIdeal.Gen.bcast_S_S17408x1 (constant Cert.InProjRefIdeal.S_ .f32 0x45000000#32)))
        (broadcastInDim Cert.InProjRefIdeal.S17408x1 ![] Cert.InProjRefIdeal.Gen.bcast_S_S17408x1 (constant Cert.InProjRefIdeal.S_ .f32 0x358637BD#32))))))
    (broadcastInDim Cert.InProjRefIdeal.S17408x2048 ![0, 1] Cert.InProjRefIdeal.Gen.bcast_S1x2048_S17408x2048_0_1
      (broadcastInDim Cert.InProjRefIdeal.S1x2048 ![1] Cert.InProjRefIdeal.Gen.bcast_S2048_S1x2048_1 g))

/-- The reference's result as a function of its three arguments. -/
abbrev REF (x : FVec Ideal Cert.InProjRefIdeal.S17408x2048 .f32) (g : FVec Ideal Cert.InProjRefIdeal.S2048 .f32)
    (w : FVec Ideal Cert.InProjRefIdeal.S2048x7296 .f32) : FVec Ideal Cert.InProjRefIdeal.S17408x7296 .f32 :=
  Host.dotGeneral Cert.InProjRefIdeal.dot_S17408x2048_S2048x7296_S17408x7296_1_0_0_1_n_n none (NORM x g) w

/-- The blocks each window visits, at every grid point. -/
theorem idx : ∀ t : Fin cfg0.N, win0_0.index t = ![t.val / 3, 0] ∧ win0_1.index t = ![0, 0]
    ∧ win0_2.index t = ![0, t.val % 3] ∧ win0_3.index t = ![t.val / 3, t.val % 3] :=
  (by decide +kernel : ∀ t : Fin grid0.N, _)

/-- The row of the arrays where row `r` of point `t`'s block sits. -/
def rowOf (t : Fin cfg0.N) (r : Fin 512) : Fin 17408 :=
  ⟨t.val / 3 * 512 + r.val, by have := lt_of_lt_of_eq t.isLt N_0; omega⟩

/-- The column of the arrays where column `q` of point `t`'s block sits. -/
def colOf (t : Fin cfg0.N) (q : Fin 2432) : Fin 7296 := ⟨t.val % 3 * 2432 + q.val, by omega⟩

theorem read0 (c : Dev nD) (t : Fin cfg0.N) (r : Fin 512) (k : Fin 2048) :
    iblk (F := Ideal) m c 0 t (ix2 r k)
      = (m ((c : Thread nD τ).loc main_arg0) : FVec Ideal S17408x2048 .f32) (ix2 (rowOf t r) k) := by
  blk_ext [iblk, V, idx t, rowOf]

/-- The gain as one row, as the kernel's host part hands it over. -/
def gainRow (g : FVec Ideal S2048 .f32) : FVec Ideal S1x2048 .f32 := broadcastInDim S1x2048 ![1] bcast_S2048_S1x2048_1 g

theorem read1 (c : Dev nD) (t : Fin cfg0.N) (k : Fin 2048) :
    iblk (F := Ideal) m c 1 t (ix2 0 k)
      = (m ((c : Thread nD τ).loc main_arg1) : FVec Ideal S2048 .f32) (ix1 k) := by
  have e : V m c main_v0 = gainRow (m ((c : Thread nD τ).loc main_arg1)) := by
    entry_read
    rfl
  refine Eq.trans ?_ ((congrFun e (ix2 0 k)).trans ?_)
  · blk_ext [iblk, idx t]
  · pointwise [gainRow]

/-- The weights at the kernel's narrower format. -/
def narrow (w : FVec Ideal S2048x7296 .f32) : FVec Ideal S2048x7296 .bf16 := truncf .bf16 w bitsLt_bf16_f32

theorem read2 (c : Dev nD) (t : Fin cfg0.N) (k : Fin 2048) (q : Fin 2432) :
    iblk (F := Ideal) m c 2 t (ix2 k q)
      = (m ((c : Thread nD τ).loc main_arg2) : FVec Ideal S2048x7296 .f32) (ix2 k (colOf t q)) := by
  have e : V m c main_v1 = narrow (m ((c : Thread nD τ).loc main_arg2)) := by
    entry_read
    rfl
  refine Eq.trans ?_ (congrFun e _)
  blk_ext [iblk, idx t, colOf]

/-- Where a block's index sits in the result. -/
theorem place (t : Fin cfg0.N) (r : Fin 512) (q : Fin 2432) :
    ((cfg0.win 3).blk t).view.emb (ix2 r q) = ix2 (rowOf t r) (colOf t q) := by
  blk_ext [idx t, rowOf, colOf]

/-- What the first point of a block of rows stores in scratch: the reference's normalized rows. -/
theorem norm_point (c : Dev nD) (t : Fin cfg0.N) (r : Fin 512) (k : Fin 2048) :
    k0_pay1 (iblk m c 0 t) (iblk m c 1 t) (ix2 r k)
      = NORM (m ((c : Thread nD τ).loc main_arg0)) (m ((c : Thread nD τ).loc main_arg1)) (ix2 (rowOf t r) k) := by
  pointwise [k0_pay1, NORM]
  simp only [read0, read1]

/-- After every point the scratch holds the normalized rows of the point's block. -/
theorem held (c : Dev nD) : ∀ (n : ℕ) (hn : n < cfg0.N) (r : Fin 512) (k : Fin 2048), (outsAt0 m c n hn).2 (ix2 r k)
    = NORM (m ((c : Thread nD τ).loc main_arg0)) (m ((c : Thread nD τ).loc main_arg1)) (ix2 (rowOf ⟨n, hn⟩ r) k) := by
  intro n
  induction n with
  | zero =>
    intro hn r k
    rw [outsAt0_A m c ⟨0, hn⟩ rfl]
    frame_out
    exact norm_point m c ⟨0, hn⟩ r k
  | succ n ih =>
    intro hn r k
    by_cases h0 : (n + 1) % 3 = 0
    · rw [outsAt0_A m c ⟨n + 1, hn⟩ h0]
      frame_out
      exact norm_point m c ⟨n + 1, hn⟩ r k
    · rw [outsAt0_B m c ⟨n + 1, hn⟩ h0]
      have e : rowOf ⟨n + 1, hn⟩ r = rowOf ⟨n, Nat.lt_of_succ_lt hn⟩ r := by
        apply Fin.ext
        show (n + 1) / 3 * 512 + r.val = n / 3 * 512 + r.val
        omega
      rw [e]
      exact ih (Nat.lt_of_succ_lt hn) r k

/-- What the body stores at a block index is the reference's result at the array index where it sits. -/
theorem point (c : Dev nD) (t : Fin cfg0.N) (s : FVec Ideal S512x2048 .bf16)
    (hs : ∀ r k, s (ix2 r k) = NORM (m ((c : Thread nD τ).loc main_arg0)) (m ((c : Thread nD τ).loc main_arg1)) (ix2 (rowOf t r) k))
    (y : S512x2432.Idx) :
    k0_pay2 s (iblk m c 2 t) y
      = REF (m ((c : Thread nD τ).loc main_arg0)) (m ((c : Thread nD τ).loc main_arg1)) (m ((c : Thread nD τ).loc main_arg2))
          (((cfg0.win 3).blk t).view.emb y) := by
  idx_vars y
  rw [place]
  pointwise [k0_pay2, REF]
  simp only [hs, read2]

/-- The result array after the run. -/
theorem final (c : Dev nD) : (dats m 0 c).arrAt 3 cfg0.N
    = REF (m ((c : Thread nD τ).loc main_arg0)) (m ((c : Thread nD τ).loc main_arg1)) (m ((c : Thread nD τ).loc main_arg2)) := by
  refine (dats m 0 c).arrAt_eq_of_covers 3 _ (by decide +kernel) fun t _ y => ?_
  blk_simp
  rw [after0_3]
  by_cases h0 : t.val % 3 = 0
  · rw [outsAt0_A m c t h0]
    frame_out
    exact point m c t _ (fun r k => norm_point m c t r k) y
  · have hs := held m c (t.val - 1) (Nat.lt_of_le_of_lt (Nat.sub_le _ _) t.isLt)
    rw [outsAt0_B m c t h0]
    frame_out
    rw [read_unread_whole]
    refine point m c t _ (fun r k => (hs r k).trans ?_) y
    have e : rowOf ⟨t.val - 1, Nat.lt_of_le_of_lt (Nat.sub_le _ _) t.isLt⟩ r = rowOf t r := by
      apply Fin.ext
      show (t.val - 1) / 3 * 512 + r.val = t.val / 3 * 512 + r.val
      omega
    rw [e]

end Cert.InProjIdeal.Final

end
-- ==== Proof.InProjClaim.lean ====
/-
  The claims about the input projection, from its value and from the runs.
-/
module

public import proofs.«01_k».proof.Defs
public import proofs.«01_k».proof.Proof.Gen.InProj
public import proofs.«01_k».proof.Proof.Gen.InProj.Frame
public import proofs.«01_k».proof.Proof.InProjValue

@[expose] public section

set_option maxRecDepth 16384

open Idealize.ShloMosaic Idealize.ShloMosaic.TcCoe Idealize.SL.Sem

namespace Cert.InProjIdeal.Final

theorem kernel_ends : Cert.quiescent_InProj (hInProj := Cert.InProj.Gen.facts) := fun m ρ _ => Cert.InProj.Gen.frame m ρ

theorem ideal_ends : Cert.quiescent_InProjIdeal (hInProjIdeal := Cert.InProjIdeal.Gen.facts) := fun m ρ _ => Cert.InProjIdeal.Gen.frame m ρ

theorem reference_ends : Cert.quiescent_InProjRefIdeal (hInProjRefIdeal := Cert.InProjRefIdeal.Gen.facts) := fun m ρ _ =>
  (θ_run _ _ _).mono (fun r h => ⟨fun c => (h c).2, sem_eq_zero_of_no_sems (by decide) r.2⟩) (Cert.InProjRefIdeal.Value.run (F := Ideal) m ρ)

theorem same_value :
    Cert.algebraic_InProjIdeal_InProjRefIdeal (hInProjIdeal := Cert.InProjIdeal.Gen.facts) (hInProjRefIdeal := Cert.InProjRefIdeal.Gen.facts) := by
  intro m ρ m' ρ' _ hag
  refine ⟨_, (θ_run _ _ _).mono (fun _ hr c => ⟨((hr c).1).trans (final m c), (hr c).2⟩) (Cert.InProjIdeal.Value.run_blocks m ρ), ?_⟩
  refine (θ_run _ _ _).mono (fun _ hr c => ?_) (Cert.InProjRefIdeal.Value.run (F := Ideal) m' ρ')
  obtain ⟨e0, e1, e2⟩ := hag c
  refine ⟨((hr c).1).trans ?_, (hr c).2⟩
  rw [e0, e1, e2]
  rfl

end Cert.InProjIdeal.Final
-- ==== Proof.QkPostFrame.lean ====
/-
  The frame of the head preparation: what each output's block holds after a grid point, the body's obligation at a
  grid point, and the whole run: the output arrays as folds over the grid, the arguments unchanged.
-/
module

public import proofs.«01_k».proof.Proof.QkPostRun
public import Idealize.ShloMosaic.Lib.Claim

@[expose] public section

-- the blocks are large: checking that an index lies in a rectangle recurses deeply
set_option maxRecDepth 16384

noncomputable section

namespace Cert.QkPost.Own

open Cert.QkPost Cert.QkPost.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 14 tile its block (8 stores of `S512x128`), so they cover it. -/
theorem cover0_A_14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1 S512x128.size (by sl_kernel_rfl) y

/-- What the run leaves in output 14's staging buffer: its pieces read back over junk. -/
def out0_A_14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1)

/-- The run's pieces for output 15 tile its block (2 stores of `S512x128`), so they cover it. -/
theorem cover0_A_15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1 S512x128.size (by sl_kernel_rfl) y

/-- What the run leaves in output 15's staging buffer: its pieces read back over junk. -/
def out0_A_15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1)

/-- The run's pieces for output 16 tile its block (2 stores of `S512x128`), so they cover it. -/
theorem cover0_A_16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1 S512x128.size (by sl_kernel_rfl) y

/-- What the run leaves in output 16's staging buffer: its pieces read back over junk. -/
def out0_A_16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1)

/-- The run's pieces for output 17 tile its block (1 store of `S512x256`), so they cover it. -/
theorem cover0_A_17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1 S512x256.size (by sl_kernel_rfl) y

/-- What the run leaves in output 17's staging buffer: its pieces read back over junk. -/
def out0_A_17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1)

/-- The run's pieces for output 18 tile its block (1 store of `S512x256`), so they cover it. -/
theorem cover0_A_18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1 S512x256.size (by sl_kernel_rfl) y

/-- What the run leaves in output 18's staging buffer: its pieces read back over junk. -/
def out0_A_18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1)

/-- The run's pieces for output 19 tile its block (8 stores of `S512x128`), so they cover it. -/
theorem cover0_A_19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1 S512x128.size (by sl_kernel_rfl) y

/-- What the run leaves in output 19's staging buffer: its pieces read back over junk. -/
def out0_A_19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x1024 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1)

/-- The run's pieces for output 20 tile its block (1 store of `S512x64`), so they cover it. -/
theorem cover0_A_20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1 S512x64.size (by sl_kernel_rfl) y

/-- What the run leaves in output 20's staging buffer: its pieces read back over junk. -/
def out0_A_20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1)

/-- The run's pieces for output 21 tile its block (1 store of `S512x128`), so they cover it. -/
theorem cover0_A_21 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1 S512x128.size (by sl_kernel_rfl) y

/-- What the run leaves in output 21's staging buffer: its pieces read back over junk. -/
def out0_A_21 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x128 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1)

/-- The run's pieces for output 22 tile its block (1 store of `S512x128`), so they cover it. -/
theorem cover0_A_22 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1 S512x128.size (by sl_kernel_rfl) y

/-- What the run leaves in output 22's staging buffer: its pieces read back over junk. -/
def out0_A_22 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x1024 .bf16 × Vec F S512x256 .f32 × Vec F S512x256 .bf16 × Vec F S512x256 .f32 × Vec F S512x256 .bf16 × Vec F S512x1024 .bf16 × Vec F S512x64 .f32 × Vec F S512x128 .bf16 × Vec F S512x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- The proof data of the one pipeline on core `c`: the arrays as the region finds them (`V`); after the body at
    point `t` each input's buffer at its block and the outputs' at `outsAt0`; the invariant the pipeline's own, the scoped rest and the generator
    register; nothing owed; each input's share of its array, the full share dealt among the windows that stage it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2
    | ⟨_ + 23, h⟩ => absurd h (Nat.not_lt.2 (Nat.le_add_left _ _))
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2 := by dsimp only [dats]

/-- Each input's current staging buffer holds its block at every point, fetched there or not. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks; so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array at what the proof data computes, and every semaphore counter at zero in every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- For any values, from any memory with zero counters: every execution of the program ends with every array of the
    pipeline at what the proof data computes and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim: the run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

end Cert.QkPost.Own

end
-- ==== Proof.QkPostIdealRun.lean ====
/-
  The body of the head preparation run once, from the blocks staged for a grid point: which pieces its stores
  leave in each output's staging buffer, with the proof that it runs to them.
-/
module

public import proofs.«01_k».proof.Proof.Gen.QkPostIdeal.Frame.Runs

@[expose] public section

-- the blocks are large: checking that an index lies in a rectangle recurses deeply
set_option maxRecDepth 16384

noncomputable section

namespace Cert.QkPostIdeal.Own

open Cert.QkPostIdeal Cert.QkPostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the run is long
set_option maxHeartbeats 40000000 in
/-- What the body's stores leave in each output's staging buffer, as pieces (last first), with the proof that on whole
    staging buffers, the inputs' at their contents and the outputs' at anything, the body runs to the inputs' as they were
    and each output's with its pieces written. -/
noncomputable def kernelRun0_A (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) :
    Σ' (L14 : List (View.Piece (Elt F) S512x1024 .bf16)), Σ' (L15 : List (View.Piece (Elt F) S512x256 .f32)), Σ' (L16 : List (View.Piece (Elt F) S512x256 .bf16)), Σ' (L17 : List (View.Piece (Elt F) S512x256 .f32)), Σ' (L18 : List (View.Piece (Elt F) S512x256 .bf16)), Σ' (L19 : List (View.Piece (Elt F) S512x1024 .bf16)), Σ' (L20 : List (View.Piece (Elt F) S512x64 .f32)), Σ' (L21 : List (View.Piece (Elt F) S512x128 .bf16)), { L22 : List (View.Piece (Elt F) S512x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare x9 ∗ owns (c : Thread nD τ) arg11 fullShare x10 ∗ owns (c : Thread nD τ) arg12 fullShare x11 ∗ owns (c : Thread nD τ) arg13 fullShare x12 ∗ owns (c : Thread nD τ) arg14 fullShare x13 ∗ (∃ f, arg15.view.loc (c : Thread nD τ) ↦[arg15.view.set]{fullShare} arg15.view.writes (Elt F) f L14) ∗ (∃ f, arg16.view.loc (c : Thread nD τ) ↦[arg16.view.set]{fullShare} arg16.view.writes (Elt F) f L15) ∗ (∃ f, arg17.view.loc (c : Thread nD τ) ↦[arg17.view.set]{fullShare} arg17.view.writes (Elt F) f L16) ∗ (∃ f, arg18.view.loc (c : Thread nD τ) ↦[arg18.view.set]{fullShare} arg18.view.writes (Elt F) f L17) ∗ (∃ f, arg19.view.loc (c : Thread nD τ) ↦[arg19.view.set]{fullShare} arg19.view.writes (Elt F) f L18) ∗ (∃ f, arg20.view.loc (c : Thread nD τ) ↦[arg20.view.set]{fullShare} arg20.view.writes (Elt F) f L19) ∗ (∃ f, arg21.view.loc (c : Thread nD τ) ↦[arg21.view.set]{fullShare} arg21.view.writes (Elt F) f L20) ∗ (∃ f, arg22.view.loc (c : Thread nD τ) ↦[arg22.view.set]{fullShare} arg22.view.writes (Elt F) f L21) ∗ (∃ f, arg23.view.loc (c : Thread nD τ) ↦[arg23.view.set]{fullShare} arg23.view.writes (Elt F) f L22)) -∗ K ⟨⟩))
          ⊢ wp frame (wpE (defs₀ (F := F)) Variants.none c none) E (cc0_qk_post i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23) K } := by
  refine ⟨?_, ?_, ?_, ?_, ?_, ?_, ?_, ?_, ?_, fun E K => ?run⟩
  case run =>
    simp only [cc0_qk_post_eq_skeleton]; unfold cc0_qk_post_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, ⟨%d21, %f21, -, H21⟩, ⟨%d22, %f22, -, H22⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg11.eq_unread hf10; obtain rfl := harg12.eq_unread hf11; obtain rfl := harg13.eq_unread hf12; obtain rfl := harg14.eq_unread hf13
    sl_exec
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _; isplitr; · ipureintro; exact harg10.read_unread _
      iexact H9
    isplitl [H10]
    · iexists _; isplitr; · ipureintro; exact harg11.read_unread _
      iexact H10
    isplitl [H11]
    · iexists _; isplitr; · ipureintro; exact harg12.read_unread _
      iexact H11
    isplitl [H12]
    · iexists _; isplitr; · ipureintro; exact harg13.read_unread _
      iexact H12
    isplitl [H13]
    · iexists _; isplitr; · ipureintro; exact harg14.read_unread _
      iexact H13
    isplitl [H14]; · iexists _; iexact H14
    isplitl [H15]; · iexists _; iexact H15
    isplitl [H16]; · iexists _; iexact H16
    isplitl [H17]; · iexists _; iexact H17
    isplitl [H18]; · iexists _; iexact H18
    isplitl [H19]; · iexists _; iexact H19
    isplitl [H20]; · iexists _; iexact H20
    isplitl [H21]; · iexists _; iexact H21
    iexists _; iexact H22

end Cert.QkPostIdeal.Own

end
-- ==== Proof.QkPostIdealFrame.lean ====
/-
  The frame of the head preparation: what each output's block holds after a grid point, the body's obligation at a
  grid point, and the whole run: the output arrays as folds over the grid, the arguments unchanged.
-/
module

public import proofs.«01_k».proof.Proof.QkPostIdealRun
public import Idealize.ShloMosaic.Lib.Claim
public import Idealize.ShloMosaic.Lib.Pipeline.Value

@[expose] public section

-- the blocks are large: checking that an index lies in a rectangle recurses deeply
set_option maxRecDepth 16384

noncomputable section

namespace Cert.QkPostIdeal.Own

open Cert.QkPostIdeal Cert.QkPostIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- The run's pieces for output 14 tile its block (8 stores of `S512x128`), so they cover it. -/
theorem cover0_A_14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1 S512x128.size (by sl_kernel_rfl) y

/-- What the run leaves in output 14's staging buffer: its pieces read back over junk. -/
def out0_A_14 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x1024 .bf16 :=
  VO0_14.read (Elt F) (VO0_14.writes (Elt F) VO0_14.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).1)

/-- The run's pieces for output 15 tile its block (2 stores of `S512x128`), so they cover it. -/
theorem cover0_A_15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1 S512x128.size (by sl_kernel_rfl) y

/-- What the run leaves in output 15's staging buffer: its pieces read back over junk. -/
def out0_A_15 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .f32 :=
  VO0_15.read (Elt F) (VO0_15.writes (Elt F) VO0_15.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.1)

/-- The run's pieces for output 16 tile its block (2 stores of `S512x128`), so they cover it. -/
theorem cover0_A_16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1 S512x128.size (by sl_kernel_rfl) y

/-- What the run leaves in output 16's staging buffer: its pieces read back over junk. -/
def out0_A_16 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .bf16 :=
  VO0_16.read (Elt F) (VO0_16.writes (Elt F) VO0_16.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.1)

/-- The run's pieces for output 17 tile its block (1 store of `S512x256`), so they cover it. -/
theorem cover0_A_17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1 S512x256.size (by sl_kernel_rfl) y

/-- What the run leaves in output 17's staging buffer: its pieces read back over junk. -/
def out0_A_17 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .f32 :=
  VO0_17.read (Elt F) (VO0_17.writes (Elt F) VO0_17.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.1)

/-- The run's pieces for output 18 tile its block (1 store of `S512x256`), so they cover it. -/
theorem cover0_A_18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x256.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1 S512x256.size (by sl_kernel_rfl) y

/-- What the run leaves in output 18's staging buffer: its pieces read back over junk. -/
def out0_A_18 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x256 .bf16 :=
  VO0_18.read (Elt F) (VO0_18.writes (Elt F) VO0_18.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.1)

/-- The run's pieces for output 19 tile its block (8 stores of `S512x128`), so they cover it. -/
theorem cover0_A_19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x1024.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1 S512x128.size (by sl_kernel_rfl) y

/-- What the run leaves in output 19's staging buffer: its pieces read back over junk. -/
def out0_A_19 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x1024 .bf16 :=
  VO0_19.read (Elt F) (VO0_19.writes (Elt F) VO0_19.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.1)

/-- The run's pieces for output 20 tile its block (1 store of `S512x64`), so they cover it. -/
theorem cover0_A_20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x64.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1 S512x64.size (by sl_kernel_rfl) y

/-- What the run leaves in output 20's staging buffer: its pieces read back over junk. -/
def out0_A_20 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x64 .f32 :=
  VO0_20.read (Elt F) (VO0_20.writes (Elt F) VO0_20.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.1)

/-- The run's pieces for output 21 tile its block (1 store of `S512x128`), so they cover it. -/
theorem cover0_A_21 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1 S512x128.size (by sl_kernel_rfl) y

/-- What the run leaves in output 21's staging buffer: its pieces read back over junk. -/
def out0_A_21 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x128 .bf16 :=
  VO0_21.read (Elt F) (VO0_21.writes (Elt F) VO0_21.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.1)

/-- The run's pieces for output 22 tile its block (1 store of `S512x128`), so they cover it. -/
theorem cover0_A_22 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) (y : S512x128.Idx) :
    ∃ pc ∈ (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1, y ∈ pc.1.set :=
  View.cover_of_tiledL (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1 S512x128.size (by sl_kernel_rfl) y

/-- What the run leaves in output 22's staging buffer: its pieces read back over junk. -/
def out0_A_22 (c : Dev nD) (i : grid0.Coords) (arg1 : Memref sig .tc .vmem S512x1024 .f32) (harg1 : arg1.IsWhole) (arg2 : Memref sig .tc .vmem S512x256 .f32) (harg2 : arg2.IsWhole) (arg3 : Memref sig .tc .vmem S512x256 .f32) (harg3 : arg3.IsWhole) (arg4 : Memref sig .tc .vmem S512x512 .f32) (harg4 : arg4.IsWhole) (arg5 : Memref sig .tc .vmem S512x128 .f32) (harg5 : arg5.IsWhole) (arg6 : Memref sig .tc .vmem S512x128 .f32) (harg6 : arg6.IsWhole) (arg7 : Memref sig .tc .vmem S512x128 .f32) (harg7 : arg7.IsWhole) (arg8 : Memref sig .tc .vmem S512x128 .f32) (harg8 : arg8.IsWhole) (arg9 : Memref sig .tc .vmem S512x128 .f32) (harg9 : arg9.IsWhole) (arg10 : Memref sig .tc .vmem S512x128 .f32) (harg10 : arg10.IsWhole) (arg11 : Memref sig .tc .vmem S512x128 .f32) (harg11 : arg11.IsWhole) (arg12 : Memref sig .tc .vmem S1x128 .f32) (harg12 : arg12.IsWhole) (arg13 : Memref sig .tc .vmem S1x128 .f32) (harg13 : arg13.IsWhole) (arg14 : Memref sig .tc .vmem S1x128 .f32) (harg14 : arg14.IsWhole) (arg15 : Memref sig .tc .vmem S512x1024 .bf16) (harg15 : arg15.IsWhole) (arg16 : Memref sig .tc .vmem S512x256 .f32) (harg16 : arg16.IsWhole) (arg17 : Memref sig .tc .vmem S512x256 .bf16) (harg17 : arg17.IsWhole) (arg18 : Memref sig .tc .vmem S512x256 .f32) (harg18 : arg18.IsWhole) (arg19 : Memref sig .tc .vmem S512x256 .bf16) (harg19 : arg19.IsWhole) (arg20 : Memref sig .tc .vmem S512x1024 .bf16) (harg20 : arg20.IsWhole) (arg21 : Memref sig .tc .vmem S512x64 .f32) (harg21 : arg21.IsWhole) (arg22 : Memref sig .tc .vmem S512x128 .bf16) (harg22 : arg22.IsWhole) (arg23 : Memref sig .tc .vmem S512x128 .f32) (harg23 : arg23.IsWhole)
    (x0 : Vec F S512x1024 .f32) (x1 : Vec F S512x256 .f32) (x2 : Vec F S512x256 .f32) (x3 : Vec F S512x512 .f32) (x4 : Vec F S512x128 .f32) (x5 : Vec F S512x128 .f32) (x6 : Vec F S512x128 .f32) (x7 : Vec F S512x128 .f32) (x8 : Vec F S512x128 .f32) (x9 : Vec F S512x128 .f32) (x10 : Vec F S512x128 .f32) (x11 : Vec F S1x128 .f32) (x12 : Vec F S1x128 .f32) (x13 : Vec F S1x128 .f32) : Vec F S512x128 .f32 :=
  VO0_22.read (Elt F) (VO0_22.writes (Elt F) VO0_22.junk (kernelRun0_A c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 x0 x1 x2 x3 x4 x5 x6 x7 x8 x9 x10 x11 x12 x13).2.2.2.2.2.2.2.2.1)

/-! ## What the outputs hold after each point -/

/-- What the outputs' staging buffers hold after the body at point `t` (as a tuple, in window order): the run's contents at
    the point's memrefs and input blocks. -/
def outsAt0 (c : Dev nD) (t : Fin cfg0.N) : Vec F S512x1024 .bf16 × Vec F S512x256 .f32 × Vec F S512x256 .bf16 × Vec F S512x256 .f32 × Vec F S512x256 .bf16 × Vec F S512x1024 .bf16 × Vec F S512x64 .f32 × Vec F S512x128 .bf16 × Vec F S512x128 .f32 :=
  (out0_A_14 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_16 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_17 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_18 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_19 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_20 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_21 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t), out0_A_22 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) (ms0_21 t) (hs0_21 t) (ms0_22 t) (hs0_22 t) (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t))

/-! ## The pipeline's proof data -/

/-- The proof data of the one pipeline on core `c`: the arrays as the region finds them (`V`); after the body at
    point `t` each input's buffer at its block and the outputs' at `outsAt0`; the invariant the pipeline's own, the scoped rest and the generator
    register; nothing owed; each input's share of its array, the full share dealt among the windows that stage it. -/
def dats (_ : Fin 1) (c : Dev nD) : Dat τ (Elt F) Unit ℕ (UR sig nD τ) ℕ cfg0 c where
  A w := V m c (Pipeline.arrRef spec0 w)
  after w t := match w with
    | ⟨0, _⟩ => X0_0 m c t
    | ⟨1, _⟩ => X0_1 m c t
    | ⟨2, _⟩ => X0_2 m c t
    | ⟨3, _⟩ => X0_3 m c t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => (outsAt0 m c t).1
    | ⟨15, _⟩ => (outsAt0 m c t).2.1
    | ⟨16, _⟩ => (outsAt0 m c t).2.2.1
    | ⟨17, _⟩ => (outsAt0 m c t).2.2.2.1
    | ⟨18, _⟩ => (outsAt0 m c t).2.2.2.2.1
    | ⟨19, _⟩ => (outsAt0 m c t).2.2.2.2.2.1
    | ⟨20, _⟩ => (outsAt0 m c t).2.2.2.2.2.2.1
    | ⟨21, _⟩ => (outsAt0 m c t).2.2.2.2.2.2.2.1
    | ⟨22, _⟩ => (outsAt0 m c t).2.2.2.2.2.2.2.2
    | ⟨_ + 23, h⟩ => absurd h (Nat.not_lt.2 (Nat.le_add_left _ _))
  Φ _ := Pipeline.ΦA spec0 c
  q w := Pipeline.shareOf spec0 w
  owed _ := 0

/-- The proof data's arrays are the contents at the region's entry. -/
theorem A_eq (c : Dev nD) (w : Fin cfg0.W) : (dats m 0 c).A w = V m c (Pipeline.arrRef spec0 w) := by
  dsimp only [dats]

/-- What the body leaves, window by window. -/
theorem after0_0 (c : Dev nD) (t : Fin cfg0.N) : (dats m 0 c).after 0 t = X0_0 m c t := by dsimp only [dats]
theorem after0_1 (c : Dev nD) (t : Fin cfg0.N) : (dats m 0 c).after 1 t = X0_1 m c t := by dsimp only [dats]
theorem after0_2 (c : Dev nD) (t : Fin cfg0.N) : (dats m 0 c).after 2 t = X0_2 m c t := by dsimp only [dats]
theorem after0_3 (c : Dev nD) (t : Fin cfg0.N) : (dats m 0 c).after 3 t = X0_3 m c t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = (outsAt0 m c t).1 := by dsimp only [dats]
theorem after0_15 (c : Dev nD) (t : Fin cfg0.N) : (dats m 0 c).after 15 t = (outsAt0 m c t).2.1 := by dsimp only [dats]
theorem after0_16 (c : Dev nD) (t : Fin cfg0.N) : (dats m 0 c).after 16 t = (outsAt0 m c t).2.2.1 := by dsimp only [dats]
theorem after0_17 (c : Dev nD) (t : Fin cfg0.N) : (dats m 0 c).after 17 t = (outsAt0 m c t).2.2.2.1 := by dsimp only [dats]
theorem after0_18 (c : Dev nD) (t : Fin cfg0.N) : (dats m 0 c).after 18 t = (outsAt0 m c t).2.2.2.2.1 := by dsimp only [dats]
theorem after0_19 (c : Dev nD) (t : Fin cfg0.N) : (dats m 0 c).after 19 t = (outsAt0 m c t).2.2.2.2.2.1 := by dsimp only [dats]
theorem after0_20 (c : Dev nD) (t : Fin cfg0.N) : (dats m 0 c).after 20 t = (outsAt0 m c t).2.2.2.2.2.2.1 := by dsimp only [dats]
theorem after0_21 (c : Dev nD) (t : Fin cfg0.N) : (dats m 0 c).after 21 t = (outsAt0 m c t).2.2.2.2.2.2.2.1 := by dsimp only [dats]
theorem after0_22 (c : Dev nD) (t : Fin cfg0.N) : (dats m 0 c).after 22 t = (outsAt0 m c t).2.2.2.2.2.2.2.2 := by dsimp only [dats]

/-- Each input's current staging buffer holds its block at every point, fetched there or not. -/
theorem before0_0 (c : Dev nD) (t : Fin cfg0.N) (d) : (dats m 0 c).before 0 t d = X0_0 m c t :=
  before0_0_of m (dats m 0 c) (A_eq m c 0) (after0_0 m c) t d
theorem before0_1 (c : Dev nD) (t : Fin cfg0.N) (d) : (dats m 0 c).before 1 t d = X0_1 m c t :=
  before0_1_of m (dats m 0 c) (A_eq m c 1) (after0_1 m c) t d
theorem before0_2 (c : Dev nD) (t : Fin cfg0.N) (d) : (dats m 0 c).before 2 t d = X0_2 m c t :=
  before0_2_of m (dats m 0 c) (A_eq m c 2) (after0_2 m c) t d
theorem before0_3 (c : Dev nD) (t : Fin cfg0.N) (d) : (dats m 0 c).before 3 t d = X0_3 m c t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d))
    ∗ (∃ d, owns (c : Thread nD τ) (ms0_21 t) fullShare ((dats m 0 c).before 21 t d))
    ∗ (∃ d, owns (c : Thread nD τ) (ms0_22 t) fullShare ((dats m 0 c).before 22 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t)
    ∗ owns (c : Thread nD τ) (ms0_21 t) fullShare ((dats m 0 c).after 21 t)
    ∗ owns (c : Thread nD τ) (ms0_22 t) fullShare ((dats m 0 c).after 22 t))

set_option maxHeartbeats 2000000 in
/-- The body at any point: the inputs' memrefs hold their blocks; so the
    run applies; the invariant passes through unread; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13]
  rw [show (dats m 0 c).Φ t.succ = (dats m 0 c).Φ t.castSucc from rfl,
    show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20, after0_21, after0_22]
  unfold outsAt0
  unfold out0_A_14 out0_A_15 out0_A_16 out0_A_17 out0_A_18 out0_A_19 out0_A_20 out0_A_21 out0_A_22; (try dsimp only)
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩, ⟨%d21, H21⟩, ⟨%d22, H22⟩⟩
  iapply ((kernelRun0_A c (grid0.coords t) _ _ _ _ _ _ _ _ _ _ _ _ _ _ _ _ _ _ _ _ _ _ _ _ _ _ _ _ _ _ _ _ _ _ _ _ _ _ _ _ _ _ _ _ _ _ (X0_0 m c t) (X0_1 m c t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t)).2.2.2.2.2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  isplitl [H21]; · iexists _; iexact H21
  isplitl [H22]; · iexists _; iexact H22
  iintro ⟨H0, H1, H2, H3, H4, H5, H6, H7, H8, H9, H10, H11, H12, H13, ⟨%e14, H14⟩, ⟨%e15, H15⟩, ⟨%e16, H16⟩, ⟨%e17, H17⟩, ⟨%e18, H18⟩, ⟨%e19, H19⟩, ⟨%e20, H20⟩, ⟨%e21, H21⟩, ⟨%e22, H22⟩⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]
  · unfold owns; iexists _; isplitr
    swap; · iexact H14
    ipureintro; exact View.read_writes_of_cover _ _ _ _ _ (cover0_A_14 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H15]
  · unfold owns; iexists _; isplitr
    swap; · iexact H15
    ipureintro; exact View.read_writes_of_cover _ _ _ _ _ (cover0_A_15 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H16]
  · unfold owns; iexists _; isplitr
    swap; · iexact H16
    ipureintro; exact View.read_writes_of_cover _ _ _ _ _ (cover0_A_16 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H17]
  · unfold owns; iexists _; isplitr
    swap; · iexact H17
    ipureintro; exact View.read_writes_of_cover _ _ _ _ _ (cover0_A_17 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H18]
  · unfold owns; iexists _; isplitr
    swap; · iexact H18
    ipureintro; exact View.read_writes_of_cover _ _ _ _ _ (cover0_A_18 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H19]
  · unfold owns; iexists _; isplitr
    swap; · iexact H19
    ipureintro; exact View.read_writes_of_cover _ _ _ _ _ (cover0_A_19 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H20]
  · unfold owns; iexists _; isplitr
    swap; · iexact H20
    ipureintro; exact View.read_writes_of_cover _ _ _ _ _ (cover0_A_20 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  isplitl [H21]
  · unfold owns; iexists _; isplitr
    swap; · iexact H21
    ipureintro; exact View.read_writes_of_cover _ _ _ _ _ (cover0_A_21 c _ _ _ _ _ _ _ _ _ _ _ _ _ _ _ _ _ _ _ _ _ _ _ _ _ _ _ _ _ _ _ _ _ _ _ _ _ _ _ _ _ _ _ _ _ _ _ _ _ _ _ _ _ _ _ _ _ _ _ _ _)
  unfold owns; iexists _; isplitr
  swap; · iexact H22
  ipureintro; exact View.read_writes_of_cover _ _ _ _ _ (cover0_A_22 c _ _ _ _ _ _ _ _ _ _ _ _ _ _ _ _ _ _ _ _ _ _ _ _ _ _ _ _ _ _ _ _ _ _ _ _ _ _ _ _ _ _ _ _ _ _ _ _ _ _ _ _ _ _ _ _ _ _ _ _ _)

set_option maxHeartbeats 4000000 in
/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

set_option maxHeartbeats 8000000 in
/-- The body's obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

set_option backward.isDefEq.respectTransparency.types false in
/-- The run: every array at what the proof data computes, and every semaphore counter at zero in every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_shared (Q' := _) cfgs (dats m) (0 : Fin 1) launch₀0 defs₀ Variants.none m ρ main
    (hbody := fun c => (body_obligation m c).loose) (hq := fun _ _ _ => rfl)
    (howed := fun _ _ => rfl) (V := V m) (hmain := hmain m Variants.none) (hA := A_eq m) (hΦ := fun _ _ => rfl)

/-- For any values, from any memory with zero counters: every execution of the program ends with every array of the
    pipeline at what the proof data computes and every other buffer as the region found it. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  frame_of m ρ (dats m) (A_eq m) (run_main m ρ)

/-- The frame claim: the run ends with the arguments unchanged and every semaphore at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  θ_run_and (unchanged m ρ) ((θ_run defs _ _).mono (fun _ h => h.2) (run_main_quiescent m ρ))

/-- After the frame run, output window 14's array is `(dats m 0 c).arrAt 14 N`. -/
theorem post14 (r : PUnit × MemSt nD τ sig (Elt F)) (h : Pipeline.FramePost cfgs (dats m) 0 (V m) r) (c : Dev nD) :
    r.2.mem ((c : Thread nD τ).loc main_v71_0) = (dats m 0 c).arrAt 14 cfg0.N :=
  (h c).1 14

/-- After the frame run, output window 15's array is `(dats m 0 c).arrAt 15 N`. -/
theorem post15 (r : PUnit × MemSt nD τ sig (Elt F)) (h : Pipeline.FramePost cfgs (dats m) 0 (V m) r) (c : Dev nD) :
    r.2.mem ((c : Thread nD τ).loc main_v71_1) = (dats m 0 c).arrAt 15 cfg0.N :=
  (h c).1 15

/-- After the frame run, output window 16's array is `(dats m 0 c).arrAt 16 N`. -/
theorem post16 (r : PUnit × MemSt nD τ sig (Elt F)) (h : Pipeline.FramePost cfgs (dats m) 0 (V m) r) (c : Dev nD) :
    r.2.mem ((c : Thread nD τ).loc main_v71_2) = (dats m 0 c).arrAt 16 cfg0.N :=
  (h c).1 16

/-- After the frame run, output window 17's array is `(dats m 0 c).arrAt 17 N`. -/
theorem post17 (r : PUnit × MemSt nD τ sig (Elt F)) (h : Pipeline.FramePost cfgs (dats m) 0 (V m) r) (c : Dev nD) :
    r.2.mem ((c : Thread nD τ).loc main_v71_3) = (dats m 0 c).arrAt 17 cfg0.N :=
  (h c).1 17

/-- After the frame run, output window 18's array is `(dats m 0 c).arrAt 18 N`. -/
theorem post18 (r : PUnit × MemSt nD τ sig (Elt F)) (h : Pipeline.FramePost cfgs (dats m) 0 (V m) r) (c : Dev nD) :
    r.2.mem ((c : Thread nD τ).loc main_v71_4) = (dats m 0 c).arrAt 18 cfg0.N :=
  (h c).1 18

/-- After the frame run, output window 19's array is `(dats m 0 c).arrAt 19 N`. -/
theorem post19 (r : PUnit × MemSt nD τ sig (Elt F)) (h : Pipeline.FramePost cfgs (dats m) 0 (V m) r) (c : Dev nD) :
    r.2.mem ((c : Thread nD τ).loc main_v71_5) = (dats m 0 c).arrAt 19 cfg0.N :=
  (h c).1 19

/-- After the frame run, output window 20's array is `(dats m 0 c).arrAt 20 N`. -/
theorem post20 (r : PUnit × MemSt nD τ sig (Elt F)) (h : Pipeline.FramePost cfgs (dats m) 0 (V m) r) (c : Dev nD) :
    r.2.mem ((c : Thread nD τ).loc main_v71_6) = (dats m 0 c).arrAt 20 cfg0.N :=
  (h c).1 20

/-- After the frame run, output window 21's array is `(dats m 0 c).arrAt 21 N`. -/
theorem post21 (r : PUnit × MemSt nD τ sig (Elt F)) (h : Pipeline.FramePost cfgs (dats m) 0 (V m) r) (c : Dev nD) :
    r.2.mem ((c : Thread nD τ).loc main_v71_7) = (dats m 0 c).arrAt 21 cfg0.N :=
  (h c).1 21

/-- After the frame run, output window 22's array is `(dats m 0 c).arrAt 22 N`. -/
theorem post22 (r : PUnit × MemSt nD τ sig (Elt F)) (h : Pipeline.FramePost cfgs (dats m) 0 (V m) r) (c : Dev nD) :
    r.2.mem ((c : Thread nD τ).loc main_v71_8) = (dats m 0 c).arrAt 22 cfg0.N :=
  (h c).1 22

/-- After the frame run, argument `main_arg0` is as launched: input window 4 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 4).trans (((dats m 0 c).arrAt_in 4 rfl _).trans ((A_eq m c 4).trans (V_main_arg0 m c)))

/-- After the frame run, argument `main_arg1` is as launched: no window stages it, and the run leaves the region's other buffers as they were. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).2 main_arg1 (Pipeline.mem_restRefs_of main_arg1 (by decide) (by decide))).trans (V_main_arg1 m c)

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- After the frame run, argument `main_arg4` is as launched: no window stages it, and the run leaves the region's other buffers as they were. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).2 main_arg4 (Pipeline.mem_restRefs_of main_arg4 (by decide) (by decide))).trans (V_main_arg4 m c)

set_option maxHeartbeats 276660 in
/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v71_0) = (dats m 0 c).arrAt 14 cfg0.N
      ∧ r.2.mem ((c : Thread nD τ).loc main_v71_1) = (dats m 0 c).arrAt 15 cfg0.N
      ∧ r.2.mem ((c : Thread nD τ).loc main_v71_2) = (dats m 0 c).arrAt 16 cfg0.N
      ∧ r.2.mem ((c : Thread nD τ).loc main_v71_3) = (dats m 0 c).arrAt 17 cfg0.N
      ∧ r.2.mem ((c : Thread nD τ).loc main_v71_4) = (dats m 0 c).arrAt 18 cfg0.N
      ∧ r.2.mem ((c : Thread nD τ).loc main_v71_5) = (dats m 0 c).arrAt 19 cfg0.N
      ∧ r.2.mem ((c : Thread nD τ).loc main_v71_6) = (dats m 0 c).arrAt 20 cfg0.N
      ∧ r.2.mem ((c : Thread nD τ).loc main_v71_7) = (dats m 0 c).arrAt 21 cfg0.N
      ∧ r.2.mem ((c : Thread nD τ).loc main_v71_8) = (dats m 0 c).arrAt 22 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨post14 m r h c,
      post15 m r h c,
      post16 m r h c,
      post17 m r h c,
      post18 m r h c,
      post19 m r h c,
      post20 m r h c,
      post21 m r h c,
      post22 m r h c,
      kept_main_arg0 m r h c,
      kept_main_arg1 m r h c,
      kept_main_arg2 m r h c,
      kept_main_arg3 m r h c,
      kept_main_arg4 m r h c⟩)
    (run_main m ρ)

end Cert.QkPostIdeal.Own

end
-- ==== Proof.QkPostTables.lean ====
/-
  The blocks the head preparation reads, element by element: the projection's columns, the rotary tables built before
  the call, and the gains.
-/
module

public import proofs.«01_k».proof.Proof.Gen.QkPostIdeal.Frame.Runs
public import Idealize.ShloMosaic.Lib.Pipeline.ValueKit
public import Idealize.ShloMosaic.Lib.Pointwise
public import Idealize.ShloMosaic.Lib.StableHlo.RunRead

@[expose] public section

set_option maxRecDepth 16384

noncomputable section

open Idealize.ShloMosaic Idealize.ShloMosaic.TcCoe Idealize.SL.Sem
open Idealize.ShloMosaic.Pipeline (Dat)

namespace Cert.QkPostIdeal.Final

open Cert.QkPostIdeal Cert.QkPostIdeal.Gen

variable (m : (ℓ : Loc nD τ sig) → Buf (Elt Ideal) ℓ)

/-- The blocks each window visits, at every grid point. -/
theorem idx : ∀ t : Fin cfg0.N, win0_0.index t = ![t.val, 1] ∧ win0_1.index t = ![t.val, 24]
    ∧ win0_2.index t = ![t.val, 25] ∧ win0_4.index t = ![t.val, 56]
    ∧ win0_5.index t = ![t.val, 0] ∧ win0_6.index t = ![t.val, 0] ∧ win0_7.index t = ![t.val, 0]
    ∧ win0_8.index t = ![t.val, 0] ∧ win0_9.index t = ![t.val, 0] ∧ win0_10.index t = ![t.val, 0]
    ∧ win0_11.index t = ![0, 0] ∧ win0_12.index t = ![0, 0] ∧ win0_13.index t = ![0, 0] :=
  (by decide +kernel : ∀ t : Fin grid0.N, _)

/-- The block the index queries' window visits. -/
theorem idxJ : ∀ t : Fin cfg0.N, win0_3.index t = ![t.val, 13] :=
  (by decide +kernel : ∀ t : Fin grid0.N, _)

/-- The blocks each output's window visits. -/
theorem idxOut : ∀ t : Fin cfg0.N, win0_14.index t = ![t.val, 0] ∧ win0_15.index t = ![t.val, 0]
    ∧ win0_16.index t = ![t.val, 0] ∧ win0_17.index t = ![t.val, 0] ∧ win0_18.index t = ![t.val, 0]
    ∧ win0_19.index t = ![t.val, 0] ∧ win0_20.index t = ![t.val, 0] ∧ win0_21.index t = ![t.val, 0]
    ∧ win0_22.index t = ![t.val, 0] :=
  (by decide +kernel : ∀ t : Fin grid0.N, _)

/-- The row of the arrays where row `r` of point `t`'s block sits. -/
def rowOf (t : Fin cfg0.N) (r : Fin 512) : Fin 17408 :=
  ⟨t.val * 512 + r.val, by have := lt_of_lt_of_eq t.isLt N_0; omega⟩

/-- The projection, the positions and the gains. -/
abbrev proj (c : Dev nD) : FVec Ideal S17408x7296 .f32 := m ((c : Thread nD τ).loc main_arg0)
abbrev posi (c : Dev nD) : IVec S17408 32 := m ((c : Thread nD τ).loc main_arg1)

theorem readQ (c : Dev nD) (t : Fin cfg0.N) (r : Fin 512) (q : Fin 1024) :
    X0_0 (F := Ideal) m c t (ix2 r q) = proj m c (ix2 (rowOf t r) ⟨1024 + q.val, by omega⟩) := by
  unfold X0_0 Pipeline.Window.fill
  rw [dif_pos (moved0_0 t _)]
  blk_ext [iblk, V, idx t, rowOf]

theorem readK (c : Dev nD) (t : Fin cfg0.N) (r : Fin 512) (q : Fin 256) :
    X0_1 (F := Ideal) m c t (ix2 r q) = proj m c (ix2 (rowOf t r) ⟨6144 + q.val, by omega⟩) := by
  unfold X0_1 Pipeline.Window.fill
  rw [dif_pos (moved0_1 t _)]
  blk_ext [iblk, V, idx t, rowOf]

theorem readV (c : Dev nD) (t : Fin cfg0.N) (r : Fin 512) (q : Fin 256) :
    X0_2 (F := Ideal) m c t (ix2 r q) = proj m c (ix2 (rowOf t r) ⟨6400 + q.val, by omega⟩) := by
  unfold X0_2 Pipeline.Window.fill
  rw [dif_pos (moved0_2 t _)]
  blk_ext [iblk, V, idx t, rowOf]

theorem readJ (c : Dev nD) (t : Fin cfg0.N) (r : Fin 512) (q : Fin 512) :
    X0_3 (F := Ideal) m c t (ix2 r q) = proj m c (ix2 (rowOf t r) ⟨6656 + q.val, by omega⟩) := by
  unfold X0_3 Pipeline.Window.fill
  rw [dif_pos (moved0_3 t _)]
  blk_ext [iblk, V, idxJ t, rowOf]

theorem readI (c : Dev nD) (t : Fin cfg0.N) (r : Fin 512) (q : Fin 128) :
    iblk (F := Ideal) m c 4 t (ix2 r q) = proj m c (ix2 (rowOf t r) ⟨7168 + q.val, by omega⟩) := by
  blk_ext [iblk, V, idx t, rowOf]

/-- The angles of the sixteen frequencies of a head of 128. -/
def ang16 (p : IVec S17408 32) : FVec Ideal S17408x16 .f32 :=
  mulf
    (broadcastInDim S17408x16 ![0, 1] bcast_S17408x1_S17408x16_0_1
      (broadcastInDim S17408x1 ![0] bcast_S17408_S17408x1_0 (sitofp .f32 p : FVec Ideal S17408 .f32)))
    (broadcastInDim S17408x16 ![0, 1] bcast_S1x16_S17408x16_0_1
      (broadcastInDim S1x16 ![1] bcast_S16_S1x16_1
        (Host.powf (broadcastInDim S16 ![] bcast_S_S16 (constant S_ .f32 0x48F42400#32))
          (Host.divf
            (mulf (Host.negf (sitofp .f32 (iotaInDim S16 32 0) : FVec Ideal S16 .f32))
              (broadcastInDim S16 ![] bcast_S_S16 (constant S_ .f32 0x40000000#32)))
            (broadcastInDim S16 ![] bcast_S_S16 (constant S_ .f32 0x42000000#32))))))

/-- The angles of the eight frequencies of a head of 64. -/
def ang8 (p : IVec S17408 32) : FVec Ideal S17408x8 .f32 :=
  mulf
    (broadcastInDim S17408x8 ![0, 1] bcast_S17408x1_S17408x8_0_1
      (broadcastInDim S17408x1 ![0] bcast_S17408_S17408x1_0 (sitofp .f32 p : FVec Ideal S17408 .f32)))
    (broadcastInDim S17408x8 ![0, 1] bcast_S1x8_S17408x8_0_1
      (broadcastInDim S1x8 ![1] bcast_S8_S1x8_1
        (Host.powf (broadcastInDim S8 ![] bcast_S_S8 (constant S_ .f32 0x48F42400#32))
          (Host.divf
            (mulf (Host.negf (sitofp .f32 (iotaInDim S8 32 0) : FVec Ideal S8 .f32))
              (broadcastInDim S8 ![] bcast_S_S8 (constant S_ .f32 0x40000000#32)))
            (broadcastInDim S8 ![] bcast_S_S8 (constant S_ .f32 0x41800000#32))))))

/-- A table of 128 lanes from its three parts. -/
abbrev table16 (a b : FVec Ideal S17408x16 .f32) (d : FVec Ideal S17408x96 .f32) : FVec Ideal S17408x128 .f32 :=
  shapeCast S17408x128
    (broadcastInDim S1x17408x1x128 ![0, 1, 2, 3] bcast_S1x17408x1x128_S1x17408x1x128_0_1_2_3
      (shapeCast S1x17408x1x128
        (concatenate S17408x128 1 [⟨S17408x16, a⟩, ⟨S17408x16, b⟩, ⟨S17408x96, d⟩]
          concatenates_S17408x16_S17408x16_S17408x96_S17408x128_d1 : FVec Ideal S17408x128 .f32)
        shapeCasts_S17408x128_S1x17408x1x128))
    shapeCasts_S1x17408x1x128_S17408x128

/-- A table of twice 64 lanes from its three parts. -/
abbrev table8 (a b : FVec Ideal S17408x8 .f32) (d : FVec Ideal S17408x48 .f32) : FVec Ideal S17408x128 .f32 :=
  shapeCast S17408x128
    (broadcastInDim S1x17408x2x64 ![0, 1, 2, 3] bcast_S1x17408x1x64_S1x17408x2x64_0_1_2_3
      (shapeCast S1x17408x1x64
        (concatenate S17408x64 1 [⟨S17408x8, a⟩, ⟨S17408x8, b⟩, ⟨S17408x48, d⟩]
          concatenates_S17408x8_S17408x8_S17408x48_S17408x64_d1 : FVec Ideal S17408x64 .f32)
        shapeCasts_S17408x64_S1x17408x1x64))
    shapeCasts_S1x17408x2x64_S17408x128

abbrev all16 (w : BitVec 32) : FVec Ideal S17408x16 .f32 := broadcastInDim S17408x16 ![] bcast_S_S17408x16 (constant S_ .f32 w)
abbrev all96 (w : BitVec 32) : FVec Ideal S17408x96 .f32 := broadcastInDim S17408x96 ![] bcast_S_S17408x96 (constant S_ .f32 w)
abbrev all8 (w : BitVec 32) : FVec Ideal S17408x8 .f32 := broadcastInDim S17408x8 ![] bcast_S_S17408x8 (constant S_ .f32 w)
abbrev all48 (w : BitVec 32) : FVec Ideal S17408x48 .f32 := broadcastInDim S17408x48 ![] bcast_S_S17408x48 (constant S_ .f32 w)

set_option maxHeartbeats 8000000 in
theorem V26 (c : Dev nD) : V m c main_v26
    = table16 (Host.cos (ang16 (posi m c))) (Host.cos (ang16 (posi m c))) (all96 0x3F800000#32) := by
  unfold V
  after_results_simp <;> (try dsimp only [Matrix.cons_val]) <;> (try after_results_simp) <;> rfl

set_option maxHeartbeats 8000000 in
theorem V29 (c : Dev nD) : V m c main_v29
    = table16 (Host.negf (Host.sin (ang16 (posi m c)))) (all16 0x00000000#32) (all96 0x00000000#32) := by
  unfold V
  after_results_simp <;> (try dsimp only [Matrix.cons_val]) <;> (try after_results_simp) <;> rfl

set_option maxHeartbeats 8000000 in
theorem V32 (c : Dev nD) : V m c main_v32
    = table16 (all16 0x00000000#32) (Host.sin (ang16 (posi m c))) (all96 0x00000000#32) := by
  unfold V
  after_results_simp <;> (try dsimp only [Matrix.cons_val]) <;> (try after_results_simp) <;> rfl

set_option maxHeartbeats 8000000 in
theorem V59 (c : Dev nD) : V m c main_v59
    = table8 (Host.cos (ang8 (posi m c))) (Host.cos (ang8 (posi m c))) (all48 0x3F800000#32) := by
  unfold V
  after_results_simp <;> (try dsimp only [Matrix.cons_val]) <;> (try after_results_simp) <;> rfl

set_option maxHeartbeats 8000000 in
theorem V62 (c : Dev nD) : V m c main_v62
    = table8 (Host.negf (Host.sin (ang8 (posi m c)))) (all8 0x00000000#32) (all48 0x00000000#32) := by
  unfold V
  after_results_simp <;> (try dsimp only [Matrix.cons_val]) <;> (try after_results_simp) <;> rfl

set_option maxHeartbeats 8000000 in
theorem V65 (c : Dev nD) : V m c main_v65
    = table8 (all8 0x00000000#32) (Host.sin (ang8 (posi m c))) (all48 0x00000000#32) := by
  unfold V
  after_results_simp <;> (try dsimp only [Matrix.cons_val]) <;> (try after_results_simp) <;> rfl

theorem table16_apply (a b : FVec Ideal S17408x16 .f32) (d : FVec Ideal S17408x96 .f32) (n : Fin 17408) (l : Fin 128) :
    table16 a b d (ix2 n l)
      = if h : l.val < 16 then a (ix2 n ⟨l.val, h⟩)
        else if h' : l.val - 16 < 16 then b (ix2 n ⟨l.val - 16, h'⟩) else d (ix2 n ⟨l.val - 16 - 16, by omega⟩) := by
  pointwise [table16]

theorem table8_apply (a b : FVec Ideal S17408x8 .f32) (d : FVec Ideal S17408x48 .f32) (n : Fin 17408) (l : Fin 128) :
    table8 a b d (ix2 n l)
      = if h : l.val % 64 < 8 then a (ix2 n ⟨l.val % 64, h⟩)
        else if h' : l.val % 64 - 8 < 8 then b (ix2 n ⟨l.val % 64 - 8, h'⟩) else d (ix2 n ⟨l.val % 64 - 8 - 8, by omega⟩) := by
  pointwise [table8]

end Cert.QkPostIdeal.Final
-- ==== Proof.QkPostScalar.lean ====
/-
  A head of the head preparation as a function on its lanes: the root-mean-square norm, the turn by an angle per lane,
  and the same turn written with three tables and two rotations of the lanes.
-/
module

public import Idealize.ShloMosaic.Lib.Pipeline.ValueKit
public import Idealize.ShloMosaic.Lib.Pointwise

@[expose] public section

noncomputable section

open Idealize.ShloMosaic

namespace Cert.QkPostIdeal.Final

/-- A head's lane over the root of the head's mean square (plus a small constant), times its gain. -/
def normed {n : Nat} (d : BitVec 32) (x g : Fin n → EReal) (l : Fin n) : EReal :=
  x l * Ideal.rsqrt (Ideal.div (∑ k, x k * x k) (Ideal.ofBits .f32 d) + Ideal.ofBits .f32 897988541#32) * g l

/-- A head of 128 lanes whose first 32 are turned, in pairs sixteen apart. -/
def turned16 (u : Fin 128 → EReal) (a : Fin 16 → EReal) (l : Fin 128) : EReal :=
  if h : l.val < 16 then u l * Ideal.cos (a ⟨l.val, h⟩) - u ⟨16 + l.val, by omega⟩ * Ideal.sin (a ⟨l.val, h⟩)
  else if h' : l.val - 16 < 16 then
    u ⟨16 + (l.val - 16), by omega⟩ * Ideal.cos (a ⟨l.val - 16, h'⟩)
      + u ⟨l.val - 16, by omega⟩ * Ideal.sin (a ⟨l.val - 16, h'⟩)
  else u ⟨32 + (l.val - 16 - 16), by omega⟩

/-- The same turn as a sum of three products: the lane, the lane sixteen on and the lane sixteen back. -/
theorem turned16_eq (u : Fin 128 → EReal) (a : Fin 16 → EReal) (l : Fin 128) :
    u l * (if h : l.val < 16 then Ideal.cos (a ⟨l.val, h⟩)
        else if h' : l.val - 16 < 16 then Ideal.cos (a ⟨l.val - 16, h'⟩) else 1)
      + u ⟨(l.val + 128 - 112) % 128, by omega⟩ * (if h : l.val < 16 then -Ideal.sin (a ⟨l.val, h⟩) else 0)
      + u ⟨(l.val + 128 - 16) % 128, by omega⟩
        * (if l.val < 16 then 0 else if h' : l.val - 16 < 16 then Ideal.sin (a ⟨l.val - 16, h'⟩) else 0)
      = turned16 u a l := by
  unfold turned16
  by_cases h : l.val < 16
  · have e : (⟨(l.val + 128 - 112) % 128, by omega⟩ : Fin 128) = ⟨16 + l.val, by omega⟩ := Fin.ext (by simp only []; omega)
    simp only [h, dite_true, ite_true, mul_zero, add_zero, e, mul_neg, sub_eq_add_neg]
  · by_cases h' : l.val - 16 < 16
    · have e : (⟨(l.val + 128 - 16) % 128, by omega⟩ : Fin 128) = ⟨l.val - 16, by omega⟩ := Fin.ext (by simp only []; omega)
      have e' : (⟨16 + (l.val - 16), by omega⟩ : Fin 128) = l := Fin.ext (by simp only []; omega)
      simp only [h, h', dite_true, dite_false, ite_false, mul_zero, add_zero, e, e']
    · have e' : (⟨32 + (l.val - 16 - 16), by omega⟩ : Fin 128) = l := Fin.ext (by simp only []; omega)
      simp only [h, h', dite_false, ite_false, mul_zero, add_zero, mul_one, e']

/-- A head of 64 lanes whose first 16 are turned, in pairs eight apart. -/
def turned8 (u : Fin 64 → EReal) (a : Fin 8 → EReal) (l : Fin 64) : EReal :=
  if h : l.val < 8 then u l * Ideal.cos (a ⟨l.val, h⟩) - u ⟨8 + l.val, by omega⟩ * Ideal.sin (a ⟨l.val, h⟩)
  else if h' : l.val - 8 < 8 then
    u ⟨8 + (l.val - 8), by omega⟩ * Ideal.cos (a ⟨l.val - 8, h'⟩)
      + u ⟨l.val - 8, by omega⟩ * Ideal.sin (a ⟨l.val - 8, h'⟩)
  else u ⟨16 + (l.val - 8 - 8), by omega⟩

/-- The same turn over 128 lanes whose first 64 are the head. -/
theorem turned8_eq (w : Fin 128 → EReal) (u : Fin 64 → EReal) (hw : ∀ k : Fin 64, w ⟨k.val, by omega⟩ = u k)
    (a : Fin 8 → EReal) (l : Fin 64) :
    w ⟨l.val, by omega⟩ * (if h : l.val < 8 then Ideal.cos (a ⟨l.val, h⟩)
        else if h' : l.val - 8 < 8 then Ideal.cos (a ⟨l.val - 8, h'⟩) else 1)
      + w ⟨(l.val + 128 - 120) % 128, by omega⟩ * (if h : l.val < 8 then -Ideal.sin (a ⟨l.val, h⟩) else 0)
      + w ⟨(l.val + 128 - 8) % 128, by omega⟩
        * (if l.val < 8 then 0 else if h' : l.val - 8 < 8 then Ideal.sin (a ⟨l.val - 8, h'⟩) else 0)
      = turned8 u a l := by
  unfold turned8
  rw [hw l]
  by_cases h : l.val < 8
  · have e : w ⟨(l.val + 128 - 120) % 128, by omega⟩ = u ⟨8 + l.val, by omega⟩ :=
      (congrArg w (Fin.ext (by simp only []; omega))).trans (hw ⟨8 + l.val, by omega⟩)
    simp only [h, dite_true, ite_true, mul_zero, add_zero, e, mul_neg, sub_eq_add_neg]
  · by_cases h' : l.val - 8 < 8
    · have e : w ⟨(l.val + 128 - 8) % 128, by omega⟩ = u ⟨l.val - 8, by omega⟩ :=
        (congrArg w (Fin.ext (by simp only []; omega))).trans (hw ⟨l.val - 8, by omega⟩)
      have e' : (⟨8 + (l.val - 8), by omega⟩ : Fin 64) = l := Fin.ext (by simp only []; omega)
      simp only [h, h', dite_true, dite_false, ite_false, mul_zero, add_zero, e, e']
    · have e' : (⟨16 + (l.val - 8 - 8), by omega⟩ : Fin 64) = l := Fin.ext (by simp only []; omega)
      simp only [h, h', dite_false, ite_false, mul_zero, add_zero, mul_one, e']

/-- A sum over 128 lanes of which the upper 64 are zero. -/
theorem sum_low (f : Fin 128 → EReal) :
    (∑ k : Fin 128, if k.val < 64 then f k else 0) = ∑ k : Fin 64, f ⟨k.val, by omega⟩ := by
  rw [Fin.sum_univ_add (a := 64) (b := 64) (fun k : Fin (64 + 64) => if k.val < 64 then f k else 0)]
  have h0 : ∀ k : Fin 64, ¬ (Fin.natAdd 64 k).val < 64 := fun k => by simp
  simp only [h0, if_false, Finset.sum_const_zero, add_zero]
  exact Finset.sum_congr rfl fun k _ => if_pos k.isLt

theorem sixtyfour : Ideal.ofBits .f32 0x42800000#32 = ((64 : ℝ) : EReal) := by
  simp [Ideal.ofBits, Ideal.ieee, -EReal.coe_mul]; norm_num

theorem sixtyfourth : Ideal.ofBits .f32 0x3C800000#32 = ((1 / 64 : ℝ) : EReal) := by
  simp [Ideal.ofBits, Ideal.ieee, -EReal.coe_mul]; norm_num

/-- Multiplying by a sixty-fourth is dividing by sixty-four. -/
theorem mul_sixtyfourth (x : EReal) :
    x * Ideal.ofBits .f32 0x3C800000#32 = Ideal.div x (Ideal.ofBits .f32 0x42800000#32) := by
  rw [sixtyfour, sixtyfourth, Ideal.div_coe (by norm_num)]

end Cert.QkPostIdeal.Final
-- ==== Proof.QkPostRef.lean ====
/-
  The reference of the head preparation, element by element: a head's norm and its turn as functions on lanes.
-/
module

public import proofs.«01_k».proof.Proof.Gen.QkPostRefIdeal.Run
public import proofs.«01_k».proof.Proof.QkPostScalar

@[expose] public section

set_option maxRecDepth 16384
set_option maxHeartbeats 1000000

noncomputable section

open Idealize.ShloMosaic Idealize.ShloMosaic.TcCoe Idealize.SL.Sem
open Cert.QkPostIdeal.Final (normed turned16 turned8)

namespace Cert.QkPostRefIdeal.Final

open Cert.QkPostRefIdeal Cert.QkPostRefIdeal.Gen Cert.QkPostRefIdeal.Value

abbrev Arr (s : Shape) := FVec Ideal s .f32

/-- The angles of the sixteen frequencies of a head of 128. -/
def ang16 (p : IVec S17408 32) : Arr S17408x16 :=
  mulf
    (broadcastInDim S17408x16 ![0, 1] bcast_S17408x1_S17408x16_0_1
      (broadcastInDim S17408x1 ![0] bcast_S17408_S17408x1_0 (sitofp .f32 p : Arr S17408)))
    (broadcastInDim S17408x16 ![0, 1] bcast_S1x16_S17408x16_0_1
      (broadcastInDim S1x16 ![1] bcast_S16_S1x16_1
        (Host.powf (broadcastInDim S16 ![] bcast_S_S16 (constant S_ .f32 0x48F42400#32))
          (Host.divf
            (mulf (Host.negf (sitofp .f32 (iotaInDim S16 32 0) : Arr S16))
              (broadcastInDim S16 ![] bcast_S_S16 (constant S_ .f32 0x40000000#32)))
            (broadcastInDim S16 ![] bcast_S_S16 (constant S_ .f32 0x42000000#32))))))

/-- The angles of the eight frequencies of a head of 64. -/
def ang8 (p : IVec S17408 32) : Arr S17408x8 :=
  mulf
    (broadcastInDim S17408x8 ![0, 1] bcast_S17408x1_S17408x8_0_1
      (broadcastInDim S17408x1 ![0] bcast_S17408_S17408x1_0 (sitofp .f32 p : Arr S17408)))
    (broadcastInDim S17408x8 ![0, 1] bcast_S1x8_S17408x8_0_1
      (broadcastInDim S1x8 ![1] bcast_S8_S1x8_1
        (Host.powf (broadcastInDim S8 ![] bcast_S_S8 (constant S_ .f32 0x48F42400#32))
          (Host.divf
            (mulf (Host.negf (sitofp .f32 (iotaInDim S8 32 0) : Arr S8))
              (broadcastInDim S8 ![] bcast_S_S8 (constant S_ .f32 0x40000000#32)))
            (broadcastInDim S8 ![] bcast_S_S8 (constant S_ .f32 0x41800000#32))))))

/-- Two heads of 128, each over its root mean square, times the gain. -/
def norm2 (x : Arr S17408x2x128) (g : Arr S128) : Arr S17408x2x128 :=
  mulf
    (mulf x (broadcastInDim S17408x2x128 ![0, 1, 2] bcast_S17408x2x1_S17408x2x128_0_1_2
      (Host.rsqrt (addf
        (Host.divf (broadcastInDim S17408x2x1 ![0, 1] bcast_S17408x2_S17408x2x1_0_1
            (Host.reduceAdd (mulf x x) (constant S_ .f32 0x00000000#32) reducesTo_S17408x2x128_S17408x2_d2 h_S_))
          (broadcastInDim S17408x2x1 ![] bcast_S_S17408x2x1 (constant S_ .f32 0x43000000#32)))
        (broadcastInDim S17408x2x1 ![] bcast_S_S17408x2x1 (constant S_ .f32 0x358637BD#32))))))
    (broadcastInDim S17408x2x128 ![0, 1, 2] bcast_S1x1x128_S17408x2x128_0_1_2
      (broadcastInDim S1x1x128 ![2] bcast_S128_S1x1x128_2 g))

/-- A per-row table spread over two heads. -/
abbrev spread2 (a : Arr S17408x16) : Arr S17408x2x16 :=
  broadcastInDim S17408x2x16 ![0, 1, 2] bcast_S17408x1x16_S17408x2x16_0_1_2
    (broadcastInDim S17408x1x16 ![0, 2] bcast_S17408x16_S17408x1x16_0_2 a)

/-- Two heads turned by the angles. -/
def turn2 (x : Arr S17408x2x128) (a : Arr S17408x16) : Arr S17408x2x128 :=
  fn_main_v96 (F := Ideal)
    (subf (mulf (extractStridedSlice S17408x2x16 ![0, 0, 0] x slices_S17408x2x128_S17408x2x16_0_0_0) (spread2 (Host.cos a)))
      (mulf (extractStridedSlice S17408x2x16 ![0, 0, 16] x slices_S17408x2x128_S17408x2x16_0_0_16) (spread2 (Host.sin a))))
    (addf (mulf (extractStridedSlice S17408x2x16 ![0, 0, 16] x slices_S17408x2x128_S17408x2x16_0_0_16) (spread2 (Host.cos a)))
      (mulf (extractStridedSlice S17408x2x16 ![0, 0, 0] x slices_S17408x2x128_S17408x2x16_0_0_0) (spread2 (Host.sin a))))
    (extractStridedSlice S17408x2x96 ![0, 0, 32] x slices_S17408x2x128_S17408x2x96_0_0_32)

/-- Eight heads of 128, each over its root mean square, times the gain. -/
def norm8 (x : Arr S17408x8x128) (g : Arr S128) : Arr S17408x8x128 :=
  mulf
    (mulf x (broadcastInDim S17408x8x128 ![0, 1, 2] bcast_S17408x8x1_S17408x8x128_0_1_2
      (Host.rsqrt (addf
        (Host.divf (broadcastInDim S17408x8x1 ![0, 1] bcast_S17408x8_S17408x8x1_0_1
            (Host.reduceAdd (mulf x x) (constant S_ .f32 0x00000000#32) reducesTo_S17408x8x128_S17408x8_d2 h_S_))
          (broadcastInDim S17408x8x1 ![] bcast_S_S17408x8x1 (constant S_ .f32 0x43000000#32)))
        (broadcastInDim S17408x8x1 ![] bcast_S_S17408x8x1 (constant S_ .f32 0x358637BD#32))))))
    (broadcastInDim S17408x8x128 ![0, 1, 2] bcast_S1x1x128_S17408x8x128_0_1_2
      (broadcastInDim S1x1x128 ![2] bcast_S128_S1x1x128_2 g))

/-- A per-row table spread over eight heads. -/
abbrev spread8 (a : Arr S17408x16) : Arr S17408x8x16 :=
  broadcastInDim S17408x8x16 ![0, 1, 2] bcast_S17408x1x16_S17408x8x16_0_1_2
    (broadcastInDim S17408x1x16 ![0, 2] bcast_S17408x16_S17408x1x16_0_2 a)

/-- Eight heads turned by the angles. -/
def turn8 (x : Arr S17408x8x128) (a : Arr S17408x16) : Arr S17408x8x128 :=
  fn_main_v49 (F := Ideal)
    (subf (mulf (extractStridedSlice S17408x8x16 ![0, 0, 0] x slices_S17408x8x128_S17408x8x16_0_0_0) (spread8 (Host.cos a)))
      (mulf (extractStridedSlice S17408x8x16 ![0, 0, 16] x slices_S17408x8x128_S17408x8x16_0_0_16) (spread8 (Host.sin a))))
    (addf (mulf (extractStridedSlice S17408x8x16 ![0, 0, 16] x slices_S17408x8x128_S17408x8x16_0_0_16) (spread8 (Host.cos a)))
      (mulf (extractStridedSlice S17408x8x16 ![0, 0, 0] x slices_S17408x8x128_S17408x8x16_0_0_0) (spread8 (Host.sin a))))
    (extractStridedSlice S17408x8x96 ![0, 0, 32] x slices_S17408x8x128_S17408x8x96_0_0_32)

/-- One head of 64 over its root mean square, times the gain. -/
def norm1 (x : Arr S17408x1x64) (g : Arr S64) : Arr S17408x1x64 :=
  mulf
    (mulf x (broadcastInDim S17408x1x64 ![0, 1, 2] bcast_S17408x1x1_S17408x1x64_0_1_2
      (Host.rsqrt (addf
        (Host.divf (broadcastInDim S17408x1x1 ![0, 1] bcast_S17408x1_S17408x1x1_0_1
            (Host.reduceAdd (mulf x x) (constant S_ .f32 0x00000000#32) reducesTo_S17408x1x64_S17408x1_d2 h_S_))
          (broadcastInDim S17408x1x1 ![] bcast_S_S17408x1x1 (constant S_ .f32 0x42800000#32)))
        (broadcastInDim S17408x1x1 ![] bcast_S_S17408x1x1 (constant S_ .f32 0x358637BD#32))))))
    (broadcastInDim S17408x1x64 ![0, 1, 2] bcast_S1x1x64_S17408x1x64_0_1_2
      (broadcastInDim S1x1x64 ![2] bcast_S64_S1x1x64_2 g))

/-- A per-row table as one head's. -/
abbrev spread1 (a : Arr S17408x8) : Arr S17408x1x8 :=
  broadcastInDim S17408x1x8 ![0, 2] bcast_S17408x8_S17408x1x8_0_2 a

/-- One head turned by the angles. -/
def turn1 (x : Arr S17408x1x64) (a : Arr S17408x8) : Arr S17408x1x64 :=
  fn_main_v139 (F := Ideal)
    (subf (mulf (extractStridedSlice S17408x1x8 ![0, 0, 0] x slices_S17408x1x64_S17408x1x8_0_0_0) (spread1 (Host.cos a)))
      (mulf (extractStridedSlice S17408x1x8 ![0, 0, 8] x slices_S17408x1x64_S17408x1x8_0_0_8) (spread1 (Host.sin a))))
    (addf (mulf (extractStridedSlice S17408x1x8 ![0, 0, 8] x slices_S17408x1x64_S17408x1x8_0_0_8) (spread1 (Host.cos a)))
      (mulf (extractStridedSlice S17408x1x8 ![0, 0, 0] x slices_S17408x1x64_S17408x1x8_0_0_0) (spread1 (Host.sin a))))
    (extractStridedSlice S17408x1x48 ![0, 0, 16] x slices_S17408x1x64_S17408x1x48_0_0_16)

/-- The queries. -/
def refQ (p : Arr S17408x7296) (pos : IVec S17408 32) (g : Arr S128) : FVec Ideal S17408x1024 .bf16 :=
  truncf .bf16
    (shapeCast S17408x1024
      (turn8 (norm8 (shapeCast S17408x8x128
          (extractStridedSlice S17408x1024 ![0, 1024] p slices_S17408x7296_S17408x1024_0_1024)
          shapeCasts_S17408x1024_S17408x8x128) g) (ang16 pos))
      shapeCasts_S17408x8x128_S17408x1024) bitsLt_bf16_f32

/-- The keys. -/
def refK (p : Arr S17408x7296) (pos : IVec S17408 32) (g : Arr S128) : Arr S17408x256 :=
  shapeCast S17408x256
    (turn2 (norm2 (shapeCast S17408x2x128
        (extractStridedSlice S17408x256 ![0, 6144] p slices_S17408x7296_S17408x256_0_6144)
        shapeCasts_S17408x256_S17408x2x128) g) (ang16 pos))
    shapeCasts_S17408x2x128_S17408x256

/-- The values. -/
def refV (p : Arr S17408x7296) : Arr S17408x256 :=
  extractStridedSlice S17408x256 ![0, 6400] p slices_S17408x7296_S17408x256_0_6400

/-- The index keys. -/
def refI (p : Arr S17408x7296) (pos : IVec S17408 32) (g : Arr S64) : Arr S17408x64 :=
  shapeCast S17408x64
    (turn1 (norm1 (shapeCast S17408x1x64
        (extractStridedSlice S17408x64 ![0, 7168] p slices_S17408x7296_S17408x64_0_7168)
        shapeCasts_S17408x64_S17408x1x64) g) (ang8 pos))
    shapeCasts_S17408x1x64_S17408x64

/-- A per-row table as eight heads'. -/
abbrev spreadI (a : Arr S17408x8) : Arr S17408x8x8 :=
  broadcastInDim S17408x8x8 ![0, 1, 2] bcast_S17408x1x8_S17408x8x8_0_1_2 (spread1 a)

/-- Eight heads of 64 turned by the angles. -/
def turnI (x : Arr S17408x8x64) (a : Arr S17408x8) : Arr S17408x8x64 :=
  fn_main_v177 (F := Ideal)
    (subf (mulf (extractStridedSlice S17408x8x8 ![0, 0, 0] x slices_S17408x8x64_S17408x8x8_0_0_0) (spreadI (Host.cos a)))
      (mulf (extractStridedSlice S17408x8x8 ![0, 0, 8] x slices_S17408x8x64_S17408x8x8_0_0_8) (spreadI (Host.sin a))))
    (addf (mulf (extractStridedSlice S17408x8x8 ![0, 0, 8] x slices_S17408x8x64_S17408x8x8_0_0_8) (spreadI (Host.cos a)))
      (mulf (extractStridedSlice S17408x8x8 ![0, 0, 0] x slices_S17408x8x64_S17408x8x8_0_0_0) (spreadI (Host.sin a))))
    (extractStridedSlice S17408x8x48 ![0, 0, 16] x slices_S17408x8x64_S17408x8x48_0_0_16)

/-- The index queries, each filled to 128 lanes. -/
def refJ (p : Arr S17408x7296) (pos : IVec S17408 32) : FVec Ideal S17408x1024 .bf16 :=
  truncf .bf16
    (shapeCast S17408x1024
      (fn_main_v179 (F := Ideal)
        (turnI (shapeCast S17408x8x64 (extractStridedSlice S17408x512 ![0, 6656] p slices_S17408x7296_S17408x512_0_6656)
          shapeCasts_S17408x512_S17408x8x64) (ang8 pos))
        (broadcastInDim S17408x8x64 ![] bcast_S_S17408x8x64 (constant S_ .f32 0x00000000#32) : Arr S17408x8x64))
      shapeCasts_S17408x8x128_S17408x1024) bitsLt_bf16_f32

/-- The index keys filled to 128 lanes. -/
def refIw (p : Arr S17408x7296) (pos : IVec S17408 32) (g : Arr S64) : FVec Ideal S17408x128 .bf16 :=
  truncf .bf16
    (fn_main_v182 (F := Ideal) (refI p pos g)
      (broadcastInDim S17408x64 ![] bcast_S_S17408x64 (constant S_ .f32 0x00000000#32) : Arr S17408x64))
    bitsLt_bf16_f32

/-- The index heads' weights. -/
def refW (p : Arr S17408x7296) : Arr S17408x128 :=
  mulf
    (mulf
      (fn_main_v185 (F := Ideal) (extractStridedSlice S17408x64 ![0, 7232] p slices_S17408x7296_S17408x64_0_7232)
        (extractStridedSlice S17408x64 ![0, 7168] p slices_S17408x7296_S17408x64_0_7168))
      (broadcastInDim S17408x128 ![] bcast_S_S17408x128 (constant S_ .f32 0x3EB504F3#32)))
    (broadcastInDim S17408x128 ![] bcast_S_S17408x128 (constant S_ .f32 0x3E000000#32))

/-! ## Element by element -/

theorem norm2_apply (x : Arr S17408x2x128) (g : Arr S128) (n : Fin 17408) (h : Fin 2) (l : Fin 128) :
    norm2 x g (ix3 n h l) = normed 0x43000000#32 (fun k => x (ix3 n h k)) (fun k => g (ix1 k)) l := by
  pointwise [norm2]
  rfl

theorem turn2_apply (x : Arr S17408x2x128) (a : Arr S17408x16) (n : Fin 17408) (h : Fin 2) (l : Fin 128) :
    turn2 x a (ix3 n h l) = turned16 (fun k => x (ix3 n h k)) (fun j => a (ix2 n j)) l := by
  pointwise [turn2, fn_main_v96]
  rfl

theorem norm8_apply (x : Arr S17408x8x128) (g : Arr S128) (n : Fin 17408) (h : Fin 8) (l : Fin 128) :
    norm8 x g (ix3 n h l) = normed 0x43000000#32 (fun k => x (ix3 n h k)) (fun k => g (ix1 k)) l := by
  pointwise [norm8]
  rfl

theorem turn8_apply (x : Arr S17408x8x128) (a : Arr S17408x16) (n : Fin 17408) (h : Fin 8) (l : Fin 128) :
    turn8 x a (ix3 n h l) = turned16 (fun k => x (ix3 n h k)) (fun j => a (ix2 n j)) l := by
  pointwise [turn8, fn_main_v49]
  rfl

theorem norm1_apply (x : Arr S17408x1x64) (g : Arr S64) (n : Fin 17408) (l : Fin 64) :
    norm1 x g (ix3 n 0 l) = normed 0x42800000#32 (fun k => x (ix3 n 0 k)) (fun k => g (ix1 k)) l := by
  pointwise [norm1]
  rfl

theorem turn1_apply (x : Arr S17408x1x64) (a : Arr S17408x8) (n : Fin 17408) (l : Fin 64) :
    turn1 x a (ix3 n 0 l) = turned8 (fun k => x (ix3 n 0 k)) (fun j => a (ix2 n j)) l := by
  pointwise [turn1, fn_main_v139]
  rfl

theorem refQ_apply (p : Arr S17408x7296) (pos : IVec S17408 32) (g : Arr S128) (n : Fin 17408) (q : Fin 1024) :
    refQ p pos g (ix2 n q)
      = turned16 (normed 0x43000000#32 (fun k => p (ix2 n ⟨1024 + (q.val / 128 * 128 + k.val), by omega⟩)) (fun k => g (ix1 k)))
          (fun j => ang16 pos (ix2 n j)) ⟨q.val % 128, by omega⟩ := by
  pointwise [refQ]
  simp only [turn8_apply, norm8_apply]
  pointwise

theorem refK_apply (p : Arr S17408x7296) (pos : IVec S17408 32) (g : Arr S128) (n : Fin 17408) (q : Fin 256) :
    refK p pos g (ix2 n q)
      = turned16 (normed 0x43000000#32 (fun k => p (ix2 n ⟨6144 + (q.val / 128 * 128 + k.val), by omega⟩)) (fun k => g (ix1 k)))
          (fun j => ang16 pos (ix2 n j)) ⟨q.val % 128, by omega⟩ := by
  pointwise [refK]
  simp only [turn2_apply, norm2_apply]
  pointwise

theorem refV_apply (p : Arr S17408x7296) (n : Fin 17408) (q : Fin 256) :
    refV p (ix2 n q) = p (ix2 n ⟨6400 + q.val, by omega⟩) := by
  pointwise [refV]

theorem refI_apply (p : Arr S17408x7296) (pos : IVec S17408 32) (g : Arr S64) (n : Fin 17408) (l : Fin 64) :
    refI p pos g (ix2 n l)
      = turned8 (normed 0x42800000#32 (fun k => p (ix2 n ⟨7168 + k.val, by omega⟩)) (fun k => g (ix1 k)))
          (fun j => ang8 pos (ix2 n j)) l := by
  pointwise [refI]
  simp only [turn1_apply, norm1_apply]
  pointwise

theorem turnI_apply (x : Arr S17408x8x64) (a : Arr S17408x8) (n : Fin 17408) (h : Fin 8) (l : Fin 64) :
    turnI x a (ix3 n h l) = turned8 (fun k => x (ix3 n h k)) (fun j => a (ix2 n j)) l := by
  pointwise [turnI, fn_main_v177]
  rfl

theorem refJ_apply (p : Arr S17408x7296) (pos : IVec S17408 32) (n : Fin 17408) (q : Fin 1024) :
    refJ p pos (ix2 n q)
      = if h : q.val % 128 < 64 then
          turned8 (fun k => p (ix2 n ⟨6656 + (q.val / 128 * 64 + k.val), by omega⟩)) (fun j => ang8 pos (ix2 n j)) ⟨q.val % 128, h⟩
        else 0 := by
  pointwise [refJ, fn_main_v179]
  simp only [turnI_apply]
  pointwise

theorem refIw_apply (p : Arr S17408x7296) (pos : IVec S17408 32) (g : Arr S64) (n : Fin 17408) (l : Fin 128) :
    refIw p pos g (ix2 n l) = if h : l.val < 64 then refI p pos g (ix2 n ⟨l.val, h⟩) else 0 := by
  pointwise [refIw, fn_main_v182]

theorem refW_apply (p : Arr S17408x7296) (n : Fin 17408) (l : Fin 128) :
    refW p (ix2 n l)
      = p (ix2 n ⟨7168 + (l.val + 128 - 64) % 128, by omega⟩) * Ideal.ofBits .f32 0x3EB504F3#32 * Ideal.ofBits .f32 0x3E000000#32 := by
  pointwise [refW, fn_main_v185]
  congr 2
  by_cases h : l.val < 64
  · rw [dif_pos h]
    exact congrArg (fun k => p (ix2 n k)) (Fin.ext (by simp only []; omega))
  · rw [dif_neg h]
    exact congrArg (fun k => p (ix2 n k)) (Fin.ext (by simp only []; omega))

/-! ## The run's results in these words -/

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v141)
        = refQ (m ((c : Thread nD τ).loc main_arg0)) (m ((c : Thread nD τ).loc main_arg1)) (m ((c : Thread nD τ).loc main_arg2))
      ∧ r.2.mem ((c.tc : Thread nD τ).loc main_v97)
        = refK (m ((c : Thread nD τ).loc main_arg0)) (m ((c : Thread nD τ).loc main_arg1)) (m ((c : Thread nD τ).loc main_arg3))
      ∧ r.2.mem ((c.tc : Thread nD τ).loc main_v142)
        = truncf .bf16 (refK (m ((c : Thread nD τ).loc main_arg0)) (m ((c : Thread nD τ).loc main_arg1)) (m ((c : Thread nD τ).loc main_arg3))) bitsLt_bf16_f32
      ∧ r.2.mem ((c.tc : Thread nD τ).loc main_v2) = refV (m ((c : Thread nD τ).loc main_arg0))
      ∧ r.2.mem ((c.tc : Thread nD τ).loc main_v143) = truncf .bf16 (refV (m ((c : Thread nD τ).loc main_arg0))) bitsLt_bf16_f32
      ∧ r.2.mem ((c.tc : Thread nD τ).loc main_v190) = refJ (m ((c : Thread nD τ).loc main_arg0)) (m ((c : Thread nD τ).loc main_arg1))
      ∧ r.2.mem ((c.tc : Thread nD τ).loc main_v140)
        = refI (m ((c : Thread nD τ).loc main_arg0)) (m ((c : Thread nD τ).loc main_arg1)) (m ((c : Thread nD τ).loc main_arg4))
      ∧ r.2.mem ((c.tc : Thread nD τ).loc main_v191)
        = refIw (m ((c : Thread nD τ).loc main_arg0)) (m ((c : Thread nD τ).loc main_arg1)) (m ((c : Thread nD τ).loc main_arg4))
      ∧ r.2.mem ((c.tc : Thread nD τ).loc main_v189) = refW (m ((c : Thread nD τ).loc main_arg0))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run _ _ _).mono (fun _ h c => by
      obtain ⟨h0, h1, h2, h3, h4, h5, h6, h7, h8, kept⟩ := h c
      exact ⟨h0.trans rfl, h1.trans rfl, h2.trans rfl, h3.trans rfl, h4.trans rfl, h5.trans rfl, h6.trans rfl, h7.trans rfl,
        h8.trans rfl, kept⟩)
    (Cert.QkPostRefIdeal.Value.run (F := Ideal) m ρ)

end Cert.QkPostRefIdeal.Final
-- ==== Proof.QkPostValue.lean ====
/-
  The value of the head preparation: every block the kernel writes back is the reference's block, element by element.
-/
module

public import proofs.«01_k».proof.Proof.QkPostIdealFrame
public import proofs.«01_k».proof.Proof.QkPostTables
public import proofs.«01_k».proof.Proof.QkPostRef

@[expose] public section

set_option maxRecDepth 16384
set_option maxHeartbeats 4000000

noncomputable section

open Idealize.ShloMosaic Idealize.ShloMosaic.TcCoe Idealize.SL.Sem
open Idealize.ShloMosaic.Pipeline (Dat)

namespace Cert.QkPostIdeal.Final

open Cert.QkPostIdeal Cert.QkPostIdeal.Gen Cert.QkPostIdeal.Own
open Cert.QkPostRefIdeal.Final (refQ refK refV refI refJ refIw refW refQ_apply refK_apply refV_apply refI_apply refJ_apply refIw_apply
  refW_apply)

variable (m : (ℓ : Loc nD τ sig) → Buf (Elt Ideal) ℓ) (ρ : Dev nD → PrngReg)

/-- The gains of the queries, the keys and the index keys. -/
abbrev gainQ (c : Dev nD) : FVec Ideal S128 .f32 := m ((c : Thread nD τ).loc main_arg2)
abbrev gainK (c : Dev nD) : FVec Ideal S128 .f32 := m ((c : Thread nD τ).loc main_arg3)
abbrev gainI (c : Dev nD) : FVec Ideal S64 .f32 := m ((c : Thread nD τ).loc main_arg4)

/-- The angles of a row. -/
abbrev rowAng16 (c : Dev nD) (n : Fin 17408) (j : Fin 16) : EReal := ang16 (posi m c) (ix2 n j)
abbrev rowAng8 (c : Dev nD) (n : Fin 17408) (j : Fin 8) : EReal := ang8 (posi m c) (ix2 n j)

/-! ## The tables' blocks -/

theorem readC16 (c : Dev nD) (t : Fin cfg0.N) (r : Fin 512) (l : Fin 128) :
    iblk (F := Ideal) m c 5 t (ix2 r l)
      = if h : l.val < 16 then Ideal.cos (rowAng16 m c (rowOf t r) ⟨l.val, h⟩)
        else if h' : l.val - 16 < 16 then Ideal.cos (rowAng16 m c (rowOf t r) ⟨l.val - 16, h'⟩) else 1 := by
  refine Eq.trans ?_ ((congrFun (V26 m c) (ix2 (rowOf t r) l)).trans ?_)
  · blk_ext [iblk, idx t, rowOf]
  · rw [table16_apply]
    pointwise

theorem readL16 (c : Dev nD) (t : Fin cfg0.N) (r : Fin 512) (l : Fin 128) :
    iblk (F := Ideal) m c 6 t (ix2 r l)
      = if h : l.val < 16 then -Ideal.sin (rowAng16 m c (rowOf t r) ⟨l.val, h⟩) else 0 := by
  refine Eq.trans ?_ ((congrFun (V29 m c) (ix2 (rowOf t r) l)).trans ?_)
  · blk_ext [iblk, idx t, rowOf]
  · rw [table16_apply]
    pointwise
    simp only [dite_eq_ite, ite_self]

theorem readH16 (c : Dev nD) (t : Fin cfg0.N) (r : Fin 512) (l : Fin 128) :
    iblk (F := Ideal) m c 7 t (ix2 r l)
      = if l.val < 16 then 0
        else if h' : l.val - 16 < 16 then Ideal.sin (rowAng16 m c (rowOf t r) ⟨l.val - 16, h'⟩) else 0 := by
  refine Eq.trans ?_ ((congrFun (V32 m c) (ix2 (rowOf t r) l)).trans ?_)
  · blk_ext [iblk, idx t, rowOf]
  · rw [table16_apply]
    pointwise
    rfl

/-! A lane of the tables for heads of 64 is lane `l` of half `s`. -/

theorem readC8 (c : Dev nD) (t : Fin cfg0.N) (r : Fin 512) (s : Fin 2) (l : Fin 64) :
    iblk (F := Ideal) m c 8 t (ix2 r ⟨64 * s.val + l.val, by omega⟩)
      = if h : l.val < 8 then Ideal.cos (rowAng8 m c (rowOf t r) ⟨l.val, h⟩)
        else if h' : l.val - 8 < 8 then Ideal.cos (rowAng8 m c (rowOf t r) ⟨l.val - 8, h'⟩) else 1 := by
  have e : (64 * s.val + l.val) % 64 = l.val := by omega
  refine Eq.trans ?_ ((congrFun (V59 m c) (ix2 (rowOf t r) ⟨64 * s.val + l.val, by omega⟩)).trans ?_)
  · blk_ext [iblk, idx t, rowOf]
  · rw [table8_apply]
    simp only [e]
    pointwise

theorem readL8 (c : Dev nD) (t : Fin cfg0.N) (r : Fin 512) (s : Fin 2) (l : Fin 64) :
    iblk (F := Ideal) m c 9 t (ix2 r ⟨64 * s.val + l.val, by omega⟩)
      = if h : l.val < 8 then -Ideal.sin (rowAng8 m c (rowOf t r) ⟨l.val, h⟩) else 0 := by
  have e : (64 * s.val + l.val) % 64 = l.val := by omega
  refine Eq.trans ?_ ((congrFun (V62 m c) (ix2 (rowOf t r) ⟨64 * s.val + l.val, by omega⟩)).trans ?_)
  · blk_ext [iblk, idx t, rowOf]
  · rw [table8_apply]
    simp only [e]
    pointwise
    simp only [dite_eq_ite, ite_self]

theorem readH8 (c : Dev nD) (t : Fin cfg0.N) (r : Fin 512) (s : Fin 2) (l : Fin 64) :
    iblk (F := Ideal) m c 10 t (ix2 r ⟨64 * s.val + l.val, by omega⟩)
      = if l.val < 8 then 0
        else if h' : l.val - 8 < 8 then Ideal.sin (rowAng8 m c (rowOf t r) ⟨l.val - 8, h'⟩) else 0 := by
  have e : (64 * s.val + l.val) % 64 = l.val := by omega
  refine Eq.trans ?_ ((congrFun (V65 m c) (ix2 (rowOf t r) ⟨64 * s.val + l.val, by omega⟩)).trans ?_)
  · blk_ext [iblk, idx t, rowOf]
  · rw [table8_apply]
    simp only [e]
    pointwise
    rfl

/-! ## The gains' blocks -/

theorem readGQ (c : Dev nD) (t : Fin cfg0.N) (l : Fin 128) : iblk (F := Ideal) m c 11 t (ix2 0 l) = gainQ m c (ix1 l) := by
  have e : V m c main_v69 = broadcastInDim S1x128 ![1] bcast_S128_S1x128_1 (gainQ m c) := by
    unfold V
    after_results_simp <;> rfl
  refine Eq.trans ?_ ((congrFun e (ix2 0 l)).trans ?_)
  · blk_ext [iblk, idx t]
  · pointwise

theorem readGK (c : Dev nD) (t : Fin cfg0.N) (l : Fin 128) : iblk (F := Ideal) m c 12 t (ix2 0 l) = gainK m c (ix1 l) := by
  have e : V m c main_v70 = broadcastInDim S1x128 ![1] bcast_S128_S1x128_1 (gainK m c) := by
    unfold V
    after_results_simp <;> rfl
  refine Eq.trans ?_ ((congrFun e (ix2 0 l)).trans ?_)
  · blk_ext [iblk, idx t]
  · pointwise

theorem readGI (c : Dev nD) (t : Fin cfg0.N) (k : Fin 64) :
    iblk (F := Ideal) m c 13 t (ix2 0 ⟨k.val, by omega⟩) = gainI m c (ix1 k) := by
  have e : V m c main_v68 = broadcastInDim S1x128 ![1] bcast_S128_S1x128_1
      (concatenate S128 0 [⟨S64, gainI m c⟩, ⟨S64, (broadcastInDim S64 ![] bcast_S_S64 (constant S_ .f32 0x00000000#32) : FVec Ideal S64 .f32)⟩]
        concatenates_S64_S64_S128_d0 : FVec Ideal S128 .f32) := by
    unfold V
    after_results_simp <;> rfl
  refine Eq.trans ?_ ((congrFun e (ix2 0 ⟨k.val, by omega⟩)).trans ?_)
  · blk_ext [iblk, idx t]
  · pointwise

/-! ## A head of 128 -/

theorem head_apply (c sl sh x : FVec Ideal S512x128 .f32) (g : FVec Ideal S1x128 .f32) (r : Fin 512) (l : Fin 128) :
    (k0_pay25 (F := Ideal) (k0_pay5 c) (k0_pay6 sl) (k0_pay7 sh) x g : FVec Ideal S512x128 .f32) (ix2 r l)
      = normed 0x43000000#32 (fun k => x (ix2 r k)) (fun k => g (ix2 0 k)) l * c (ix2 r l)
        + normed 0x43000000#32 (fun k => x (ix2 r k)) (fun k => g (ix2 0 k)) ⟨(l.val + 128 - 112) % 128, by omega⟩ * sl (ix2 r l)
        + normed 0x43000000#32 (fun k => x (ix2 r k)) (fun k => g (ix2 0 k)) ⟨(l.val + 128 - 16) % 128, by omega⟩ * sh (ix2 r l) := by
  pointwise [k0_pay25, k0_pay5, k0_pay6, k0_pay7]
  rfl

/-- The head the body computes from a slice of 128 lanes and a gain, at point `t`. -/
abbrev head (c : Dev nD) (t : Fin cfg0.N) (x : FVec Ideal S512x128 .f32) (g : FVec Ideal S1x128 .f32) : FVec Ideal S512x128 .f32 :=
  k0_pay25 (k0_pay5 (iblk m c 5 t)) (k0_pay6 (iblk m c 6 t)) (k0_pay7 (iblk m c 7 t)) x g

theorem head_turned (c : Dev nD) (t : Fin cfg0.N) (x : FVec Ideal S512x128 .f32) (g : FVec Ideal S1x128 .f32) (r : Fin 512) (l : Fin 128) :
    head m c t x g (ix2 r l)
      = turned16 (normed 0x43000000#32 (fun k => x (ix2 r k)) (fun k => g (ix2 0 k))) (rowAng16 m c (rowOf t r)) l := by
  rw [← turned16_eq, ← readC16, ← readL16, ← readH16]
  exact head_apply _ _ _ _ _ r l

/-! ## The outputs -/

theorem place14 (t : Fin cfg0.N) (r : Fin 512) (q : Fin 1024) :
    ((cfg0.win 14).blk t).view.emb (ix2 r q) = ix2 (rowOf t r) q := by
  blk_ext [idxOut t, rowOf]

theorem place15 (t : Fin cfg0.N) (r : Fin 512) (q : Fin 256) :
    ((cfg0.win 15).blk t).view.emb (ix2 r q) = ix2 (rowOf t r) q := by
  blk_ext [idxOut t, rowOf]

theorem place16 (t : Fin cfg0.N) (r : Fin 512) (q : Fin 256) :
    ((cfg0.win 16).blk t).view.emb (ix2 r q) = ix2 (rowOf t r) q := by
  blk_ext [idxOut t, rowOf]

theorem place17 (t : Fin cfg0.N) (r : Fin 512) (q : Fin 256) :
    ((cfg0.win 17).blk t).view.emb (ix2 r q) = ix2 (rowOf t r) q := by
  blk_ext [idxOut t, rowOf]

theorem place18 (t : Fin cfg0.N) (r : Fin 512) (q : Fin 256) :
    ((cfg0.win 18).blk t).view.emb (ix2 r q) = ix2 (rowOf t r) q := by
  blk_ext [idxOut t, rowOf]

theorem place20 (t : Fin cfg0.N) (r : Fin 512) (q : Fin 64) :
    ((cfg0.win 20).blk t).view.emb (ix2 r q) = ix2 (rowOf t r) q := by
  blk_ext [idxOut t, rowOf]

/-- The slice of the queries' block a head reads. -/
abbrev sliceQ (c : Dev nD) (t : Fin cfg0.N) (o : Nat) (inb : ∀ a, (![0, o] : Fin 2 → Nat) a + S512x128.size a ≤ S512x1024.size a) :
    FVec Ideal S512x128 .f32 :=
  View.ld (X0_0 (F := Ideal) m c t) (Rect.unit (s := S512x1024) ![0, o] S512x128.size inb)

/-- The slice of the keys' block a head reads. -/
abbrev sliceK (c : Dev nD) (t : Fin cfg0.N) (o : Nat) (inb : ∀ a, (![0, o] : Fin 2 → Nat) a + S512x128.size a ≤ S512x256.size a) :
    FVec Ideal S512x128 .f32 :=
  View.ld (X0_1 (F := Ideal) m c t) (Rect.unit (s := S512x256) ![0, o] S512x128.size inb)

theorem sliceQ_apply (c : Dev nD) (t : Fin cfg0.N) (o : Nat) (inb) (r : Fin 512) (k : Fin 128) (h : o + 128 ≤ 1024) :
    sliceQ m c t o inb (ix2 r k) = proj m c (ix2 (rowOf t r) ⟨1024 + (o + k.val), by omega⟩) := by
  refine (View.ld_unit_apply_of _ _ _ _ _ (ix2 r ⟨o + k.val, by omega⟩) ?_).trans (readQ m c t r ⟨o + k.val, by omega⟩)
  intro a
  match a with
  | ⟨0, _⟩ => exact (Nat.zero_add _).symm
  | ⟨1, _⟩ => rfl

theorem sliceK_apply (c : Dev nD) (t : Fin cfg0.N) (o : Nat) (inb) (r : Fin 512) (k : Fin 128) (h : o + 128 ≤ 256) :
    sliceK m c t o inb (ix2 r k) = proj m c (ix2 (rowOf t r) ⟨6144 + (o + k.val), by omega⟩) := by
  refine (View.ld_unit_apply_of _ _ _ _ _ (ix2 r ⟨o + k.val, by omega⟩) ?_).trans (readK m c t r ⟨o + k.val, by omega⟩)
  intro a
  match a with
  | ⟨0, _⟩ => exact (Nat.zero_add _).symm
  | ⟨1, _⟩ => rfl

/-- A head of the queries, at a lane of the block. -/
theorem pieceQ (c : Dev nD) (t : Fin cfg0.N) (h : Fin 8) (inb) (r : Fin 512) (q : Fin 1024) (x : S512x128.Idx)
    (h0 : r.val = (x 0).val) (h1 : q.val = h.val * 128 + (x 1).val) :
    head m c t (sliceQ m c t (h.val * 128) inb) (iblk m c 11 t) x
      = refQ (proj m c) (posi m c) (gainQ m c) (ix2 (rowOf t r) q) := by
  idx_vars x
  obtain rfl : r = x0 := Fin.ext h0
  have hq : q.val = h.val * 128 + x1.val := h1
  have hx : x1.val < 128 := x1.isLt
  rw [refQ_apply, head_turned]
  have e1 : q.val / 128 = h.val := by omega
  have e2 : (⟨q.val % 128, by omega⟩ : Fin 128) = x1 := Fin.ext (by simp only []; omega)
  simp only [e1, e2, readGQ]
  simp only [sliceQ_apply m c t _ inb _ _ (by omega : h.val * 128 + 128 ≤ 1024)]
  rfl

/-- A head of the keys, at a lane of the block. -/
theorem pieceK (c : Dev nD) (t : Fin cfg0.N) (h : Fin 2) (inb) (r : Fin 512) (q : Fin 256) (x : S512x128.Idx)
    (h0 : r.val = (x 0).val) (h1 : q.val = h.val * 128 + (x 1).val) :
    head m c t (sliceK m c t (h.val * 128) inb) (iblk m c 12 t) x
      = refK (proj m c) (posi m c) (gainK m c) (ix2 (rowOf t r) q) := by
  idx_vars x
  obtain rfl : r = x0 := Fin.ext h0
  have hq : q.val = h.val * 128 + x1.val := h1
  have hx : x1.val < 128 := x1.isLt
  rw [refK_apply, head_turned]
  have e1 : q.val / 128 = h.val := by omega
  have e2 : (⟨q.val % 128, by omega⟩ : Fin 128) = x1 := Fin.ext (by simp only []; omega)
  simp only [e1, e2, readGK]
  simp only [sliceK_apply m c t _ inb _ _ (by omega : h.val * 128 + 128 ≤ 256)]
  rfl

theorem final14 (c : Dev nD) : (dats m 0 c).arrAt 14 cfg0.N = refQ (proj m c) (posi m c) (gainQ m c) := by
  refine (dats m 0 c).arrAt_eq_of_covers 14 _ (by decide +kernel) fun t _ y => ?_
  idx_vars y
  refine Eq.trans ?_ (congrArg (refQ (proj m c) (posi m c) (gainQ m c)) (place14 t y0 y1).symm)
  blk_simp
  rw [after0_14]
  unfold outsAt0
  frame_out
  canon_tiles x h
  · exact pieceQ m c t 7 _ y0 y1 x h0 h1
  · exact pieceQ m c t 6 _ y0 y1 x h0 h1
  · exact pieceQ m c t 5 _ y0 y1 x h0 h1
  · exact pieceQ m c t 4 _ y0 y1 x h0 h1
  · exact pieceQ m c t 3 _ y0 y1 x h0 h1
  · exact pieceQ m c t 2 _ y0 y1 x h0 h1
  · exact pieceQ m c t 1 _ y0 y1 x h0 h1
  · exact pieceQ m c t 0 _ y0 y1 x h0 (h1.trans (Nat.zero_add _).symm)

theorem final15 (c : Dev nD) : (dats m 0 c).arrAt 15 cfg0.N = refK (proj m c) (posi m c) (gainK m c) := by
  refine (dats m 0 c).arrAt_eq_of_covers 15 _ (by decide +kernel) fun t _ y => ?_
  idx_vars y
  refine Eq.trans ?_ (congrArg (refK (proj m c) (posi m c) (gainK m c)) (place15 t y0 y1).symm)
  blk_simp
  rw [after0_15]
  unfold outsAt0
  frame_out
  canon_tiles x h
  · exact pieceK m c t 1 _ y0 y1 x h0 h1
  · exact pieceK m c t 0 _ y0 y1 x h0 (h1.trans (Nat.zero_add _).symm)

/-- The rounded keys are the keys: over the extended reals rounding is the identity. -/
theorem final16 (c : Dev nD) :
    (dats m 0 c).arrAt 16 cfg0.N = truncf .bf16 (refK (proj m c) (posi m c) (gainK m c)) bitsLt_bf16_f32 := by
  refine (dats m 0 c).arrAt_eq_of_covers 16 _ (by decide +kernel) fun t _ y => ?_
  idx_vars y
  refine Eq.trans ?_ (congrArg (refK (proj m c) (posi m c) (gainK m c)) (place16 t y0 y1).symm)
  blk_simp
  rw [after0_16]
  unfold outsAt0
  frame_out
  canon_tiles x h
  · exact pieceK m c t 1 _ y0 y1 x h0 h1
  · exact pieceK m c t 0 _ y0 y1 x h0 (h1.trans (Nat.zero_add _).symm)

theorem final17 (c : Dev nD) : (dats m 0 c).arrAt 17 cfg0.N = refV (proj m c) := by
  refine (dats m 0 c).arrAt_eq_of_covers 17 _ (by decide +kernel) fun t _ y => ?_
  idx_vars y
  refine Eq.trans ?_ (congrArg (refV (proj m c)) (place17 t y0 y1).symm)
  blk_simp
  rw [after0_17]
  unfold outsAt0
  frame_out
  rw [refV_apply]
  exact readV m c t y0 y1

theorem final18 (c : Dev nD) : (dats m 0 c).arrAt 18 cfg0.N = truncf .bf16 (refV (proj m c)) bitsLt_bf16_f32 := by
  refine (dats m 0 c).arrAt_eq_of_covers 18 _ (by decide +kernel) fun t _ y => ?_
  idx_vars y
  refine Eq.trans ?_ (congrArg (refV (proj m c)) (place18 t y0 y1).symm)
  blk_simp
  rw [after0_18]
  unfold outsAt0
  frame_out
  rw [refV_apply]
  exact readV m c t y0 y1

theorem place19 (t : Fin cfg0.N) (r : Fin 512) (q : Fin 1024) :
    ((cfg0.win 19).blk t).view.emb (ix2 r q) = ix2 (rowOf t r) q := by
  blk_ext [idxOut t, rowOf]

theorem place21 (t : Fin cfg0.N) (r : Fin 512) (q : Fin 128) :
    ((cfg0.win 21).blk t).view.emb (ix2 r q) = ix2 (rowOf t r) q := by
  blk_ext [idxOut t, rowOf]

theorem place22 (t : Fin cfg0.N) (r : Fin 512) (q : Fin 128) :
    ((cfg0.win 22).blk t).view.emb (ix2 r q) = ix2 (rowOf t r) q := by
  blk_ext [idxOut t, rowOf]

theorem final22 (c : Dev nD) : (dats m 0 c).arrAt 22 cfg0.N = refW (proj m c) := by
  refine (dats m 0 c).arrAt_eq_of_covers 22 _ (by decide +kernel) fun t _ y => ?_
  idx_vars y
  refine Eq.trans ?_ (congrArg (refW (proj m c)) (place22 t y0 y1).symm)
  blk_simp
  rw [after0_22]
  unfold outsAt0
  frame_out
  rw [refW_apply]
  pointwise [k0_pay4]
  rw [readI]

/-! ## The index key -/

theorem mask (k : Fin 128) (a : EReal) :
    Scalar.select (IntOp.cmpi CmpIPredicate.slt (BitVec.ofNat 32 k.val) 64#32) a 0 = if k.val < 64 then a else 0 := by
  have e : ∀ k : Fin 128, IntOp.cmpi CmpIPredicate.slt (BitVec.ofNat 32 k.val) 64#32 = if k.val < 64 then 1#1 else 0#1 := by
    decide +kernel
  rw [e k]
  split <;> rfl

/-- The 128 lanes the body turns for the index key: the row over the root of its first 64 lanes' mean square, times the gains. -/
def wide (x g : Fin 128 → EReal) (l : Fin 128) : EReal :=
  x l * Ideal.rsqrt ((∑ k : Fin 128, if k.val < 64 then x k * x k else 0) * Ideal.ofBits .f32 0x3C800000#32
    + Ideal.ofBits .f32 897988541#32) * g l

theorem wide_low (x g : Fin 128 → EReal) (k : Fin 64) :
    wide x g ⟨k.val, by omega⟩
      = normed 0x42800000#32 (fun k : Fin 64 => x ⟨k.val, by omega⟩) (fun k : Fin 64 => g ⟨k.val, by omega⟩) k := by
  unfold wide normed
  rw [sum_low, mul_sixtyfourth]

theorem key_apply (c sl sh x : FVec Ideal S512x128 .f32) (g : FVec Ideal S1x128 .f32) (r : Fin 512) (l : Fin 64) :
    (k0_pay1 (F := Ideal) (k0_pay8 c) (k0_pay9 sl) (k0_pay10 sh) x (k0_pay48 k0_pay31 x) (FloatOps.ofBits FTy.f32 1015021568#32) g
        : FVec Ideal S512x128 .f32) (ix2 r ⟨l.val, by omega⟩)
      = wide (fun k => x (ix2 r k)) (fun k => g (ix2 0 k)) ⟨l.val, by omega⟩ * c (ix2 r ⟨l.val, by omega⟩)
        + wide (fun k => x (ix2 r k)) (fun k => g (ix2 0 k)) ⟨(l.val + 128 - 120) % 128, by omega⟩ * sl (ix2 r ⟨l.val, by omega⟩)
        + wide (fun k => x (ix2 r k)) (fun k => g (ix2 0 k)) ⟨(l.val + 128 - 8) % 128, by omega⟩ * sh (ix2 r ⟨l.val, by omega⟩) := by
  pointwise [k0_pay1, k0_pay8, k0_pay9, k0_pay10, k0_pay48, k0_pay31]
  simp only [mask]
  rfl

/-- The index key the body computes at point `t`, over 128 lanes. -/
abbrev key (c : Dev nD) (t : Fin cfg0.N) : FVec Ideal S512x128 .f32 :=
  k0_pay1 (F := Ideal) (k0_pay8 (iblk m c 8 t)) (k0_pay9 (iblk m c 9 t)) (k0_pay10 (iblk m c 10 t)) (iblk m c 4 t)
    (k0_pay48 k0_pay31 (iblk m c 4 t)) (FloatOps.ofBits FTy.f32 1015021568#32) (iblk m c 13 t)

theorem first_half (l : Fin 64) : (⟨l.val, by omega⟩ : Fin 128) = ⟨64 * (0 : Fin 2).val + l.val, by simp; omega⟩ :=
  Fin.ext (by simp)

theorem key_turned (c : Dev nD) (t : Fin cfg0.N) (r : Fin 512) (l : Fin 64) :
    key m c t (ix2 r ⟨l.val, by omega⟩) = refI (proj m c) (posi m c) (gainI m c) (ix2 (rowOf t r) l) := by
  rw [refI_apply]
  refine (key_apply _ _ _ _ _ r l).trans ?_
  rw [show iblk (F := Ideal) m c 8 t (ix2 r ⟨l.val, by omega⟩) = _ from
      (congrArg (fun k => iblk (F := Ideal) m c 8 t (ix2 r k)) (first_half l)).trans (readC8 m c t r 0 l),
    show iblk (F := Ideal) m c 9 t (ix2 r ⟨l.val, by omega⟩) = _ from
      (congrArg (fun k => iblk (F := Ideal) m c 9 t (ix2 r k)) (first_half l)).trans (readL8 m c t r 0 l),
    show iblk (F := Ideal) m c 10 t (ix2 r ⟨l.val, by omega⟩) = _ from
      (congrArg (fun k => iblk (F := Ideal) m c 10 t (ix2 r k)) (first_half l)).trans (readH8 m c t r 0 l)]
  refine (turned8_eq _ _ (wide_low _ _) (rowAng8 m c (rowOf t r)) l).trans ?_
  simp only [readI, readGI]
  rfl

theorem final20 (c : Dev nD) : (dats m 0 c).arrAt 20 cfg0.N = refI (proj m c) (posi m c) (gainI m c) := by
  refine (dats m 0 c).arrAt_eq_of_covers 20 _ (by decide +kernel) fun t _ y => ?_
  idx_vars y
  refine Eq.trans ?_ (congrArg (refI (proj m c) (posi m c) (gainI m c)) (place20 t y0 y1).symm)
  blk_simp
  rw [after0_20]
  unfold outsAt0
  frame_out
  refine Eq.trans ?_ (key_turned m c t y0 y1)
  pointwise [k0_pay2]
  rfl

theorem final21 (c : Dev nD) : (dats m 0 c).arrAt 21 cfg0.N = refIw (proj m c) (posi m c) (gainI m c) := by
  refine (dats m 0 c).arrAt_eq_of_covers 21 _ (by decide +kernel) fun t _ y => ?_
  idx_vars y
  refine Eq.trans ?_ (congrArg (refIw (proj m c) (posi m c) (gainI m c)) (place21 t y0 y1).symm)
  blk_simp
  rw [after0_21]
  unfold outsAt0
  frame_out
  rw [refIw_apply]
  have e : ∀ x : FVec Ideal S512x128 .f32,
      (truncf .bf16 (select k0_pay31 x (broadcast S512x128 (Scalar.ofBits .f32 0x00000000#32))) bitsLt_bf16_f32 : FVec Ideal S512x128 .bf16) (ix2 y0 y1)
        = if y1.val < 64 then x (ix2 y0 y1) else 0 := fun x => by
    pointwise [k0_pay31]
    exact mask y1 _
  refine (e (key m c t)).trans ?_
  by_cases h : y1.val < 64
  · rw [if_pos h, dif_pos h]
    exact key_turned m c t y0 ⟨y1.val, h⟩
  · rw [if_neg h, dif_neg h]

/-! ## The index queries -/

/-- Two heads of 64 side by side, turned by the body at point `t`. -/
abbrev pair (c : Dev nD) (t : Fin cfg0.N) (x : FVec Ideal S512x128 .f32) : FVec Ideal S512x128 .f32 :=
  k0_pay37 (k0_pay8 (iblk m c 8 t)) (k0_pay9 (iblk m c 9 t)) (k0_pay10 (iblk m c 10 t)) x

theorem pair_apply (c sl sh x : FVec Ideal S512x128 .f32) (r : Fin 512) (l : Fin 128) :
    (k0_pay37 (F := Ideal) (k0_pay8 c) (k0_pay9 sl) (k0_pay10 sh) x : FVec Ideal S512x128 .f32) (ix2 r l)
      = x (ix2 r l) * c (ix2 r l) + x (ix2 r ⟨(l.val + 128 - 120) % 128, by omega⟩) * sl (ix2 r l)
        + x (ix2 r ⟨(l.val + 128 - 8) % 128, by omega⟩) * sh (ix2 r l) := by
  pointwise [k0_pay37, k0_pay8, k0_pay9, k0_pay10]

theorem pair_turned (c : Dev nD) (t : Fin cfg0.N) (x : FVec Ideal S512x128 .f32) (r : Fin 512) (s : Fin 2) (l : Fin 64) :
    pair m c t x (ix2 r ⟨64 * s.val + l.val, by omega⟩)
      = turned8 (fun k : Fin 64 => x (ix2 r ⟨64 * s.val + k.val, by omega⟩)) (rowAng8 m c (rowOf t r)) l := by
  refine (pair_apply _ _ _ x r _).trans ?_
  rw [readC8, readL8, readH8]
  refine Eq.trans ?_ (turned8_eq (fun j : Fin 128 => x (ix2 r ⟨(64 * s.val + j.val) % 128, by omega⟩))
    (fun k : Fin 64 => x (ix2 r ⟨64 * s.val + k.val, by omega⟩))
    (fun k => congrArg (fun j => x (ix2 r j)) (Fin.ext (by simp only []; omega))) (rowAng8 m c (rowOf t r)) l)
  have e0 : (⟨(64 * s.val + l.val) % 128, by omega⟩ : Fin 128) = ⟨64 * s.val + l.val, by omega⟩ := Fin.ext (by simp only []; omega)
  have e1 : (⟨(64 * s.val + (l.val + 128 - 120) % 128) % 128, by omega⟩ : Fin 128) = ⟨(64 * s.val + l.val + 128 - 120) % 128, by omega⟩ :=
    Fin.ext (by simp only []; omega)
  have e2 : (⟨(64 * s.val + (l.val + 128 - 8) % 128) % 128, by omega⟩ : Fin 128) = ⟨(64 * s.val + l.val + 128 - 8) % 128, by omega⟩ :=
    Fin.ext (by simp only []; omega)
  simp only [e0, e1, e2]

/-- The slice of the index queries' block two heads read. -/
abbrev sliceJ (c : Dev nD) (t : Fin cfg0.N) (o : Nat) (inb : ∀ a, (![0, o] : Fin 2 → Nat) a + S512x128.size a ≤ S512x512.size a) :
    FVec Ideal S512x128 .f32 :=
  View.ld (X0_3 (F := Ideal) m c t) (Rect.unit (s := S512x512) ![0, o] S512x128.size inb)

theorem sliceJ_apply (c : Dev nD) (t : Fin cfg0.N) (o : Nat) (inb) (r : Fin 512) (k : Fin 128) (h : o + 128 ≤ 512) :
    sliceJ m c t o inb (ix2 r k) = proj m c (ix2 (rowOf t r) ⟨6656 + (o + k.val), by omega⟩) := by
  refine (View.ld_unit_apply_of _ _ _ _ _ (ix2 r ⟨o + k.val, by omega⟩) ?_).trans (readJ m c t r ⟨o + k.val, by omega⟩)
  intro a
  match a with
  | ⟨0, _⟩ => exact (Nat.zero_add _).symm
  | ⟨1, _⟩ => rfl

/-- The lower 64 lanes of the pair, the rest zero. -/
abbrev low (c : Dev nD) (t : Fin cfg0.N) (x : FVec Ideal S512x128 .f32) : FVec Ideal S512x128 .bf16 :=
  k0_pay38 (k0_pay8 (iblk m c 8 t)) (k0_pay9 (iblk m c 9 t)) (k0_pay10 (iblk m c 10 t)) k0_pay31 x

/-- The upper 64 lanes of the pair, rotated down, the rest zero. -/
abbrev high (c : Dev nD) (t : Fin cfg0.N) (x : FVec Ideal S512x128 .f32) : FVec Ideal S512x128 .bf16 :=
  k0_pay39 (k0_pay8 (iblk m c 8 t)) (k0_pay9 (iblk m c 9 t)) (k0_pay10 (iblk m c 10 t)) k0_pay31 x

theorem low_apply (c : Dev nD) (t : Fin cfg0.N) (x : FVec Ideal S512x128 .f32) (r : Fin 512) (l : Fin 128) :
    low m c t x (ix2 r l) = if l.val < 64 then pair m c t x (ix2 r l) else 0 := by
  pointwise [k0_pay38, k0_pay31]
  exact mask l _

theorem high_apply (c : Dev nD) (t : Fin cfg0.N) (x : FVec Ideal S512x128 .f32) (r : Fin 512) (l : Fin 128) :
    high m c t x (ix2 r l) = if l.val < 64 then pair m c t x (ix2 r ⟨(l.val + 128 - 64) % 128, by omega⟩) else 0 := by
  pointwise [k0_pay39, k0_pay31]
  exact mask l _

/-- Head `2 p + s` of the index queries, at a lane of half `s` of pair `p`. -/
theorem half (c : Dev nD) (t : Fin cfg0.N) (p : Fin 4) (s : Fin 2) (inb) (r : Fin 512) (q : Fin 1024) (l : Fin 64)
    (h : q.val = (2 * p.val + s.val) * 128 + l.val) :
    pair m c t (sliceJ m c t (p.val * 128) inb) (ix2 r ⟨64 * s.val + l.val, by omega⟩)
      = refJ (proj m c) (posi m c) (ix2 (rowOf t r) q) := by
  rw [refJ_apply, dif_pos (by omega), pair_turned]
  simp only [sliceJ_apply m c t _ inb _ _ (by omega : p.val * 128 + 128 ≤ 512)]
  have e1 : (⟨q.val % 128, by omega⟩ : Fin 64) = l := Fin.ext (by simp only []; omega)
  have e2 : ∀ k : Fin 64, (⟨6656 + (q.val / 128 * 64 + k.val), by omega⟩ : Fin 7296) = ⟨6656 + (p.val * 128 + (64 * s.val + k.val)), by omega⟩ :=
    fun k => Fin.ext (by simp only []; omega)
  simp only [e1, e2]
  rfl

/-- The lanes past a head are zero. -/
theorem past (c : Dev nD) (r : Fin 17408) (q : Fin 1024) (h : ¬ q.val % 128 < 64) :
    refJ (proj m c) (posi m c) (ix2 r q) = 0 := by
  rw [refJ_apply, dif_neg h]

theorem pieceLow (c : Dev nD) (t : Fin cfg0.N) (p : Fin 4) (inb) (r : Fin 512) (q : Fin 1024) (x : S512x128.Idx)
    (h0 : r.val = (x 0).val) (h1 : q.val = 2 * p.val * 128 + (x 1).val) :
    low m c t (sliceJ m c t (p.val * 128) inb) x = refJ (proj m c) (posi m c) (ix2 (rowOf t r) q) := by
  idx_vars x
  obtain rfl : r = x0 := Fin.ext h0
  have hq : q.val = 2 * p.val * 128 + x1.val := h1
  have hx : x1.val < 128 := x1.isLt
  refine (low_apply m c t _ r x1).trans ?_
  by_cases h : x1.val < 64
  · rw [if_pos h]
    refine Eq.trans (congrArg (fun k => pair m c t (sliceJ m c t (p.val * 128) inb) (ix2 r k)) (Fin.ext ?_))
      (half m c t p 0 inb r q ⟨x1.val, h⟩ ?_)
    · simp
    · simp only [Fin.val_zero]; omega
  · rw [if_neg h, past m c _ q (by omega)]

theorem pieceHigh (c : Dev nD) (t : Fin cfg0.N) (p : Fin 4) (inb) (r : Fin 512) (q : Fin 1024) (x : S512x128.Idx)
    (h0 : r.val = (x 0).val) (h1 : q.val = (2 * p.val + 1) * 128 + (x 1).val) :
    high m c t (sliceJ m c t (p.val * 128) inb) x = refJ (proj m c) (posi m c) (ix2 (rowOf t r) q) := by
  idx_vars x
  obtain rfl : r = x0 := Fin.ext h0
  have hq : q.val = (2 * p.val + 1) * 128 + x1.val := h1
  have hx : x1.val < 128 := x1.isLt
  refine (high_apply m c t _ r x1).trans ?_
  by_cases h : x1.val < 64
  · rw [if_pos h]
    refine Eq.trans (congrArg (fun k => pair m c t (sliceJ m c t (p.val * 128) inb) (ix2 r k)) (Fin.ext ?_))
      (half m c t p 1 inb r q ⟨x1.val, h⟩ ?_)
    · simp only [Fin.val_one]; omega
    · simp only [Fin.val_one]; omega
  · rw [if_neg h, past m c _ q (by omega)]

theorem final19 (c : Dev nD) : (dats m 0 c).arrAt 19 cfg0.N = refJ (proj m c) (posi m c) := by
  refine (dats m 0 c).arrAt_eq_of_covers 19 _ (by decide +kernel) fun t _ y => ?_
  idx_vars y
  refine Eq.trans ?_ (congrArg (refJ (proj m c) (posi m c)) (place19 t y0 y1).symm)
  blk_simp
  rw [after0_19]
  unfold outsAt0
  frame_out
  canon_tiles x h
  · exact pieceHigh m c t 3 _ y0 y1 x h0 h1
  · exact pieceLow m c t 3 _ y0 y1 x h0 h1
  · exact pieceHigh m c t 2 _ y0 y1 x h0 h1
  · exact pieceLow m c t 2 _ y0 y1 x h0 h1
  · exact pieceHigh m c t 1 _ y0 y1 x h0 h1
  · exact pieceLow m c t 1 _ y0 y1 x h0 h1
  · exact pieceHigh m c t 0 _ y0 y1 x h0 h1
  · exact pieceLow m c t 0 _ y0 y1 x h0 (h1.trans (Nat.zero_add _).symm)

end Cert.QkPostIdeal.Final
-- ==== Proof.QkPostClaim.lean ====
/-
  The claims about the head preparation, from its value and from the runs.
-/
module

public import proofs.«01_k».proof.Defs
public import proofs.«01_k».proof.Proof.Gen.QkPost
public import proofs.«01_k».proof.Proof.QkPostFrame
public import proofs.«01_k».proof.Proof.QkPostValue

@[expose] public section

set_option maxRecDepth 16384
set_option maxHeartbeats 4000000

open Idealize.ShloMosaic Idealize.ShloMosaic.TcCoe Idealize.SL.Sem

namespace Cert.QkPostIdeal.Final

open Cert.QkPostIdeal Cert.QkPostIdeal.Gen

theorem kernel_ends : Cert.quiescent_QkPost (hQkPost := Cert.QkPost.Gen.facts) := fun m ρ _ => Cert.QkPost.Own.frame m ρ

theorem ideal_ends : Cert.quiescent_QkPostIdeal (hQkPostIdeal := Cert.QkPostIdeal.Gen.facts) := fun m ρ _ => Cert.QkPostIdeal.Own.frame m ρ

theorem reference_ends : Cert.quiescent_QkPostRefIdeal (hQkPostRefIdeal := Cert.QkPostRefIdeal.Gen.facts) := fun m ρ _ =>
  (θ_run _ _ _).mono (fun r h => ⟨fun c => (h c).2.2.2.2.2.2.2.2.2, sem_eq_zero_of_no_sems (by decide) r.2⟩)
    (Cert.QkPostRefIdeal.Value.run (F := Ideal) m ρ)

theorem same_value :
    Cert.algebraic_QkPostIdeal_QkPostRefIdeal (hQkPostIdeal := Cert.QkPostIdeal.Gen.facts) (hQkPostRefIdeal := Cert.QkPostRefIdeal.Gen.facts) := by
  intro m ρ m' ρ' _ hag
  refine ⟨fun c => (Own.dats m 0 c).arrAt 14 cfg0.N, fun c => (Own.dats m 0 c).arrAt 15 cfg0.N, fun c => (Own.dats m 0 c).arrAt 16 cfg0.N,
    fun c => (Own.dats m 0 c).arrAt 17 cfg0.N, fun c => (Own.dats m 0 c).arrAt 18 cfg0.N, fun c => (Own.dats m 0 c).arrAt 19 cfg0.N,
    fun c => (Own.dats m 0 c).arrAt 20 cfg0.N, fun c => (Own.dats m 0 c).arrAt 21 cfg0.N, fun c => (Own.dats m 0 c).arrAt 22 cfg0.N,
    Cert.QkPostIdeal.Own.run_blocks m ρ, ?_⟩
  refine (θ_run _ _ _).mono (fun _ hr c => ?_) (Cert.QkPostRefIdeal.Final.run m' ρ')
  obtain ⟨e0, e1, e2, e3, e4⟩ := hag c
  obtain ⟨r0, r1, r2, r3, r4, r5, r6, r7, r8, kept⟩ := hr c
  refine ⟨r0.trans ?_, r1.trans ?_, r2.trans ?_, r3.trans ?_, r4.trans ?_, r5.trans ?_, r6.trans ?_, r7.trans ?_, r8.trans ?_, kept⟩
  · rw [e0, e1, e2]; exact (final14 m c).symm
  · rw [e0, e1, e3]; exact (final15 m c).symm
  · rw [e0, e1, e3]; exact (final16 m c).symm
  · rw [e0]; exact (final17 m c).symm
  · rw [e0]; exact (final18 m c).symm
  · rw [e0, e1]; exact (final19 m c).symm
  · rw [e0, e1, e4]; exact (final20 m c).symm
  · rw [e0, e1, e4]; exact (final21 m c).symm
  · rw [e0]; exact (final22 m c).symm

end Cert.QkPostIdeal.Final
-- ==== Proof.MergeValue.lean ====
/-
  The value of the gated merge: every block the kernel writes back is the reference's block, element by element.
-/
module

public import proofs.«01_k».proof.Proof.Gen.MergeIdeal.Value
public import proofs.«01_k».proof.Proof.Gen.MergeRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.MergeIdeal.Final

open Cert.MergeIdeal Cert.MergeIdeal.Gen

variable (m : (ℓ : Loc nD τ sig) → Buf (Elt Ideal) ℓ) (ρ : Dev nD → PrngReg)

/-- One over one plus the exponential of the negated argument, as the reference writes its sigmoid. -/
abbrev sigmoid (x : FVec Ideal Cert.MergeRefIdeal.S17408x2048 .f32) : FVec Ideal Cert.MergeRefIdeal.S17408x2048 .f32 :=
  Host.divf (broadcastInDim Cert.MergeRefIdeal.S17408x2048 ![] Cert.MergeRefIdeal.Gen.bcast_S_S17408x2048 (constant Cert.MergeRefIdeal.S_ .f32 0x3F800000#32))
    (addf (broadcastInDim Cert.MergeRefIdeal.S17408x2048 ![] Cert.MergeRefIdeal.Gen.bcast_S_S17408x2048 (constant Cert.MergeRefIdeal.S_ .f32 0x3F800000#32))
      (Host.exp (Host.negf x)))

/-- A product of the reference: rows of 1024 entries with a 1024 by 2048 matrix. -/
abbrev prod (x : FVec Ideal Cert.MergeRefIdeal.S17408x1024 .bf16) (w : FVec Ideal Cert.MergeRefIdeal.S1024x2048 .f32) :
    FVec Ideal Cert.MergeRefIdeal.S17408x2048 .f32 :=
  Host.dotGeneral Cert.MergeRefIdeal.dot_S17408x1024_S1024x2048_S17408x2048_1_0_0_1_n_n none (extf .f32 x Cert.MergeRefIdeal.Gen.bitsLt_bf16_f32) w

/-- The reference's result as a function of its six arguments. -/
abbrev REF (g a : FVec Ideal Cert.MergeRefIdeal.S17408x1024 .bf16) (p : FVec Ideal Cert.MergeRefIdeal.S17408x7296 .f32)
    (wv wg wb : FVec Ideal Cert.MergeRefIdeal.S1024x2048 .f32) : FVec Ideal Cert.MergeRefIdeal.S17408x2048 .bf16 :=
  truncf .bf16
    (addf
      (mulf (sigmoid (extractStridedSlice Cert.MergeRefIdeal.S17408x2048 ![0, 2048] p Cert.MergeRefIdeal.Gen.slices_S17408x7296_S17408x2048_0_2048))
        (mulf (prod g wv) (sigmoid (prod g wg))))
      (mulf (sigmoid (extractStridedSlice Cert.MergeRefIdeal.S17408x2048 ![0, 4096] p Cert.MergeRefIdeal.Gen.slices_S17408x7296_S17408x2048_0_4096))
        (prod a wb)))
    Cert.MergeRefIdeal.Gen.bitsLt_bf16_f32

/-- The blocks each window visits, at every grid point. -/
theorem idx : ∀ t : Fin cfg0.N, win0_0.index t = ![t.val / 4, 0] ∧ win0_1.index t = ![t.val / 4, 0]
    ∧ win0_2.index t = ![t.val / 4, 4 + t.val % 4] ∧ win0_3.index t = ![t.val / 4, 8 + t.val % 4]
    ∧ win0_4.index t = ![0, t.val % 4] ∧ win0_5.index t = ![0, t.val % 4] ∧ win0_6.index t = ![0, t.val % 4]
    ∧ win0_7.index t = ![t.val / 4, t.val % 4] :=
  (by decide +kernel : ∀ t : Fin grid0.N, _)

/-- A weight array at the kernel's narrower format. -/
abbrev narrow (w : FVec Ideal S1024x2048 .f32) : FVec Ideal S1024x2048 .bf16 := truncf .bf16 w bitsLt_bf16_f32

/-- The row of the arrays where row `r` of point `t`'s block sits. -/
def rowOf (t : Fin cfg0.N) (r : Fin 1024) : Fin 17408 :=
  ⟨t.val / 4 * 1024 + r.val, by have := lt_of_lt_of_eq t.isLt N_0; omega⟩

/-- The column of the arrays where column `q` of point `t`'s block sits. -/
def colOf (t : Fin cfg0.N) (q : Fin 512) : Fin 2048 := ⟨t.val % 4 * 512 + q.val, by omega⟩

/-- The first gate's block, read at an index: columns from 2048 on of the projection. -/
theorem gateA (c : Dev nD) (t : Fin cfg0.N) (y0 : Fin 1024) (y1 : Fin 512) :
    X0_2 (F := Ideal) m c t (ix2 y0 y1)
      = (m ((c : Thread nD τ).loc main_arg2) : FVec Ideal S17408x7296 .f32)
          (ix2 (rowOf t y0) ⟨2048 + (colOf t y1).val, by omega⟩) := by
  unfold X0_2 Pipeline.Window.fill
  rw [dif_pos (moved0_2 t _)]
  blk_ext [iblk, V, idx t, rowOf, colOf]

/-- The second gate's block, read at an index: columns from 4096 on of the projection. -/
theorem gateB (c : Dev nD) (t : Fin cfg0.N) (y0 : Fin 1024) (y1 : Fin 512) :
    X0_3 (F := Ideal) m c t (ix2 y0 y1)
      = (m ((c : Thread nD τ).loc main_arg2) : FVec Ideal S17408x7296 .f32)
          (ix2 (rowOf t y0) ⟨4096 + (colOf t y1).val, by omega⟩) := by
  unfold X0_3 Pipeline.Window.fill
  rw [dif_pos (moved0_3 t _)]
  blk_ext [iblk, V, idx t, rowOf, colOf]

theorem read0 (c : Dev nD) (t : Fin cfg0.N) (r k : Fin 1024) :
    iblk (F := Ideal) m c 0 t (ix2 r k)
      = (m ((c : Thread nD τ).loc main_arg0) : FVec Ideal S17408x1024 .bf16) (ix2 (rowOf t r) k) := by
  blk_ext [iblk, V, idx t, rowOf]

theorem read1 (c : Dev nD) (t : Fin cfg0.N) (r k : Fin 1024) :
    iblk (F := Ideal) m c 1 t (ix2 r k)
      = (m ((c : Thread nD τ).loc main_arg1) : FVec Ideal S17408x1024 .bf16) (ix2 (rowOf t r) k) := by
  blk_ext [iblk, V, idx t, rowOf]

theorem read4 (c : Dev nD) (t : Fin cfg0.N) (k : Fin 1024) (q : Fin 512) :
    iblk (F := Ideal) m c 4 t (ix2 k q)
      = (m ((c : Thread nD τ).loc main_arg3) : FVec Ideal S1024x2048 .f32) (ix2 k (colOf t q)) := by
  have e : V m c main_v0 = narrow (m ((c : Thread nD τ).loc main_arg3)) := by
    entry_read
    rfl
  refine Eq.trans ?_ (congrFun e _)
  blk_ext [iblk, idx t, colOf]

theorem read5 (c : Dev nD) (t : Fin cfg0.N) (k : Fin 1024) (q : Fin 512) :
    iblk (F := Ideal) m c 5 t (ix2 k q)
      = (m ((c : Thread nD τ).loc main_arg4) : FVec Ideal S1024x2048 .f32) (ix2 k (colOf t q)) := by
  have e : V m c main_v1 = narrow (m ((c : Thread nD τ).loc main_arg4)) := by
    entry_read
    rfl
  refine Eq.trans ?_ (congrFun e _)
  blk_ext [iblk, idx t, colOf]

theorem read6 (c : Dev nD) (t : Fin cfg0.N) (k : Fin 1024) (q : Fin 512) :
    iblk (F := Ideal) m c 6 t (ix2 k q)
      = (m ((c : Thread nD τ).loc main_arg5) : FVec Ideal S1024x2048 .f32) (ix2 k (colOf t q)) := by
  have e : V m c main_v2 = narrow (m ((c : Thread nD τ).loc main_arg5)) := by
    entry_read
    rfl
  refine Eq.trans ?_ (congrFun e _)
  blk_ext [iblk, idx t, colOf]

/-- Where a block's index sits in the result. -/
theorem place (t : Fin cfg0.N) (r : Fin 1024) (q : Fin 512) :
    ((cfg0.win 7).blk t).view.emb (ix2 r q) = ix2 (rowOf t r) (colOf t q) := by
  blk_ext [idx t, rowOf, colOf]

/-- What the body stores at a block index is the reference's result at the array index where it sits. -/
theorem point (c : Dev nD) (t : Fin cfg0.N) (y : S1024x512.Idx) :
    k0_pay1 (iblk m c 0 t) (iblk m c 4 t) (iblk m c 5 t) (iblk m c 1 t) (iblk m c 6 t) (X0_2 m c t) (X0_3 m c t) y
      = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (((cfg0.win 7).blk t).view.emb y) := by
  idx_vars y
  rw [place]
  pointwise [k0_pay1, REF, sigmoid, prod]
  simp only [gateA, gateB, read0, read1, read4, read5, read6]
  rfl

/-- The result array after the run. -/
theorem final (c : Dev nD) : (dats m 0 c).arrAt 7 cfg0.N
    = REF (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) := by
  refine (dats m 0 c).arrAt_eq_of_covers 7 _ (by decide +kernel) fun t _ y => ?_
  blk_simp
  rw [after0_7]
  unfold outsAt0
  frame_out
  exact point m c t y

end Cert.MergeIdeal.Final

end
-- ==== Proof.MergeClaim.lean ====
/-
  The claims about the gated merge, from its value and from the runs.
-/
module

public import proofs.«01_k».proof.Defs
public import proofs.«01_k».proof.Proof.Gen.Merge
public import proofs.«01_k».proof.Proof.Gen.Merge.Frame
public import proofs.«01_k».proof.Proof.MergeValue

@[expose] public section

set_option maxRecDepth 16384

open Idealize.ShloMosaic Idealize.ShloMosaic.TcCoe Idealize.SL.Sem

namespace Cert.MergeIdeal.Final

theorem kernel_ends : Cert.quiescent_Merge (hMerge := Cert.Merge.Gen.facts) := fun m ρ _ => Cert.Merge.Gen.frame m ρ

theorem ideal_ends : Cert.quiescent_MergeIdeal (hMergeIdeal := Cert.MergeIdeal.Gen.facts) := fun m ρ _ => Cert.MergeIdeal.Gen.frame m ρ

theorem reference_ends : Cert.quiescent_MergeRefIdeal (hMergeRefIdeal := Cert.MergeRefIdeal.Gen.facts) := fun m ρ _ =>
  (θ_run _ _ _).mono (fun r h => ⟨fun c => (h c).2, sem_eq_zero_of_no_sems (by decide) r.2⟩) (Cert.MergeRefIdeal.Value.run (F := Ideal) m ρ)

theorem same_value :
    Cert.algebraic_MergeIdeal_MergeRefIdeal (hMergeIdeal := Cert.MergeIdeal.Gen.facts) (hMergeRefIdeal := Cert.MergeRefIdeal.Gen.facts) := by
  intro m ρ m' ρ' _ hag
  refine ⟨_, (θ_run _ _ _).mono (fun _ hr c => ⟨((hr c).1).trans (final m c), (hr c).2⟩) (Cert.MergeIdeal.Value.run_blocks m ρ), ?_⟩
  refine (θ_run _ _ _).mono (fun _ hr c => ?_) (Cert.MergeRefIdeal.Value.run (F := Ideal) m' ρ')
  obtain ⟨e0, e1, e2, e3, e4, e5⟩ := hag c
  refine ⟨((hr c).1).trans ?_, (hr c).2⟩
  rw [e0, e1, e2, e3, e4, e5]

end Cert.MergeIdeal.Final
-- ==== Proof.OutProjValue.lean ====
/-
  The value of the output projection: the residual sum and its normalized rows, block by block.
-/
module

public import proofs.«01_k».proof.Proof.Gen.OutProjIdeal.Value
public import proofs.«01_k».proof.Proof.Gen.OutProjRefIdeal.Run
public import Idealize.ShloMosaic.Lib.Pipeline.ValueKit
public import Idealize.ShloMosaic.Lib.Pointwise

@[expose] public section

set_option maxRecDepth 16384

noncomputable section

open Idealize.ShloMosaic Idealize.ShloMosaic.TcCoe Idealize.SL.Sem
open Idealize.ShloMosaic.Pipeline (Dat)

namespace Cert.OutProjIdeal.Final

open Cert.OutProjIdeal Cert.OutProjIdeal.Gen

variable (m : (ℓ : Loc nD τ sig) → Buf (Elt Ideal) ℓ) (ρ : Dev nD → PrngReg)

/-- The reference's residual sum. -/
def SUM (x : FVec Ideal Cert.OutProjRefIdeal.S17408x2048 .f32) (a : FVec Ideal Cert.OutProjRefIdeal.S17408x2048 .bf16)
    (w : FVec Ideal Cert.OutProjRefIdeal.S2048x2048 .f32) : FVec Ideal Cert.OutProjRefIdeal.S17408x2048 .f32 :=
  addf x (Host.dotGeneral Cert.OutProjRefIdeal.dot_S17408x2048_S2048x2048_S17408x2048_1_0_0_1_n_n none
    (extf .f32 a Cert.OutProjRefIdeal.Gen.bitsLt_bf16_f32) w)

/-- The reference's normalization of rows, times the gain. -/
def NORM (x : FVec Ideal Cert.OutProjRefIdeal.S17408x2048 .f32) (g : FVec Ideal Cert.OutProjRefIdeal.S2048 .f32) :
    FVec Ideal Cert.OutProjRefIdeal.S17408x2048 .f32 :=
  mulf
    (mulf x (broadcastInDim Cert.OutProjRefIdeal.S17408x2048 ![0, 1] Cert.OutProjRefIdeal.Gen.bcast_S17408x1_S17408x2048_0_1
      (Host.rsqrt (addf
        (Host.divf
          (broadcastInDim Cert.OutProjRefIdeal.S17408x1 ![0] Cert.OutProjRefIdeal.Gen.bcast_S17408_S17408x1_0
            (Host.reduceAdd (mulf x x) (constant Cert.OutProjRefIdeal.S_ .f32 0x00000000#32)
              Cert.OutProjRefIdeal.Gen.reducesTo_S17408x2048_S17408_d1 Cert.OutProjRefIdeal.Gen.h_S_))
          (broadcastInDim Cert.OutProjRefIdeal.S17408x1 ![] Cert.OutProjRefIdeal.Gen.bcast_S_S17408x1 (constant Cert.OutProjRefIdeal.S_ .f32 0x45000000#32)))
        (broadcastInDim Cert.OutProjRefIdeal.S17408x1 ![] Cert.OutProjRefIdeal.Gen.bcast_S_S17408x1 (constant Cert.OutProjRefIdeal.S_ .f32 0x358637BD#32))))))
    (broadcastInDim Cert.OutProjRefIdeal.S17408x2048 ![0, 1] Cert.OutProjRefIdeal.Gen.bcast_S1x2048_S17408x2048_0_1
      (broadcastInDim Cert.OutProjRefIdeal.S1x2048 ![1] Cert.OutProjRefIdeal.Gen.bcast_S2048_S1x2048_1 g))

/-- The blocks each window visits, at every grid point. -/
theorem idx : ∀ t : Fin cfg0.N, win0_0.index t = ![t.val, 0] ∧ win0_1.index t = ![t.val, 0]
    ∧ win0_2.index t = ![0, 0] ∧ win0_3.index t = ![0, 0]
    ∧ win0_7.index t = ![t.val, 0] ∧ win0_8.index t = ![t.val, 0] :=
  (by decide +kernel : ∀ t : Fin grid0.N, _)

/-- The row of the arrays where row `r` of point `t`'s block sits. -/
def rowOf (t : Fin cfg0.N) (r : Fin 256) : Fin 17408 :=
  ⟨t.val * 256 + r.val, by have := lt_of_lt_of_eq t.isLt N_0; omega⟩

theorem read0 (c : Dev nD) (t : Fin cfg0.N) (r : Fin 256) (k : Fin 2048) :
    iblk (F := Ideal) m c 0 t (ix2 r k)
      = (m ((c : Thread nD τ).loc main_arg0) : FVec Ideal S17408x2048 .f32) (ix2 (rowOf t r) k) := by
  blk_ext [iblk, V, idx t, rowOf]

theorem read1 (c : Dev nD) (t : Fin cfg0.N) (r : Fin 256) (k : Fin 2048) :
    iblk (F := Ideal) m c 1 t (ix2 r k)
      = (m ((c : Thread nD τ).loc main_arg1) : FVec Ideal S17408x2048 .bf16) (ix2 (rowOf t r) k) := by
  blk_ext [iblk, V, idx t, rowOf]

/-- The weights at the kernel's narrower format. -/
def narrow (w : FVec Ideal S2048x2048 .f32) : FVec Ideal S2048x2048 .bf16 := truncf .bf16 w bitsLt_bf16_f32

theorem read2 (c : Dev nD) (t : Fin cfg0.N) (k q : Fin 2048) :
    iblk (F := Ideal) m c 2 t (ix2 k q)
      = (m ((c : Thread nD τ).loc main_arg2) : FVec Ideal S2048x2048 .f32) (ix2 k q) := by
  have e : V m c main_v0 = narrow (m ((c : Thread nD τ).loc main_arg2)) := by
    entry_read
    rfl
  refine Eq.trans ?_ (congrFun e _)
  blk_ext [iblk, idx t]

/-- The gain as one row, as the kernel's host part hands it over. -/
def gainRow (g : FVec Ideal S2048 .f32) : FVec Ideal S1x2048 .f32 := broadcastInDim S1x2048 ![1] bcast_S2048_S1x2048_1 g

theorem read3 (c : Dev nD) (t : Fin cfg0.N) (k : Fin 2048) :
    iblk (F := Ideal) m c 3 t (ix2 0 k)
      = (m ((c : Thread nD τ).loc main_arg3) : FVec Ideal S2048 .f32) (ix1 k) := by
  have e : V m c main_v10 = gainRow (m ((c : Thread nD τ).loc main_arg3)) := by
    entry_read
    rfl
  refine Eq.trans ?_ ((congrFun e (ix2 0 k)).trans ?_)
  · blk_ext [iblk, idx t]
  · pointwise [gainRow]

/-- Where a block's index sits in each of the two results. -/
theorem place7 (t : Fin cfg0.N) (r : Fin 256) (q : Fin 2048) :
    ((cfg0.win 7).blk t).view.emb (ix2 r q) = ix2 (rowOf t r) q := by
  blk_ext [idx t, rowOf]

theorem place8 (t : Fin cfg0.N) (r : Fin 256) (q : Fin 2048) :
    ((cfg0.win 8).blk t).view.emb (ix2 r q) = ix2 (rowOf t r) q := by
  blk_ext [idx t, rowOf]

/-- The block of the residual sum. -/
theorem sum_point (c : Dev nD) (t : Fin cfg0.N) (r : Fin 256) (q : Fin 2048) :
    k0_pay4 (iblk m c 0 t) (iblk m c 1 t) (iblk m c 2 t) (ix2 r q)
      = SUM (m ((c : Thread nD τ).loc main_arg0)) (m ((c : Thread nD τ).loc main_arg1)) (m ((c : Thread nD τ).loc main_arg2))
          (ix2 (rowOf t r) q) := by
  pointwise [k0_pay4, SUM]
  simp only [read0, read1, read2]

/-- The normalization of a block whose rows are rows of an array is the block of the array's normalization. -/
theorem norm_point (c : Dev nD) (t : Fin cfg0.N) (x : FVec Ideal Cert.OutProjRefIdeal.S17408x2048 .f32)
    (hx : ∀ (r : Fin 256) (q : Fin 2048), k0_pay4 (iblk m c 0 t) (iblk m c 1 t) (iblk m c 2 t) (ix2 r q) = x (ix2 (rowOf t r) q))
    (r : Fin 256) (q : Fin 2048) :
    k0_pay5 (iblk m c 0 t) (iblk m c 1 t) (iblk m c 2 t) (iblk m c 3 t) (ix2 r q)
      = NORM x (m ((c : Thread nD τ).loc main_arg3)) (ix2 (rowOf t r) q) := by
  pointwise [k0_pay5, NORM]
  simp only [hx, read3]

/-- The residual sum after the run. -/
theorem final7 (c : Dev nD) : (dats m 0 c).arrAt 7 cfg0.N
    = SUM (m ((c : Thread nD τ).loc main_arg0)) (m ((c : Thread nD τ).loc main_arg1)) (m ((c : Thread nD τ).loc main_arg2)) := by
  refine (dats m 0 c).arrAt_eq_of_covers 7 _ (by decide +kernel) fun t _ y => ?_
  have key : ∀ y : S256x2048.Idx, k0_pay4 (iblk m c 0 t) (iblk m c 1 t) (iblk m c 2 t) y = SUM (m ((c : Thread nD τ).loc main_arg0))
      (m ((c : Thread nD τ).loc main_arg1)) (m ((c : Thread nD τ).loc main_arg2)) (((cfg0.win 7).blk t).view.emb y) := by
    intro y
    idx_vars y
    rw [place7]
    exact sum_point m c t _ _
  blk_simp
  rw [after0_7]
  by_cases h0 : t.val % 68 = 0
  · rw [outsAt0_A m c t h0]
    frame_out
    exact key y
  · rw [outsAt0_B m c t h0]
    frame_out
    exact key y

/-- The normalized rows after the run. -/
theorem final8 (c : Dev nD) : (dats m 0 c).arrAt 8 cfg0.N
    = NORM (SUM (m ((c : Thread nD τ).loc main_arg0)) (m ((c : Thread nD τ).loc main_arg1)) (m ((c : Thread nD τ).loc main_arg2)))
        (m ((c : Thread nD τ).loc main_arg3)) := by
  refine (dats m 0 c).arrAt_eq_of_covers 8 _ (by decide +kernel) fun t _ y => ?_
  have key : ∀ y : S256x2048.Idx, k0_pay5 (iblk m c 0 t) (iblk m c 1 t) (iblk m c 2 t) (iblk m c 3 t) y
      = NORM (SUM (m ((c : Thread nD τ).loc main_arg0)) (m ((c : Thread nD τ).loc main_arg1)) (m ((c : Thread nD τ).loc main_arg2)))
        (m ((c : Thread nD τ).loc main_arg3)) (((cfg0.win 8).blk t).view.emb y) := by
    intro y
    idx_vars y
    rw [place8]
    exact norm_point m c t _ (sum_point m c t) _ _
  blk_simp
  rw [after0_8]
  by_cases h0 : t.val % 68 = 0
  · rw [outsAt0_A m c t h0]
    frame_out
    exact key y
  · rw [outsAt0_B m c t h0]
    frame_out
    exact key y

end Cert.OutProjIdeal.Final

end
-- ==== Proof.OutProjClaim.lean ====
/-
  The claims about the output projection, from its value and from the runs.
-/
module

public import proofs.«01_k».proof.Defs
public import proofs.«01_k».proof.Proof.Gen.OutProj
public import proofs.«01_k».proof.Proof.Gen.OutProj.Frame
public import proofs.«01_k».proof.Proof.OutProjValue

@[expose] public section

set_option maxRecDepth 16384

open Idealize.ShloMosaic Idealize.ShloMosaic.TcCoe Idealize.SL.Sem

namespace Cert.OutProjIdeal.Final

theorem kernel_ends : Cert.quiescent_OutProj (hOutProj := Cert.OutProj.Gen.facts) := fun m ρ _ => Cert.OutProj.Gen.frame m ρ

theorem ideal_ends : Cert.quiescent_OutProjIdeal (hOutProjIdeal := Cert.OutProjIdeal.Gen.facts) := fun m ρ _ => Cert.OutProjIdeal.Gen.frame m ρ

theorem reference_ends : Cert.quiescent_OutProjRefIdeal (hOutProjRefIdeal := Cert.OutProjRefIdeal.Gen.facts) := fun m ρ _ =>
  (θ_run _ _ _).mono (fun r h => ⟨fun c => (h c).2.2, sem_eq_zero_of_no_sems (by decide) r.2⟩) (Cert.OutProjRefIdeal.Value.run (F := Ideal) m ρ)

theorem same_value :
    Cert.algebraic_OutProjIdeal_OutProjRefIdeal (hOutProjIdeal := Cert.OutProjIdeal.Gen.facts) (hOutProjRefIdeal := Cert.OutProjRefIdeal.Gen.facts) := by
  intro m ρ m' ρ' _ hag
  refine ⟨_, _, (θ_run _ _ _).mono (fun _ hr c => ⟨((hr c).1).trans (final7 m c), ((hr c).2.1).trans (final8 m c), (hr c).2.2.2.2.2⟩)
    (Cert.OutProjIdeal.Value.run_blocks m ρ), ?_⟩
  refine (θ_run _ _ _).mono (fun _ hr c => ?_) (Cert.OutProjRefIdeal.Value.run (F := Ideal) m' ρ')
  obtain ⟨e0, e1, e2, e3, e4, e5⟩ := hag c
  refine ⟨((hr c).1).trans ?_, ((hr c).2.1).trans ?_, (hr c).2.2⟩
  · rw [e0, e1, e2]
    rfl
  · rw [e0, e1, e2, e3]
    rfl

end Cert.OutProjIdeal.Final
-- ==== Proof.lean ====
module

public import proofs.«01_k».proof.Proof.Gen.Dsa1.Frame
public import proofs.«01_k».proof.Proof.Gen.Dsa1.Loops
public import proofs.«01_k».proof.Proof.Gen.Dsa2.Frame
public import proofs.«01_k».proof.Proof.Gen.Dsa2.Loops
public import proofs.«01_k».proof.Proof.Gen.Dsa3.Frame
public import proofs.«01_k».proof.Proof.Gen.Dsa3.Loops
public import proofs.«01_k».proof.Proof.Gen.Dsa4.Frame
public import proofs.«01_k».proof.Proof.Gen.Dsa4.Loops
public import proofs.«01_k».proof.Proof.Gen.DsaStep.Frame
public import proofs.«01_k».proof.Proof.Gen.DsaStep.Loops
public import proofs.«01_k».proof.Proof.Dsa1Frame
public import proofs.«01_k».proof.Proof.Dsa2Frame
public import proofs.«01_k».proof.Proof.Dsa3Frame
public import proofs.«01_k».proof.Proof.Dsa4Frame
public import proofs.«01_k».proof.Proof.DsaStepFrame
public import proofs.«01_k».proof.Defs
public import proofs.«01_k».proof.Proof.MoeClaim
public import proofs.«01_k».proof.Proof.InProjClaim
public import proofs.«01_k».proof.Proof.QkPostClaim
public import proofs.«01_k».proof.Proof.MergeClaim
public import proofs.«01_k».proof.Proof.OutProjClaim
public import proofs.«01_k».proof.Proof.Gen.MoeRefIdeal.Run
public import proofs.«01_k».proof.Proof.Gen.InProjIdeal.Value
public import proofs.«01_k».proof.Proof.Gen.InProjRefIdeal.Run
public import proofs.«01_k».proof.Proof.Gen.QkPostRefIdeal.Run
public import proofs.«01_k».proof.Proof.Gen.MergeIdeal.Value
public import proofs.«01_k».proof.Proof.Gen.MergeRefIdeal.Run
public import proofs.«01_k».proof.Proof.Gen.OutProjIdeal.Value
public import proofs.«01_k».proof.Proof.Gen.OutProjRefIdeal.Run
public import proofs.«01_k».proof.Proof.Gen.Pre_moe_range

@[expose] public section

namespace Cert.Proof

theorem claim : Cert.Claim :=
  ⟨Cert.Moe.Gen.facts, Cert.MoeIdeal.Gen.facts, Cert.MoeRefIdeal.Gen.facts,
    Cert.InProj.Gen.facts, Cert.InProjIdeal.Gen.facts, Cert.InProjRefIdeal.Gen.facts,
    Cert.QkPost.Gen.facts, Cert.QkPostIdeal.Gen.facts, Cert.QkPostRefIdeal.Gen.facts,
    Cert.Merge.Gen.facts, Cert.MergeIdeal.Gen.facts, Cert.MergeRefIdeal.Gen.facts,
    Cert.OutProj.Gen.facts, Cert.OutProjIdeal.Gen.facts, Cert.OutProjRefIdeal.Gen.facts,
    Cert.Dsa1.Gen.facts, Cert.Dsa2.Gen.facts, Cert.Dsa3.Gen.facts, Cert.Dsa4.Gen.facts, Cert.DsaStep.Gen.facts,
    Cert.Pre_moe_range.Gen.facts,
    Cert.MoeIdeal.Final.kernel_ends,
    Cert.MoeIdeal.Final.ideal_ends,
    Cert.MoeIdeal.Final.reference_ends,
    Cert.MoeIdeal.Final.reference_ends_in_range,
    Cert.InProjIdeal.Final.kernel_ends,
    Cert.InProjIdeal.Final.ideal_ends,
    Cert.InProjIdeal.Final.reference_ends,
    Cert.QkPostIdeal.Final.kernel_ends,
    Cert.QkPostIdeal.Final.ideal_ends,
    Cert.QkPostIdeal.Final.reference_ends,
    Cert.MergeIdeal.Final.kernel_ends,
    Cert.MergeIdeal.Final.ideal_ends,
    Cert.MergeIdeal.Final.reference_ends,
    Cert.OutProjIdeal.Final.kernel_ends,
    Cert.OutProjIdeal.Final.ideal_ends,
    Cert.OutProjIdeal.Final.reference_ends,
    fun m g _ => Cert.Dsa1.Whole.ends m g,
    fun m g _ => Cert.Dsa2.Whole.ends m g,
    fun m g _ => Cert.Dsa3.Whole.ends m g,
    fun m g _ => Cert.Dsa4.Whole.ends m g,
    fun m g _ => Cert.DsaStep.Whole.ends m g,
    trivial,
    Cert.MoeIdeal.Final.same_value,
    trivial,
    Cert.InProjIdeal.Final.same_value,
    trivial,
    Cert.QkPostIdeal.Final.same_value,
    trivial,
    Cert.MergeIdeal.Final.same_value,
    trivial,
    Cert.OutProjIdeal.Final.same_value⟩

end Cert.Proof
